-- ==== Defs.lean ====
def Pre_Kernel [hPre_dest_is_placement : Cert.Pre_dest_is_placement.Facts] (m : (ℓ : Loc Cert.Kernel.nD Cert.Kernel.τ Cert.Kernel.sig) → Buf (Elt Bits) ℓ) : Prop :=
  ∀ c : Dev Cert.Kernel.nD,
    (Cert.Pre_dest_is_placement.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_dest_is_placement : Cert.Pre_dest_is_placement.Facts] (m : (ℓ : Loc Cert.KernelIdeal.nD Cert.KernelIdeal.τ Cert.KernelIdeal.sig) → Buf (Elt Ideal) ℓ) : Prop :=
  ∀ c : Dev Cert.KernelIdeal.nD,
    (Cert.Pre_dest_is_placement.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference [hPre_dest_is_placement : Cert.Pre_dest_is_placement.Facts] (m : (ℓ : Loc Cert.Reference.nD Cert.Reference.τ Cert.Reference.sig) → Buf (Elt Bits) ℓ) : Prop :=
  ∀ c : Dev Cert.Reference.nD,
    (Cert.Pre_dest_is_placement.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal [hPre_dest_is_placement : Cert.Pre_dest_is_placement.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_is_placement.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_blocks_have_experts : Cert.Pre_blocks_have_experts.Facts] (m : (ℓ : Loc Cert.Experts.nD Cert.Experts.τ Cert.Experts.sig) → Buf (Elt Bits) ℓ) : Prop :=
  ∀ c : Dev Cert.Experts.nD,
    (Cert.Pre_blocks_have_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_blocks_have_experts : Cert.Pre_blocks_have_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_have_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal [hPre_blocks_have_experts : Cert.Pre_blocks_have_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_have_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_split_rows_are_finite [hPre_split_rows_are_finite : Cert.Pre_split_rows_are_finite.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_split_rows_are_finite.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9)) (m ((c.tc : Thread Cert.OutprojIdeal.nD Cert.OutprojIdeal.τ).loc Cert.OutprojIdeal.main_arg10)) (m ((c.tc : Thread Cert.OutprojIdeal.nD Cert.OutprojIdeal.τ).loc Cert.OutprojIdeal.main_arg11)) (m ((c.tc : Thread Cert.OutprojIdeal.nD Cert.OutprojIdeal.τ).loc Cert.OutprojIdeal.main_arg12)) (m ((c.tc : Thread Cert.OutprojIdeal.nD Cert.OutprojIdeal.τ).loc Cert.OutprojIdeal.main_arg13)) (m ((c.tc : Thread Cert.OutprojIdeal.nD Cert.OutprojIdeal.τ).loc Cert.OutprojIdeal.main_arg14)) (m ((c.tc : Thread Cert.OutprojIdeal.nD Cert.OutprojIdeal.τ).loc Cert.OutprojIdeal.main_arg15)) (m ((c.tc : Thread Cert.OutprojIdeal.nD Cert.OutprojIdeal.τ).loc Cert.OutprojIdeal.main_arg16)) (m ((c.tc : Thread Cert.OutprojIdeal.nD Cert.OutprojIdeal.τ).loc Cert.OutprojIdeal.main_arg17)) (m ((c.tc : Thread Cert.OutprojIdeal.nD Cert.OutprojIdeal.τ).loc Cert.OutprojIdeal.main_arg18)) (m ((c.tc : Thread Cert.OutprojIdeal.nD Cert.OutprojIdeal.τ).loc Cert.OutprojIdeal.main_arg19))) = (fun _ => 1#1)

def Pre_OutprojReferenceIdeal (m : (ℓ : Loc Cert.OutprojReferenceIdeal.nD Cert.OutprojReferenceIdeal.τ Cert.OutprojReferenceIdeal.sig) → Buf (Elt Ideal) ℓ) : Prop :=
  True

def Pre_OutprojReferenceIdeal_split_rows_are_finite [hPre_split_rows_are_finite : Cert.Pre_split_rows_are_finite.Facts] (m : (ℓ : Loc Cert.OutprojReferenceIdeal.nD Cert.OutprojReferenceIdeal.τ Cert.OutprojReferenceIdeal.sig) → Buf (Elt Ideal) ℓ) : Prop :=
  ∀ c : Dev Cert.OutprojReferenceIdeal.nD,
    (Cert.Pre_split_rows_are_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7)) (m ((c.tc : Thread Cert.OutprojReferenceIdeal.nD Cert.OutprojReferenceIdeal.τ).loc Cert.OutprojReferenceIdeal.main_arg8)) (m ((c.tc : Thread Cert.OutprojReferenceIdeal.nD Cert.OutprojReferenceIdeal.τ).loc Cert.OutprojReferenceIdeal.main_arg9)) (m ((c.tc : Thread Cert.OutprojReferenceIdeal.nD Cert.OutprojReferenceIdeal.τ).loc Cert.OutprojReferenceIdeal.main_arg10)) (m ((c.tc : Thread Cert.OutprojReferenceIdeal.nD Cert.OutprojReferenceIdeal.τ).loc Cert.OutprojReferenceIdeal.main_arg11)) (m ((c.tc : Thread Cert.OutprojReferenceIdeal.nD Cert.OutprojReferenceIdeal.τ).loc Cert.OutprojReferenceIdeal.main_arg12)) (m ((c.tc : Thread Cert.OutprojReferenceIdeal.nD Cert.OutprojReferenceIdeal.τ).loc Cert.OutprojReferenceIdeal.main_arg13)) (m ((c.tc : Thread Cert.OutprojReferenceIdeal.nD Cert.OutprojReferenceIdeal.τ).loc Cert.OutprojReferenceIdeal.main_arg14)) (m ((c.tc : Thread Cert.OutprojReferenceIdeal.nD Cert.OutprojReferenceIdeal.τ).loc Cert.OutprojReferenceIdeal.main_arg15)) (m ((c.tc : Thread Cert.OutprojReferenceIdeal.nD Cert.OutprojReferenceIdeal.τ).loc Cert.OutprojReferenceIdeal.main_arg16)) (m ((c.tc : Thread Cert.OutprojReferenceIdeal.nD Cert.OutprojReferenceIdeal.τ).loc Cert.OutprojReferenceIdeal.main_arg17)) (m ((c.tc : Thread Cert.OutprojReferenceIdeal.nD Cert.OutprojReferenceIdeal.τ).loc Cert.OutprojReferenceIdeal.main_arg18)) (m ((c.tc : Thread Cert.OutprojReferenceIdeal.nD Cert.OutprojReferenceIdeal.τ).loc Cert.OutprojReferenceIdeal.main_arg19))) = (fun _ => 1#1)

def quiescent_Kernel [hKernel : Cert.Kernel.Facts] [hPre_dest_is_placement : Cert.Pre_dest_is_placement.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_dest_is_placement : Cert.Pre_dest_is_placement.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] [hPre_dest_is_placement : Cert.Pre_dest_is_placement.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] [hPre_dest_is_placement : Cert.Pre_dest_is_placement.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_blocks_have_experts : Cert.Pre_blocks_have_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_blocks_have_experts : Cert.Pre_blocks_have_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] [hPre_blocks_have_experts : Cert.Pre_blocks_have_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10)
      ∧ r.2.mem ((c.tc : Thread Cert.Outproj.nD Cert.Outproj.τ).loc Cert.Outproj.main_arg11) = m ((c.tc : Thread Cert.Outproj.nD Cert.Outproj.τ).loc Cert.Outproj.main_arg11)
      ∧ r.2.mem ((c.tc : Thread Cert.Outproj.nD Cert.Outproj.τ).loc Cert.Outproj.main_arg12) = m ((c.tc : Thread Cert.Outproj.nD Cert.Outproj.τ).loc Cert.Outproj.main_arg12)
      ∧ r.2.mem ((c.tc : Thread Cert.Outproj.nD Cert.Outproj.τ).loc Cert.Outproj.main_arg13) = m ((c.tc : Thread Cert.Outproj.nD Cert.Outproj.τ).loc Cert.Outproj.main_arg13)
      ∧ r.2.mem ((c.tc : Thread Cert.Outproj.nD Cert.Outproj.τ).loc Cert.Outproj.main_arg14) = m ((c.tc : Thread Cert.Outproj.nD Cert.Outproj.τ).loc Cert.Outproj.main_arg14)
      ∧ r.2.mem ((c.tc : Thread Cert.Outproj.nD Cert.Outproj.τ).loc Cert.Outproj.main_arg15) = m ((c.tc : Thread Cert.Outproj.nD Cert.Outproj.τ).loc Cert.Outproj.main_arg15)
      ∧ r.2.mem ((c.tc : Thread Cert.Outproj.nD Cert.Outproj.τ).loc Cert.Outproj.main_arg16) = m ((c.tc : Thread Cert.Outproj.nD Cert.Outproj.τ).loc Cert.Outproj.main_arg16)
      ∧ r.2.mem ((c.tc : Thread Cert.Outproj.nD Cert.Outproj.τ).loc Cert.Outproj.main_arg17) = m ((c.tc : Thread Cert.Outproj.nD Cert.Outproj.τ).loc Cert.Outproj.main_arg17)
      ∧ r.2.mem ((c.tc : Thread Cert.Outproj.nD Cert.Outproj.τ).loc Cert.Outproj.main_arg18) = m ((c.tc : Thread Cert.Outproj.nD Cert.Outproj.τ).loc Cert.Outproj.main_arg18)
      ∧ r.2.mem ((c.tc : Thread Cert.Outproj.nD Cert.Outproj.τ).loc Cert.Outproj.main_arg19) = m ((c.tc : Thread Cert.Outproj.nD Cert.Outproj.τ).loc Cert.Outproj.main_arg19))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11)
      ∧ r.2.mem ((c.tc : Thread Cert.OutprojIdeal.nD Cert.OutprojIdeal.τ).loc Cert.OutprojIdeal.main_arg12) = m ((c.tc : Thread Cert.OutprojIdeal.nD Cert.OutprojIdeal.τ).loc Cert.OutprojIdeal.main_arg12)
      ∧ r.2.mem ((c.tc : Thread Cert.OutprojIdeal.nD Cert.OutprojIdeal.τ).loc Cert.OutprojIdeal.main_arg13) = m ((c.tc : Thread Cert.OutprojIdeal.nD Cert.OutprojIdeal.τ).loc Cert.OutprojIdeal.main_arg13)
      ∧ r.2.mem ((c.tc : Thread Cert.OutprojIdeal.nD Cert.OutprojIdeal.τ).loc Cert.OutprojIdeal.main_arg14) = m ((c.tc : Thread Cert.OutprojIdeal.nD Cert.OutprojIdeal.τ).loc Cert.OutprojIdeal.main_arg14)
      ∧ r.2.mem ((c.tc : Thread Cert.OutprojIdeal.nD Cert.OutprojIdeal.τ).loc Cert.OutprojIdeal.main_arg15) = m ((c.tc : Thread Cert.OutprojIdeal.nD Cert.OutprojIdeal.τ).loc Cert.OutprojIdeal.main_arg15)
      ∧ r.2.mem ((c.tc : Thread Cert.OutprojIdeal.nD Cert.OutprojIdeal.τ).loc Cert.OutprojIdeal.main_arg16) = m ((c.tc : Thread Cert.OutprojIdeal.nD Cert.OutprojIdeal.τ).loc Cert.OutprojIdeal.main_arg16)
      ∧ r.2.mem ((c.tc : Thread Cert.OutprojIdeal.nD Cert.OutprojIdeal.τ).loc Cert.OutprojIdeal.main_arg17) = m ((c.tc : Thread Cert.OutprojIdeal.nD Cert.OutprojIdeal.τ).loc Cert.OutprojIdeal.main_arg17)
      ∧ r.2.mem ((c.tc : Thread Cert.OutprojIdeal.nD Cert.OutprojIdeal.τ).loc Cert.OutprojIdeal.main_arg18) = m ((c.tc : Thread Cert.OutprojIdeal.nD Cert.OutprojIdeal.τ).loc Cert.OutprojIdeal.main_arg18)
      ∧ r.2.mem ((c.tc : Thread Cert.OutprojIdeal.nD Cert.OutprojIdeal.τ).loc Cert.OutprojIdeal.main_arg19) = m ((c.tc : Thread Cert.OutprojIdeal.nD Cert.OutprojIdeal.τ).loc Cert.OutprojIdeal.main_arg19))
      ∧ r.2.sem = fun _ => 0)

def quiescent_OutprojIdeal_pre_split_rows_are_finite [hOutprojIdeal : Cert.OutprojIdeal.Facts] [hPre_split_rows_are_finite : Cert.Pre_split_rows_are_finite.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_split_rows_are_finite m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11)
      ∧ r.2.mem ((c.tc : Thread Cert.OutprojIdeal.nD Cert.OutprojIdeal.τ).loc Cert.OutprojIdeal.main_arg12) = m ((c.tc : Thread Cert.OutprojIdeal.nD Cert.OutprojIdeal.τ).loc Cert.OutprojIdeal.main_arg12)
      ∧ r.2.mem ((c.tc : Thread Cert.OutprojIdeal.nD Cert.OutprojIdeal.τ).loc Cert.OutprojIdeal.main_arg13) = m ((c.tc : Thread Cert.OutprojIdeal.nD Cert.OutprojIdeal.τ).loc Cert.OutprojIdeal.main_arg13)
      ∧ r.2.mem ((c.tc : Thread Cert.OutprojIdeal.nD Cert.OutprojIdeal.τ).loc Cert.OutprojIdeal.main_arg14) = m ((c.tc : Thread Cert.OutprojIdeal.nD Cert.OutprojIdeal.τ).loc Cert.OutprojIdeal.main_arg14)
      ∧ r.2.mem ((c.tc : Thread Cert.OutprojIdeal.nD Cert.OutprojIdeal.τ).loc Cert.OutprojIdeal.main_arg15) = m ((c.tc : Thread Cert.OutprojIdeal.nD Cert.OutprojIdeal.τ).loc Cert.OutprojIdeal.main_arg15)
      ∧ r.2.mem ((c.tc : Thread Cert.OutprojIdeal.nD Cert.OutprojIdeal.τ).loc Cert.OutprojIdeal.main_arg16) = m ((c.tc : Thread Cert.OutprojIdeal.nD Cert.OutprojIdeal.τ).loc Cert.OutprojIdeal.main_arg16)
      ∧ r.2.mem ((c.tc : Thread Cert.OutprojIdeal.nD Cert.OutprojIdeal.τ).loc Cert.OutprojIdeal.main_arg17) = m ((c.tc : Thread Cert.OutprojIdeal.nD Cert.OutprojIdeal.τ).loc Cert.OutprojIdeal.main_arg17)
      ∧ r.2.mem ((c.tc : Thread Cert.OutprojIdeal.nD Cert.OutprojIdeal.τ).loc Cert.OutprojIdeal.main_arg18) = m ((c.tc : Thread Cert.OutprojIdeal.nD Cert.OutprojIdeal.τ).loc Cert.OutprojIdeal.main_arg18)
      ∧ r.2.mem ((c.tc : Thread Cert.OutprojIdeal.nD Cert.OutprojIdeal.τ).loc Cert.OutprojIdeal.main_arg19) = m ((c.tc : Thread Cert.OutprojIdeal.nD Cert.OutprojIdeal.τ).loc Cert.OutprojIdeal.main_arg19))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9)
      ∧ r.2.mem ((c.tc : Thread Cert.OutprojReferenceIdeal.nD Cert.OutprojReferenceIdeal.τ).loc Cert.OutprojReferenceIdeal.main_arg10) = m ((c.tc : Thread Cert.OutprojReferenceIdeal.nD Cert.OutprojReferenceIdeal.τ).loc Cert.OutprojReferenceIdeal.main_arg10)
      ∧ r.2.mem ((c.tc : Thread Cert.OutprojReferenceIdeal.nD Cert.OutprojReferenceIdeal.τ).loc Cert.OutprojReferenceIdeal.main_arg11) = m ((c.tc : Thread Cert.OutprojReferenceIdeal.nD Cert.OutprojReferenceIdeal.τ).loc Cert.OutprojReferenceIdeal.main_arg11)
      ∧ r.2.mem ((c.tc : Thread Cert.OutprojReferenceIdeal.nD Cert.OutprojReferenceIdeal.τ).loc Cert.OutprojReferenceIdeal.main_arg12) = m ((c.tc : Thread Cert.OutprojReferenceIdeal.nD Cert.OutprojReferenceIdeal.τ).loc Cert.OutprojReferenceIdeal.main_arg12)
      ∧ r.2.mem ((c.tc : Thread Cert.OutprojReferenceIdeal.nD Cert.OutprojReferenceIdeal.τ).loc Cert.OutprojReferenceIdeal.main_arg13) = m ((c.tc : Thread Cert.OutprojReferenceIdeal.nD Cert.OutprojReferenceIdeal.τ).loc Cert.OutprojReferenceIdeal.main_arg13)
      ∧ r.2.mem ((c.tc : Thread Cert.OutprojReferenceIdeal.nD Cert.OutprojReferenceIdeal.τ).loc Cert.OutprojReferenceIdeal.main_arg14) = m ((c.tc : Thread Cert.OutprojReferenceIdeal.nD Cert.OutprojReferenceIdeal.τ).loc Cert.OutprojReferenceIdeal.main_arg14)
      ∧ r.2.mem ((c.tc : Thread Cert.OutprojReferenceIdeal.nD Cert.OutprojReferenceIdeal.τ).loc Cert.OutprojReferenceIdeal.main_arg15) = m ((c.tc : Thread Cert.OutprojReferenceIdeal.nD Cert.OutprojReferenceIdeal.τ).loc Cert.OutprojReferenceIdeal.main_arg15)
      ∧ r.2.mem ((c.tc : Thread Cert.OutprojReferenceIdeal.nD Cert.OutprojReferenceIdeal.τ).loc Cert.OutprojReferenceIdeal.main_arg16) = m ((c.tc : Thread Cert.OutprojReferenceIdeal.nD Cert.OutprojReferenceIdeal.τ).loc Cert.OutprojReferenceIdeal.main_arg16)
      ∧ r.2.mem ((c.tc : Thread Cert.OutprojReferenceIdeal.nD Cert.OutprojReferenceIdeal.τ).loc Cert.OutprojReferenceIdeal.main_arg17) = m ((c.tc : Thread Cert.OutprojReferenceIdeal.nD Cert.OutprojReferenceIdeal.τ).loc Cert.OutprojReferenceIdeal.main_arg17)
      ∧ r.2.mem ((c.tc : Thread Cert.OutprojReferenceIdeal.nD Cert.OutprojReferenceIdeal.τ).loc Cert.OutprojReferenceIdeal.main_arg18) = m ((c.tc : Thread Cert.OutprojReferenceIdeal.nD Cert.OutprojReferenceIdeal.τ).loc Cert.OutprojReferenceIdeal.main_arg18)
      ∧ r.2.mem ((c.tc : Thread Cert.OutprojReferenceIdeal.nD Cert.OutprojReferenceIdeal.τ).loc Cert.OutprojReferenceIdeal.main_arg19) = m ((c.tc : Thread Cert.OutprojReferenceIdeal.nD Cert.OutprojReferenceIdeal.τ).loc Cert.OutprojReferenceIdeal.main_arg19))
      ∧ r.2.sem = fun _ => 0)

def quiescent_OutprojReferenceIdeal_pre_split_rows_are_finite [hOutprojReferenceIdeal : Cert.OutprojReferenceIdeal.Facts] [hPre_split_rows_are_finite : Cert.Pre_split_rows_are_finite.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal_split_rows_are_finite m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9)
      ∧ r.2.mem ((c.tc : Thread Cert.OutprojReferenceIdeal.nD Cert.OutprojReferenceIdeal.τ).loc Cert.OutprojReferenceIdeal.main_arg10) = m ((c.tc : Thread Cert.OutprojReferenceIdeal.nD Cert.OutprojReferenceIdeal.τ).loc Cert.OutprojReferenceIdeal.main_arg10)
      ∧ r.2.mem ((c.tc : Thread Cert.OutprojReferenceIdeal.nD Cert.OutprojReferenceIdeal.τ).loc Cert.OutprojReferenceIdeal.main_arg11) = m ((c.tc : Thread Cert.OutprojReferenceIdeal.nD Cert.OutprojReferenceIdeal.τ).loc Cert.OutprojReferenceIdeal.main_arg11)
      ∧ r.2.mem ((c.tc : Thread Cert.OutprojReferenceIdeal.nD Cert.OutprojReferenceIdeal.τ).loc Cert.OutprojReferenceIdeal.main_arg12) = m ((c.tc : Thread Cert.OutprojReferenceIdeal.nD Cert.OutprojReferenceIdeal.τ).loc Cert.OutprojReferenceIdeal.main_arg12)
      ∧ r.2.mem ((c.tc : Thread Cert.OutprojReferenceIdeal.nD Cert.OutprojReferenceIdeal.τ).loc Cert.OutprojReferenceIdeal.main_arg13) = m ((c.tc : Thread Cert.OutprojReferenceIdeal.nD Cert.OutprojReferenceIdeal.τ).loc Cert.OutprojReferenceIdeal.main_arg13)
      ∧ r.2.mem ((c.tc : Thread Cert.OutprojReferenceIdeal.nD Cert.OutprojReferenceIdeal.τ).loc Cert.OutprojReferenceIdeal.main_arg14) = m ((c.tc : Thread Cert.OutprojReferenceIdeal.nD Cert.OutprojReferenceIdeal.τ).loc Cert.OutprojReferenceIdeal.main_arg14)
      ∧ r.2.mem ((c.tc : Thread Cert.OutprojReferenceIdeal.nD Cert.OutprojReferenceIdeal.τ).loc Cert.OutprojReferenceIdeal.main_arg15) = m ((c.tc : Thread Cert.OutprojReferenceIdeal.nD Cert.OutprojReferenceIdeal.τ).loc Cert.OutprojReferenceIdeal.main_arg15)
      ∧ r.2.mem ((c.tc : Thread Cert.OutprojReferenceIdeal.nD Cert.OutprojReferenceIdeal.τ).loc Cert.OutprojReferenceIdeal.main_arg16) = m ((c.tc : Thread Cert.OutprojReferenceIdeal.nD Cert.OutprojReferenceIdeal.τ).loc Cert.OutprojReferenceIdeal.main_arg16)
      ∧ r.2.mem ((c.tc : Thread Cert.OutprojReferenceIdeal.nD Cert.OutprojReferenceIdeal.τ).loc Cert.OutprojReferenceIdeal.main_arg17) = m ((c.tc : Thread Cert.OutprojReferenceIdeal.nD Cert.OutprojReferenceIdeal.τ).loc Cert.OutprojReferenceIdeal.main_arg17)
      ∧ r.2.mem ((c.tc : Thread Cert.OutprojReferenceIdeal.nD Cert.OutprojReferenceIdeal.τ).loc Cert.OutprojReferenceIdeal.main_arg18) = m ((c.tc : Thread Cert.OutprojReferenceIdeal.nD Cert.OutprojReferenceIdeal.τ).loc Cert.OutprojReferenceIdeal.main_arg18)
      ∧ r.2.mem ((c.tc : Thread Cert.OutprojReferenceIdeal.nD Cert.OutprojReferenceIdeal.τ).loc Cert.OutprojReferenceIdeal.main_arg19) = m ((c.tc : Thread Cert.OutprojReferenceIdeal.nD Cert.OutprojReferenceIdeal.τ).loc Cert.OutprojReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_is_placement : Cert.Pre_dest_is_placement.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_dest_is_placement : Cert.Pre_dest_is_placement.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v22) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_blocks_have_experts : Cert.Pre_blocks_have_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v68) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v15_0)) (v1 : (c : Dev Cert.InprojIdeal.nD) → Buf (Elt Ideal) ((c.tc : Thread Cert.InprojIdeal.nD Cert.InprojIdeal.τ).loc Cert.InprojIdeal.main_v15_1)) (v2 : (c : Dev Cert.InprojIdeal.nD) → Buf (Elt Ideal) ((c.tc : Thread Cert.InprojIdeal.nD Cert.InprojIdeal.τ).loc Cert.InprojIdeal.main_v15_2)) (v3 : (c : Dev Cert.InprojIdeal.nD) → Buf (Elt Ideal) ((c.tc : Thread Cert.InprojIdeal.nD Cert.InprojIdeal.τ).loc Cert.InprojIdeal.main_v15_3)) (v4 : (c : Dev Cert.InprojIdeal.nD) → Buf (Elt Ideal) ((c.tc : Thread Cert.InprojIdeal.nD Cert.InprojIdeal.τ).loc Cert.InprojIdeal.main_v15_4)) (v5 : (c : Dev Cert.InprojIdeal.nD) → Buf (Elt Ideal) ((c.tc : Thread Cert.InprojIdeal.nD Cert.InprojIdeal.τ).loc Cert.InprojIdeal.main_v15_5)) (v6 : (c : Dev Cert.InprojIdeal.nD) → Buf (Elt Ideal) ((c.tc : Thread Cert.InprojIdeal.nD Cert.InprojIdeal.τ).loc Cert.InprojIdeal.main_v15_6)) (v7 : (c : Dev Cert.InprojIdeal.nD) → Buf (Elt Ideal) ((c.tc : Thread Cert.InprojIdeal.nD Cert.InprojIdeal.τ).loc Cert.InprojIdeal.main_v15_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v15_0) = v0 c
          ∧ r.2.mem ((c.tc : Thread Cert.InprojIdeal.nD Cert.InprojIdeal.τ).loc Cert.InprojIdeal.main_v15_1) = v1 c
          ∧ r.2.mem ((c.tc : Thread Cert.InprojIdeal.nD Cert.InprojIdeal.τ).loc Cert.InprojIdeal.main_v15_2) = v2 c
          ∧ r.2.mem ((c.tc : Thread Cert.InprojIdeal.nD Cert.InprojIdeal.τ).loc Cert.InprojIdeal.main_v15_3) = v3 c
          ∧ r.2.mem ((c.tc : Thread Cert.InprojIdeal.nD Cert.InprojIdeal.τ).loc Cert.InprojIdeal.main_v15_4) = v4 c
          ∧ r.2.mem ((c.tc : Thread Cert.InprojIdeal.nD Cert.InprojIdeal.τ).loc Cert.InprojIdeal.main_v15_5) = v5 c
          ∧ r.2.mem ((c.tc : Thread Cert.InprojIdeal.nD Cert.InprojIdeal.τ).loc Cert.InprojIdeal.main_v15_6) = v6 c
          ∧ r.2.mem ((c.tc : Thread Cert.InprojIdeal.nD Cert.InprojIdeal.τ).loc Cert.InprojIdeal.main_v15_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v62) = v0 c
          ∧ r.2.mem ((c.tc : Thread Cert.InprojReferenceIdeal.nD Cert.InprojReferenceIdeal.τ).loc Cert.InprojReferenceIdeal.main_v96) = v1 c
          ∧ r.2.mem ((c.tc : Thread Cert.InprojReferenceIdeal.nD Cert.InprojReferenceIdeal.τ).loc Cert.InprojReferenceIdeal.main_v26) = v2 c
          ∧ r.2.mem ((c.tc : Thread Cert.InprojReferenceIdeal.nD Cert.InprojReferenceIdeal.τ).loc Cert.InprojReferenceIdeal.main_v115) = v3 c
          ∧ r.2.mem ((c.tc : Thread Cert.InprojReferenceIdeal.nD Cert.InprojReferenceIdeal.τ).loc Cert.InprojReferenceIdeal.main_v117) = v4 c
          ∧ r.2.mem ((c.tc : Thread Cert.InprojReferenceIdeal.nD Cert.InprojReferenceIdeal.τ).loc Cert.InprojReferenceIdeal.main_v123) = v5 c
          ∧ r.2.mem ((c.tc : Thread Cert.InprojReferenceIdeal.nD Cert.InprojReferenceIdeal.τ).loc Cert.InprojReferenceIdeal.main_v124) = v6 c
          ∧ r.2.mem ((c.tc : Thread Cert.InprojReferenceIdeal.nD Cert.InprojReferenceIdeal.τ).loc Cert.InprojReferenceIdeal.main_v125) = v7 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7))

def preserves_Outproj_OutprojIdeal : Prop :=
  True

def algebraic_OutprojIdeal_OutprojReferenceIdeal_pre_split_rows_are_finite [hOutprojIdeal : Cert.OutprojIdeal.Facts] [hOutprojReferenceIdeal : Cert.OutprojReferenceIdeal.Facts] [hPre_split_rows_are_finite : Cert.Pre_split_rows_are_finite.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal_split_rows_are_finite m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)
      ∧ m' ((c.tc : Thread Cert.OutprojReferenceIdeal.nD Cert.OutprojReferenceIdeal.τ).loc Cert.OutprojReferenceIdeal.main_arg7) = m ((c.tc : Thread Cert.OutprojIdeal.nD Cert.OutprojIdeal.τ).loc Cert.OutprojIdeal.main_arg7)
      ∧ m' ((c.tc : Thread Cert.OutprojReferenceIdeal.nD Cert.OutprojReferenceIdeal.τ).loc Cert.OutprojReferenceIdeal.main_arg8) = m ((c.tc : Thread Cert.OutprojIdeal.nD Cert.OutprojIdeal.τ).loc Cert.OutprojIdeal.main_arg8)
      ∧ m' ((c.tc : Thread Cert.OutprojReferenceIdeal.nD Cert.OutprojReferenceIdeal.τ).loc Cert.OutprojReferenceIdeal.main_arg9) = m ((c.tc : Thread Cert.OutprojIdeal.nD Cert.OutprojIdeal.τ).loc Cert.OutprojIdeal.main_arg9)
      ∧ m' ((c.tc : Thread Cert.OutprojReferenceIdeal.nD Cert.OutprojReferenceIdeal.τ).loc Cert.OutprojReferenceIdeal.main_arg10) = m ((c.tc : Thread Cert.OutprojIdeal.nD Cert.OutprojIdeal.τ).loc Cert.OutprojIdeal.main_arg10)
      ∧ m' ((c.tc : Thread Cert.OutprojReferenceIdeal.nD Cert.OutprojReferenceIdeal.τ).loc Cert.OutprojReferenceIdeal.main_arg11) = m ((c.tc : Thread Cert.OutprojIdeal.nD Cert.OutprojIdeal.τ).loc Cert.OutprojIdeal.main_arg11)
      ∧ m' ((c.tc : Thread Cert.OutprojReferenceIdeal.nD Cert.OutprojReferenceIdeal.τ).loc Cert.OutprojReferenceIdeal.main_arg12) = m ((c.tc : Thread Cert.OutprojIdeal.nD Cert.OutprojIdeal.τ).loc Cert.OutprojIdeal.main_arg12)
      ∧ m' ((c.tc : Thread Cert.OutprojReferenceIdeal.nD Cert.OutprojReferenceIdeal.τ).loc Cert.OutprojReferenceIdeal.main_arg13) = m ((c.tc : Thread Cert.OutprojIdeal.nD Cert.OutprojIdeal.τ).loc Cert.OutprojIdeal.main_arg13)
      ∧ m' ((c.tc : Thread Cert.OutprojReferenceIdeal.nD Cert.OutprojReferenceIdeal.τ).loc Cert.OutprojReferenceIdeal.main_arg14) = m ((c.tc : Thread Cert.OutprojIdeal.nD Cert.OutprojIdeal.τ).loc Cert.OutprojIdeal.main_arg14)
      ∧ m' ((c.tc : Thread Cert.OutprojReferenceIdeal.nD Cert.OutprojReferenceIdeal.τ).loc Cert.OutprojReferenceIdeal.main_arg15) = m ((c.tc : Thread Cert.OutprojIdeal.nD Cert.OutprojIdeal.τ).loc Cert.OutprojIdeal.main_arg15)
      ∧ m' ((c.tc : Thread Cert.OutprojReferenceIdeal.nD Cert.OutprojReferenceIdeal.τ).loc Cert.OutprojReferenceIdeal.main_arg16) = m ((c.tc : Thread Cert.OutprojIdeal.nD Cert.OutprojIdeal.τ).loc Cert.OutprojIdeal.main_arg16)
      ∧ m' ((c.tc : Thread Cert.OutprojReferenceIdeal.nD Cert.OutprojReferenceIdeal.τ).loc Cert.OutprojReferenceIdeal.main_arg17) = m ((c.tc : Thread Cert.OutprojIdeal.nD Cert.OutprojIdeal.τ).loc Cert.OutprojIdeal.main_arg17)
      ∧ m' ((c.tc : Thread Cert.OutprojReferenceIdeal.nD Cert.OutprojReferenceIdeal.τ).loc Cert.OutprojReferenceIdeal.main_arg18) = m ((c.tc : Thread Cert.OutprojIdeal.nD Cert.OutprojIdeal.τ).loc Cert.OutprojIdeal.main_arg18)
      ∧ m' ((c.tc : Thread Cert.OutprojReferenceIdeal.nD Cert.OutprojReferenceIdeal.τ).loc Cert.OutprojReferenceIdeal.main_arg19) = m ((c.tc : Thread Cert.OutprojIdeal.nD Cert.OutprojIdeal.τ).loc Cert.OutprojIdeal.main_arg19)) →
    ∃ (v0 : (c : Dev Cert.OutprojIdeal.nD) → Buf (Elt Ideal) ((c.tc : Thread Cert.OutprojIdeal.nD Cert.OutprojIdeal.τ).loc Cert.OutprojIdeal.main_v8_0)) (v1 : (c : Dev Cert.OutprojIdeal.nD) → Buf (Elt Ideal) ((c.tc : Thread Cert.OutprojIdeal.nD Cert.OutprojIdeal.τ).loc Cert.OutprojIdeal.main_v8_1)) (v2 : (c : Dev Cert.OutprojIdeal.nD) → Buf (Elt Ideal) ((c.tc : Thread Cert.OutprojIdeal.nD Cert.OutprojIdeal.τ).loc Cert.OutprojIdeal.main_v8_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v8_0) = v0 c
          ∧ r.2.mem ((c.tc : Thread Cert.OutprojIdeal.nD Cert.OutprojIdeal.τ).loc Cert.OutprojIdeal.main_v8_1) = v1 c
          ∧ r.2.mem ((c.tc : Thread Cert.OutprojIdeal.nD Cert.OutprojIdeal.τ).loc Cert.OutprojIdeal.main_v8_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
          ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11)
          ∧ r.2.mem ((c.tc : Thread Cert.OutprojIdeal.nD Cert.OutprojIdeal.τ).loc Cert.OutprojIdeal.main_arg12) = m ((c.tc : Thread Cert.OutprojIdeal.nD Cert.OutprojIdeal.τ).loc Cert.OutprojIdeal.main_arg12)
          ∧ r.2.mem ((c.tc : Thread Cert.OutprojIdeal.nD Cert.OutprojIdeal.τ).loc Cert.OutprojIdeal.main_arg13) = m ((c.tc : Thread Cert.OutprojIdeal.nD Cert.OutprojIdeal.τ).loc Cert.OutprojIdeal.main_arg13)
          ∧ r.2.mem ((c.tc : Thread Cert.OutprojIdeal.nD Cert.OutprojIdeal.τ).loc Cert.OutprojIdeal.main_arg14) = m ((c.tc : Thread Cert.OutprojIdeal.nD Cert.OutprojIdeal.τ).loc Cert.OutprojIdeal.main_arg14)
          ∧ r.2.mem ((c.tc : Thread Cert.OutprojIdeal.nD Cert.OutprojIdeal.τ).loc Cert.OutprojIdeal.main_arg15) = m ((c.tc : Thread Cert.OutprojIdeal.nD Cert.OutprojIdeal.τ).loc Cert.OutprojIdeal.main_arg15)
          ∧ r.2.mem ((c.tc : Thread Cert.OutprojIdeal.nD Cert.OutprojIdeal.τ).loc Cert.OutprojIdeal.main_arg16) = m ((c.tc : Thread Cert.OutprojIdeal.nD Cert.OutprojIdeal.τ).loc Cert.OutprojIdeal.main_arg16)
          ∧ r.2.mem ((c.tc : Thread Cert.OutprojIdeal.nD Cert.OutprojIdeal.τ).loc Cert.OutprojIdeal.main_arg17) = m ((c.tc : Thread Cert.OutprojIdeal.nD Cert.OutprojIdeal.τ).loc Cert.OutprojIdeal.main_arg17)
          ∧ r.2.mem ((c.tc : Thread Cert.OutprojIdeal.nD Cert.OutprojIdeal.τ).loc Cert.OutprojIdeal.main_arg18) = m ((c.tc : Thread Cert.OutprojIdeal.nD Cert.OutprojIdeal.τ).loc Cert.OutprojIdeal.main_arg18)
          ∧ r.2.mem ((c.tc : Thread Cert.OutprojIdeal.nD Cert.OutprojIdeal.τ).loc Cert.OutprojIdeal.main_arg19) = m ((c.tc : Thread Cert.OutprojIdeal.nD Cert.OutprojIdeal.τ).loc Cert.OutprojIdeal.main_arg19))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v58) = v0 c
          ∧ r.2.mem ((c.tc : Thread Cert.OutprojReferenceIdeal.nD Cert.OutprojReferenceIdeal.τ).loc Cert.OutprojReferenceIdeal.main_v80) = v1 c
          ∧ r.2.mem ((c.tc : Thread Cert.OutprojReferenceIdeal.nD Cert.OutprojReferenceIdeal.τ).loc Cert.OutprojReferenceIdeal.main_v84) = v2 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7)
          ∧ r.2.mem ((c.tc : Thread Cert.OutprojReferenceIdeal.nD Cert.OutprojReferenceIdeal.τ).loc Cert.OutprojReferenceIdeal.main_arg8) = m' ((c.tc : Thread Cert.OutprojReferenceIdeal.nD Cert.OutprojReferenceIdeal.τ).loc Cert.OutprojReferenceIdeal.main_arg8)
          ∧ r.2.mem ((c.tc : Thread Cert.OutprojReferenceIdeal.nD Cert.OutprojReferenceIdeal.τ).loc Cert.OutprojReferenceIdeal.main_arg9) = m' ((c.tc : Thread Cert.OutprojReferenceIdeal.nD Cert.OutprojReferenceIdeal.τ).loc Cert.OutprojReferenceIdeal.main_arg9)
          ∧ r.2.mem ((c.tc : Thread Cert.OutprojReferenceIdeal.nD Cert.OutprojReferenceIdeal.τ).loc Cert.OutprojReferenceIdeal.main_arg10) = m' ((c.tc : Thread Cert.OutprojReferenceIdeal.nD Cert.OutprojReferenceIdeal.τ).loc Cert.OutprojReferenceIdeal.main_arg10)
          ∧ r.2.mem ((c.tc : Thread Cert.OutprojReferenceIdeal.nD Cert.OutprojReferenceIdeal.τ).loc Cert.OutprojReferenceIdeal.main_arg11) = m' ((c.tc : Thread Cert.OutprojReferenceIdeal.nD Cert.OutprojReferenceIdeal.τ).loc Cert.OutprojReferenceIdeal.main_arg11)
          ∧ r.2.mem ((c.tc : Thread Cert.OutprojReferenceIdeal.nD Cert.OutprojReferenceIdeal.τ).loc Cert.OutprojReferenceIdeal.main_arg12) = m' ((c.tc : Thread Cert.OutprojReferenceIdeal.nD Cert.OutprojReferenceIdeal.τ).loc Cert.OutprojReferenceIdeal.main_arg12)
          ∧ r.2.mem ((c.tc : Thread Cert.OutprojReferenceIdeal.nD Cert.OutprojReferenceIdeal.τ).loc Cert.OutprojReferenceIdeal.main_arg13) = m' ((c.tc : Thread Cert.OutprojReferenceIdeal.nD Cert.OutprojReferenceIdeal.τ).loc Cert.OutprojReferenceIdeal.main_arg13)
          ∧ r.2.mem ((c.tc : Thread Cert.OutprojReferenceIdeal.nD Cert.OutprojReferenceIdeal.τ).loc Cert.OutprojReferenceIdeal.main_arg14) = m' ((c.tc : Thread Cert.OutprojReferenceIdeal.nD Cert.OutprojReferenceIdeal.τ).loc Cert.OutprojReferenceIdeal.main_arg14)
          ∧ r.2.mem ((c.tc : Thread Cert.OutprojReferenceIdeal.nD Cert.OutprojReferenceIdeal.τ).loc Cert.OutprojReferenceIdeal.main_arg15) = m' ((c.tc : Thread Cert.OutprojReferenceIdeal.nD Cert.OutprojReferenceIdeal.τ).loc Cert.OutprojReferenceIdeal.main_arg15)
          ∧ r.2.mem ((c.tc : Thread Cert.OutprojReferenceIdeal.nD Cert.OutprojReferenceIdeal.τ).loc Cert.OutprojReferenceIdeal.main_arg16) = m' ((c.tc : Thread Cert.OutprojReferenceIdeal.nD Cert.OutprojReferenceIdeal.τ).loc Cert.OutprojReferenceIdeal.main_arg16)
          ∧ r.2.mem ((c.tc : Thread Cert.OutprojReferenceIdeal.nD Cert.OutprojReferenceIdeal.τ).loc Cert.OutprojReferenceIdeal.main_arg17) = m' ((c.tc : Thread Cert.OutprojReferenceIdeal.nD Cert.OutprojReferenceIdeal.τ).loc Cert.OutprojReferenceIdeal.main_arg17)
          ∧ r.2.mem ((c.tc : Thread Cert.OutprojReferenceIdeal.nD Cert.OutprojReferenceIdeal.τ).loc Cert.OutprojReferenceIdeal.main_arg18) = m' ((c.tc : Thread Cert.OutprojReferenceIdeal.nD Cert.OutprojReferenceIdeal.τ).loc Cert.OutprojReferenceIdeal.main_arg18)
          ∧ r.2.mem ((c.tc : Thread Cert.OutprojReferenceIdeal.nD Cert.OutprojReferenceIdeal.τ).loc Cert.OutprojReferenceIdeal.main_arg19) = m' ((c.tc : Thread Cert.OutprojReferenceIdeal.nD Cert.OutprojReferenceIdeal.τ).loc Cert.OutprojReferenceIdeal.main_arg19))

def Claim : Prop :=
  ∃ (hKernel : Cert.Kernel.Facts) (hKernelIdeal : Cert.KernelIdeal.Facts) (hReference : Cert.Reference.Facts) (hReferenceIdeal : Cert.ReferenceIdeal.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hPre_dest_is_placement : Cert.Pre_dest_is_placement.Facts) (hPre_blocks_have_experts : Cert.Pre_blocks_have_experts.Facts) (hPre_split_rows_are_finite : Cert.Pre_split_rows_are_finite.Facts),
    quiescent_Kernel (hKernel := hKernel) (hPre_dest_is_placement := hPre_dest_is_placement)
    ∧ quiescent_KernelIdeal (hKernelIdeal := hKernelIdeal) (hPre_dest_is_placement := hPre_dest_is_placement)
    ∧ quiescent_Reference (hReference := hReference) (hPre_dest_is_placement := hPre_dest_is_placement)
    ∧ quiescent_ReferenceIdeal (hReferenceIdeal := hReferenceIdeal) (hPre_dest_is_placement := hPre_dest_is_placement)
    ∧ quiescent_Experts (hExperts := hExperts) (hPre_blocks_have_experts := hPre_blocks_have_experts)
    ∧ quiescent_ExpertsIdeal (hExpertsIdeal := hExpertsIdeal) (hPre_blocks_have_experts := hPre_blocks_have_experts)
    ∧ quiescent_ExpertsReferenceIdeal (hExpertsReferenceIdeal := hExpertsReferenceIdeal) (hPre_blocks_have_experts := hPre_blocks_have_experts)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojIdeal_pre_split_rows_are_finite (hOutprojIdeal := hOutprojIdeal) (hPre_split_rows_are_finite := hPre_split_rows_are_finite)
    ∧ quiescent_OutprojReferenceIdeal (hOutprojReferenceIdeal := hOutprojReferenceIdeal)
    ∧ quiescent_OutprojReferenceIdeal_pre_split_rows_are_finite (hOutprojReferenceIdeal := hOutprojReferenceIdeal) (hPre_split_rows_are_finite := hPre_split_rows_are_finite)
    ∧ preserves_Kernel_KernelIdeal
    ∧ algebraic_KernelIdeal_ReferenceIdeal (hKernelIdeal := hKernelIdeal) (hReferenceIdeal := hReferenceIdeal) (hPre_dest_is_placement := hPre_dest_is_placement)
    ∧ bitexact_Kernel_Reference (hKernel := hKernel) (hReference := hReference) (hPre_dest_is_placement := hPre_dest_is_placement)
    ∧ preserves_Experts_ExpertsIdeal
    ∧ algebraic_ExpertsIdeal_ExpertsReferenceIdeal (hExpertsIdeal := hExpertsIdeal) (hExpertsReferenceIdeal := hExpertsReferenceIdeal) (hPre_blocks_have_experts := hPre_blocks_have_experts)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal_pre_split_rows_are_finite (hOutprojIdeal := hOutprojIdeal) (hOutprojReferenceIdeal := hOutprojReferenceIdeal) (hPre_split_rows_are_finite := hPre_split_rows_are_finite)
-- ==== Pre_blocks_have_experts.lean ====
abbrev S304 : Shape := ⟨1, ![304]⟩
abbrev S1 : Shape := ⟨1, ![1]⟩
abbrev S77824x8x128 : Shape := ⟨3, ![77824, 8, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S304 : S_.BroadcastsInDim S304 (![] : Fin 0 → Fin S304.rank)

variable [Facts]

def fn {F : FTy → Type} [FloatOps F] (main_arg0 : IVec S304 32) (main_arg1 : IVec S1 32) (main_arg2 : FVec F S77824x8x128 .f32) (main_arg3 : FVec F S2x32x1024x2048 .f32) (main_arg4 : FVec F S2x32x2048 .f32) (main_arg5 : FVec F S2x32x1024x1024 .f32) (main_arg6 : FVec F S2x32x1024 .f32) : IVec S304 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  main_v4
-- ==== Pre_dest_is_placement.lean ====
abbrev S69632 : Shape := ⟨1, ![69632]⟩
abbrev S17408x8x128 : Shape := ⟨3, ![17408, 8, 128]⟩
abbrev S77824x8x128 : Shape := ⟨3, ![77824, 8, 128]⟩
abbrev S69632x1 : Shape := ⟨2, ![69632, 1]⟩
abbrev S1x69632 : Shape := ⟨2, ![1, 69632]⟩
abbrev S69632x69632 : Shape := ⟨2, ![69632, 69632]⟩
abbrev S_ : Shape := ⟨0, ![]⟩

class Facts : Prop where
  bcast_S69632_S69632x1_0 : S69632.BroadcastsInDim S69632x1 (![0] : Fin 1 → Fin S69632x1.rank)
  bcast_S69632_S1x69632_1 : S69632.BroadcastsInDim S1x69632 (![1] : Fin 1 → Fin S1x69632.rank)
  bcast_S69632x1_S69632x69632_0_1 : S69632x1.BroadcastsInDim S69632x69632 (![0, 1] : Fin 2 → Fin S69632x69632.rank)
  bcast_S1x69632_S69632x69632_0_1 : S1x69632.BroadcastsInDim S69632x69632 (![0, 1] : Fin 2 → Fin S69632x69632.rank)
  bcast_S_S69632 : S_.BroadcastsInDim S69632 (![] : Fin 0 → Fin S69632.rank)

variable [Facts]

def fn {F : FTy → Type} [FloatOps F] (main_arg0 : IVec S69632 32) (main_arg1 : FVec F S17408x8x128 .f32) (main_arg2 : FVec F S77824x8x128 .f32) : IVec S69632x69632 1 :=
  let main_v0 : IVec S69632 32 := iotaInDim S69632 32 0
  let main_v1 : IVec S69632x1 32 := broadcastInDim S69632x1 ![0] bcast_S69632_S69632x1_0 main_arg0
  let main_v2 : IVec S1x69632 32 := broadcastInDim S1x69632 ![1] bcast_S69632_S1x69632_1 main_arg0
  let main_v3 : IVec S69632x69632 32 := broadcastInDim S69632x69632 ![0, 1] bcast_S69632x1_S69632x69632_0_1 main_v1
  let main_v4 : IVec S69632x69632 32 := broadcastInDim S69632x69632 ![0, 1] bcast_S1x69632_S69632x69632_0_1 main_v2
  let main_v5 : IVec S69632x69632 1 := cmpi .ne main_v3 main_v4
  let main_v6 : IVec S69632x1 32 := broadcastInDim S69632x1 ![0] bcast_S69632_S69632x1_0 main_v0
  let main_v7 : IVec S1x69632 32 := broadcastInDim S1x69632 ![1] bcast_S69632_S1x69632_1 main_v0
  let main_v8 : IVec S69632x69632 32 := broadcastInDim S69632x69632 ![0, 1] bcast_S69632x1_S69632x69632_0_1 main_v6
  let main_v9 : IVec S69632x69632 32 := broadcastInDim S69632x69632 ![0, 1] bcast_S1x69632_S69632x69632_0_1 main_v7
  let main_v10 : IVec S69632x69632 1 := cmpi .eq main_v8 main_v9
  let main_v11 : IVec S69632x69632 1 := ori main_v5 main_v10
  let main_c : IVec S_ 32 := constantI S_ 32 0#32
  let main_v12 : IVec S69632 32 := broadcastInDim S69632 ![] bcast_S_S69632 main_c
  let main_v13 : IVec S69632 1 := cmpi .sge main_arg0 main_v12
  let main_c_0 : IVec S_ 32 := constantI S_ 32 77824#32
  let main_v14 : IVec S69632 32 := broadcastInDim S69632 ![] bcast_S_S69632 main_c_0
  let main_v15 : IVec S69632 1 := cmpi .slt main_arg0 main_v14
  let main_v16 : IVec S69632 1 := andi main_v13 main_v15
  let main_v17 : IVec S69632x1 1 := broadcastInDim S69632x1 ![0] bcast_S69632_S69632x1_0 main_v16
  let main_v18 : IVec S69632x69632 1 := broadcastInDim S69632x69632 ![0, 1] bcast_S69632x1_S69632x69632_0_1 main_v17
  let main_v19 : IVec S69632x69632 1 := andi main_v11 main_v18
  main_v19
-- ==== Pre_split_rows_are_finite.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S1024x1024 : Shape := ⟨2, ![1024, 1024]⟩
abbrev S64x256 : Shape := ⟨2, ![64, 256]⟩
abbrev S256 : Shape := ⟨1, ![256]⟩
abbrev S4x1024 : Shape := ⟨2, ![4, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S1024 : S_.BroadcastsInDim S1024 (![] : Fin 0 → Fin S1024.rank)
  reducesTo_S1024_S_d0 : S1024.ReducesTo [0] S_
  bcast_S_S4x1024 : S_.BroadcastsInDim S4x1024 (![] : Fin 0 → Fin S4x1024.rank)
  reducesTo_S4x1024_S_d0_1 : S4x1024.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_v29 : IVec S_ 1) (main_v32 : IVec S1024x32 1) (main_c_12 : IVec S_ 1) : IVec S_ 1 :=
  let main_v33 : IVec S_ 1 := (fun x v => Host.reduce IntOp.andi x v reducesTo_S1024x32_S_d0_1 h_S_) main_v32 main_c_12
  let main_v34 : IVec S_ 1 := andi main_v29 main_v33
  main_v34

def fn_part1 {F : FTy → Type} [FloatOps F] (main_arg16 : FVec F S4x1024 .f32) (main_arg17 : FVec F S4x1024 .f32) (main_arg18 : FVec F S1024x32 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S4x1024 .f32 := Host.absf main_arg16
  let main_cst_7 : FVec F S_ .f32 := constant S_ .f32 0x7F800000#32
  let main_v21 : FVec F S4x1024 .f32 := broadcastInDim S4x1024 ![] bcast_S_S4x1024 main_cst_7
  let main_v22 : IVec S4x1024 1 := cmpf .olt main_v20 main_v21
  let main_c_8 : IVec S_ 1 := constantI S_ 1 1#1
  let main_v23 : IVec S_ 1 := (fun x v => Host.reduce IntOp.andi x v reducesTo_S4x1024_S_d0_1 h_S_) main_v22 main_c_8
  let main_v24 : IVec S_ 1 := andi main_v19 main_v23
  let main_v25 : FVec F S4x1024 .f32 := Host.absf main_arg17
  let main_cst_9 : FVec F S_ .f32 := constant S_ .f32 0x7F800000#32
  let main_v26 : FVec F S4x1024 .f32 := broadcastInDim S4x1024 ![] bcast_S_S4x1024 main_cst_9
  let main_v27 : IVec S4x1024 1 := cmpf .olt main_v25 main_v26
  let main_c_10 : IVec S_ 1 := constantI S_ 1 1#1
  let main_v28 : IVec S_ 1 := (fun x v => Host.reduce IntOp.andi x v reducesTo_S4x1024_S_d0_1 h_S_) main_v27 main_c_10
  let main_v29 : IVec S_ 1 := andi main_v24 main_v28
  let main_v30 : FVec F S1024x32 .f32 := Host.absf main_arg18
  let main_cst_11 : FVec F S_ .f32 := constant S_ .f32 0x7F800000#32
  let main_v31 : FVec F S1024x32 .f32 := broadcastInDim S1024x32 ![] bcast_S_S1024x32 main_cst_11
  let main_v32 : IVec S1024x32 1 := cmpf .olt main_v30 main_v31
  let main_c_12 : IVec S_ 1 := constantI S_ 1 1#1
  fn_part2 (F := F) main_v29 main_v32 main_c_12

def fn {F : FTy → Type} [FloatOps F] (main_arg0 : FVec F S4x4096x1024 .f32) (main_arg1 : FVec F S4x4096x256 .f32) (main_arg2 : FVec F S4x4096x256 .f32) (main_arg3 : FVec F S4x4096x256 .f32) (main_arg4 : FVec F S4x4096x256 .f32) (main_arg5 : FVec F S4x4096x256 .f32) (main_arg6 : FVec F S4x4096x256 .f32) (main_arg7 : FVec F S4x4096x256 .f32) (main_arg8 : FVec F S4x4096x256 .f32) (main_arg9 : FVec F S4x4096x512 .f32) (main_arg10 : FVec F S1024x1024 .f32) (main_arg11 : FVec F S64x256 .f32) (main_arg12 : FVec F S256 .f32) (main_arg13 : FVec F S256 .f32) (main_arg14 : FVec F S4x1024 .f32) (main_arg15 : FVec F S1024 .f32) (main_arg16 : FVec F S4x1024 .f32) (main_arg17 : FVec F S4x1024 .f32) (main_arg18 : FVec F S1024x32 .f32) (main_arg19 : FVec F S32 .f32) : IVec S_ 1 :=
  let main_v0 : FVec F S4x4096x256 .f32 := Host.absf main_arg4
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_c_0 : IVec S_ 1 := constantI S_ 1 1#1
  let main_v4 : IVec S_ 1 := andi main_c_0 main_v3
  let main_v5 : FVec F S4x4096x256 .f32 := Host.absf main_arg5
  let main_cst_1 : FVec F S_ .f32 := constant S_ .f32 0x7F800000#32
  let main_v6 : FVec F S4x4096x256 .f32 := broadcastInDim S4x4096x256 ![] bcast_S_S4x4096x256 main_cst_1
  let main_v7 : IVec S4x4096x256 1 := cmpf .olt main_v5 main_v6
  let main_c_2 : IVec S_ 1 := constantI S_ 1 1#1
  let main_v8 : IVec S_ 1 := (fun x v => Host.reduce IntOp.andi x v reducesTo_S4x4096x256_S_d0_1_2 h_S_) main_v7 main_c_2
  let main_v9 : IVec S_ 1 := andi main_v4 main_v8
  let main_v10 : FVec F S64x256 .f32 := Host.absf main_arg11
  let main_cst_3 : FVec F S_ .f32 := constant S_ .f32 0x7F800000#32
  let main_v11 : FVec F S64x256 .f32 := broadcastInDim S64x256 ![] bcast_S_S64x256 main_cst_3
  let main_v12 : IVec S64x256 1 := cmpf .olt main_v10 main_v11
  let main_c_4 : IVec S_ 1 := constantI S_ 1 1#1
  let main_v13 : IVec S_ 1 := (fun x v => Host.reduce IntOp.andi x v reducesTo_S64x256_S_d0_1 h_S_) main_v12 main_c_4
  let main_v14 : IVec S_ 1 := andi main_v9 main_v13
  let main_v15 : FVec F S1024 .f32 := Host.absf main_arg15
  let main_cst_5 : FVec F S_ .f32 := constant S_ .f32 0x7F800000#32
  fn_part1 (F := F) main_arg16 main_arg17 main_arg18 main_v14 main_v15 main_cst_5
-- ==== Kernel.lean ====
abbrev S69632 : Shape := ⟨1, ![69632]⟩
abbrev S17408x8x128 : Shape := ⟨3, ![17408, 8, 128]⟩
abbrev S77824x8x128 : Shape := ⟨3, ![77824, 8, 128]⟩
abbrev S1024x8x128 : Shape := ⟨3, ![1024, 8, 128]⟩
abbrev S4096 : Shape := ⟨1, ![4096]⟩
abbrev S_ : Shape := ⟨0, ![]⟩
abbrev S1 : Shape := ⟨1, ![1]⟩
abbrev S1x8x128 : Shape := ⟨3, ![1, 8, 128]⟩
abbrev S8x128 : Shape := ⟨2, ![8, 128]⟩

abbrev nBuf : Space → Nat
  | .hbm => 4
  | .vmem => 2
  | .smem => 1
  | _ => 0

abbrev bufTy : (tb : Table) → Fin (tcTables nBuf tb) → BufTy
  | .hbm, ⟨0, _⟩ => ⟨S69632, .i32⟩
  | .hbm, ⟨1, _⟩ => ⟨S17408x8x128, .f32⟩
  | .hbm, ⟨2, _⟩ => ⟨S77824x8x128, .f32⟩
  | .hbm, ⟨3, _⟩ => ⟨S77824x8x128, .f32⟩
  | .local _ .vmem, ⟨0, _⟩ => ⟨S1024x8x128, .f32⟩
  | .local _ .vmem, ⟨1, _⟩ => ⟨S1024x8x128, .f32⟩
  | .local _ .smem, ⟨0, _⟩ => ⟨S4096, .i32⟩
  | _, _ => ⟨S69632, .i32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.smem, 0, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![17], ![false]⟩

def k0_off1 (i : grid0.Coords) : Fin 1 → Nat :=
  let arg0 : BitVec 32 := BitVec.ofNat 32 (i 0).val
  let c1024_i32 : BitVec 32 := 1024#32
  let v0 : BitVec 32 := Scalar.muli arg0 c1024_i32
  let c4_i32 : BitVec 32 := 4#32
  let v1 : BitVec 32 := Scalar.muli v0 c4_i32
  ![v1.toNat]
@[reducible] def k0_t1_loop : Scf.Loop 32 :=
  let c0_i32 : BitVec 32 := 0#32
  let c1024_i32_0 : BitVec 32 := 1024#32
  let v4 : BitVec 32 := Scalar.addi c0_i32 c1024_i32_0
  let c1_i32 : BitVec 32 := 1#32
  ⟨c0_i32, v4, c1_i32⟩
def k0_off2 (k0_t1 : Fin k0_t1_loop.trips) : Fin 1 → Nat :=
  let c0_i32 : BitVec 32 := 0#32
  let c1_i32 : BitVec 32 := 1#32
  let arg8 : BitVec 32 := Scf.iv c0_i32 c1_i32 k0_t1
  let c4_i32_14 : BitVec 32 := 4#32
  let v9 : BitVec 32 := Scalar.muli arg8 c4_i32_14
  let c0_i32_15 : BitVec 32 := 0#32
  let v10 : BitVec 32 := Scalar.addi v9 c0_i32_15
  let v11 : Index := Scalar.indexCast v10
  ![v11.toNat]
def k0_off3 (v12 : BitVec 32) : Fin 3 → Nat :=
  let c0_i32_16 : BitVec 32 := 0#32
  let c0_i32_17 : BitVec 32 := 0#32
  ![v12.toNat, 0, 0]

def k0_chk1 (v12 : BitVec 32) : Prop :=
  (∀ a, (k0_off3 v12) a + S1x8x128.size a ≤ S77824x8x128.size a)
theorem k0_off3_inb : ∀ (v12 : BitVec 32) (k0_hw1 : k0_chk1 v12), ∀ a, (k0_off3 v12) a + S1x8x128.size a ≤ S77824x8x128.size a := fun v12 k0_hw1 => k0_hw1

def k0_off4 (k0_t1 : Fin k0_t1_loop.trips) : Fin 3 → Nat :=
  let c0_i32 : BitVec 32 := 0#32
  let c1_i32 : BitVec 32 := 1#32
  let arg8 : BitVec 32 := Scf.iv c0_i32 c1_i32 k0_t1
  let c0_i32_18 : BitVec 32 := 0#32
  let c0_i32_19 : BitVec 32 := 0#32
  ![arg8.toNat, 0, 0]
def k0_off5 (k0_t1 : Fin k0_t1_loop.trips) : Fin 1 → Nat :=
  let c0_i32 : BitVec 32 := 0#32
  let c1_i32 : BitVec 32 := 1#32
  let arg8 : BitVec 32 := Scf.iv c0_i32 c1_i32 k0_t1
  let c4_i32_20 : BitVec 32 := 4#32
  let v17 : BitVec 32 := Scalar.muli arg8 c4_i32_20
  let c1_i32_21 : BitVec 32 := 1#32
  let v18 : BitVec 32 := Scalar.addi v17 c1_i32_21
  let v19 : Index := Scalar.indexCast v18
  ![v19.toNat]
def k0_off6 (v20 : BitVec 32) : Fin 3 → Nat :=
  let c0_i32_22 : BitVec 32 := 0#32
  let c0_i32_23 : BitVec 32 := 0#32
  ![v20.toNat, 0, 0]

def k0_chk2 (v20 : BitVec 32) : Prop :=
  (∀ a, (k0_off6 v20) a + S1x8x128.size a ≤ S77824x8x128.size a)
theorem k0_off6_inb : ∀ (v20 : BitVec 32) (k0_hw2 : k0_chk2 v20), ∀ a, (k0_off6 v20) a + S1x8x128.size a ≤ S77824x8x128.size a := fun v20 k0_hw2 => k0_hw2

def k0_off7 (k0_t1 : Fin k0_t1_loop.trips) : Fin 3 → Nat :=
  let c0_i32 : BitVec 32 := 0#32
  let c1_i32 : BitVec 32 := 1#32
  let arg8 : BitVec 32 := Scf.iv c0_i32 c1_i32 k0_t1
  let c0_i32_24 : BitVec 32 := 0#32
  let c0_i32_25 : BitVec 32 := 0#32
  ![arg8.toNat, 0, 0]
def k0_off8 (k0_t1 : Fin k0_t1_loop.trips) : Fin 1 → Nat :=
  let c0_i32 : BitVec 32 := 0#32
  let c1_i32 : BitVec 32 := 1#32
  let arg8 : BitVec 32 := Scf.iv c0_i32 c1_i32 k0_t1
  let c4_i32_26 : BitVec 32 := 4#32
  let v25 : BitVec 32 := Scalar.muli arg8 c4_i32_26
  let c2_i32 : BitVec 32 := 2#32
  let v26 : BitVec 32 := Scalar.addi v25 c2_i32
  let v27 : Index := Scalar.indexCast v26
  ![v27.toNat]
def k0_off9 (v28 : BitVec 32) : Fin 3 → Nat :=
  let c0_i32_27 : BitVec 32 := 0#32
  let c0_i32_28 : BitVec 32 := 0#32
  ![v28.toNat, 0, 0]

def k0_chk3 (v28 : BitVec 32) : Prop :=
  (∀ a, (k0_off9 v28) a + S1x8x128.size a ≤ S77824x8x128.size a)
theorem k0_off9_inb : ∀ (v28 : BitVec 32) (k0_hw3 : k0_chk3 v28), ∀ a, (k0_off9 v28) a + S1x8x128.size a ≤ S77824x8x128.size a := fun v28 k0_hw3 => k0_hw3

def k0_off10 (k0_t1 : Fin k0_t1_loop.trips) : Fin 3 → Nat :=
  let c0_i32 : BitVec 32 := 0#32
  let c1_i32 : BitVec 32 := 1#32
  let arg8 : BitVec 32 := Scf.iv c0_i32 c1_i32 k0_t1
  let c0_i32_29 : BitVec 32 := 0#32
  let c0_i32_30 : BitVec 32 := 0#32
  ![arg8.toNat, 0, 0]
def k0_off11 (k0_t1 : Fin k0_t1_loop.trips) : Fin 1 → Nat :=
  let c0_i32 : BitVec 32 := 0#32
  let c1_i32 : BitVec 32 := 1#32
  let arg8 : BitVec 32 := Scf.iv c0_i32 c1_i32 k0_t1
  let c4_i32_31 : BitVec 32 := 4#32
  let v33 : BitVec 32 := Scalar.muli arg8 c4_i32_31
  let c3_i32 : BitVec 32 := 3#32
  let v34 : BitVec 32 := Scalar.addi v33 c3_i32
  let v35 : Index := Scalar.indexCast v34
  ![v35.toNat]
def k0_off12 (v36 : BitVec 32) : Fin 3 → Nat :=
  let c0_i32_32 : BitVec 32 := 0#32
  let c0_i32_33 : BitVec 32 := 0#32
  ![v36.toNat, 0, 0]

def k0_chk4 (v36 : BitVec 32) : Prop :=
  (∀ a, (k0_off12 v36) a + S1x8x128.size a ≤ S77824x8x128.size a)
theorem k0_off12_inb : ∀ (v36 : BitVec 32) (k0_hw4 : k0_chk4 v36), ∀ a, (k0_off12 v36) a + S1x8x128.size a ≤ S77824x8x128.size a := fun v36 k0_hw4 => k0_hw4

def k0_off13 (k0_t1 : Fin k0_t1_loop.trips) : Fin 3 → Nat :=
  let c0_i32 : BitVec 32 := 0#32
  let c1_i32 : BitVec 32 := 1#32
  let arg8 : BitVec 32 := Scf.iv c0_i32 c1_i32 k0_t1
  let c0_i32_34 : BitVec 32 := 0#32
  let c0_i32_35 : BitVec 32 := 0#32
  ![arg8.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S69632 : Shape := ⟨1, ![69632]⟩
abbrev S17408x8x128 : Shape := ⟨3, ![17408, 8, 128]⟩
abbrev S77824x8x128 : Shape := ⟨3, ![77824, 8, 128]⟩
abbrev S_ : Shape := ⟨0, ![]⟩
abbrev S77824 : Shape := ⟨1, ![77824]⟩
abbrev S69632x1 : Shape := ⟨2, ![69632, 1]⟩
abbrev S1x8x128 : Shape := ⟨3, ![1, 8, 128]⟩
abbrev S17409x8x128 : Shape := ⟨3, ![17409, 8, 128]⟩
abbrev S77824x1x1 : Shape := ⟨3, ![77824, 1, 1]⟩
abbrev S77824x1 : Shape := ⟨2, ![77824, 1]⟩

abbrev nBuf : Space → Nat
  | .hbm => 51
  | .vmem => 0
  | .smem => 0
  | _ => 0

abbrev bufTy : (tb : Table) → Fin (tcTables nBuf tb) → BufTy
  | .hbm, ⟨0, _⟩ => ⟨S69632, .i32⟩
  | .hbm, ⟨1, _⟩ => ⟨S17408x8x128, .f32⟩
  | .hbm, ⟨2, _⟩ => ⟨S77824x8x128, .f32⟩
  | .hbm, ⟨3, _⟩ => ⟨S69632, .i32⟩
  | .hbm, ⟨4, _⟩ => ⟨S_, .i32⟩
  | .hbm, ⟨5, _⟩ => ⟨S_, .i32⟩
  | .hbm, ⟨6, _⟩ => ⟨S69632, .i32⟩
  | .hbm, ⟨7, _⟩ => ⟨S69632, .i32⟩
  | .hbm, ⟨8, _⟩ => ⟨S69632, .i32⟩
  | .hbm, ⟨9, _⟩ => ⟨S_, .i32⟩
  | .hbm, ⟨10, _⟩ => ⟨S69632, .i32⟩
  | .hbm, ⟨11, _⟩ => ⟨S69632, .i1⟩
  | .hbm, ⟨12, _⟩ => ⟨S69632, .i32⟩
  | .hbm, ⟨13, _⟩ => ⟨S69632, .i32⟩
  | .hbm, ⟨14, _⟩ => ⟨S_, .i32⟩
  | .hbm, ⟨15, _⟩ => ⟨S69632, .i32⟩
  | .hbm, ⟨16, _⟩ => ⟨S69632, .i1⟩
  | .hbm, ⟨17, _⟩ => ⟨S69632, .i1⟩
  | .hbm, ⟨18, _⟩ => ⟨S_, .i32⟩
  | .hbm, ⟨19, _⟩ => ⟨S69632, .i32⟩
  | .hbm, ⟨20, _⟩ => ⟨S69632, .i32⟩
  | .hbm, ⟨21, _⟩ => ⟨S69632, .i32⟩
  | .hbm, ⟨22, _⟩ => ⟨S_, .i32⟩
  | .hbm, ⟨23, _⟩ => ⟨S77824, .i32⟩
  | .hbm, ⟨24, _⟩ => ⟨S_, .i32⟩
  | .hbm, ⟨25, _⟩ => ⟨S69632, .i32⟩
  | .hbm, ⟨26, _⟩ => ⟨S69632, .i1⟩
  | .hbm, ⟨27, _⟩ => ⟨S_, .i32⟩
  | .hbm, ⟨28, _⟩ => ⟨S69632, .i32⟩
  | .hbm, ⟨29, _⟩ => ⟨S69632, .i32⟩
  | .hbm, ⟨30, _⟩ => ⟨S69632, .i32⟩
  | .hbm, ⟨31, _⟩ => ⟨S69632x1, .i32⟩
  | .hbm, ⟨32, _⟩ => ⟨S77824, .i32⟩
  | .hbm, ⟨33, _⟩ => ⟨S_, .f32⟩
  | .hbm, ⟨34, _⟩ => ⟨S1x8x128, .f32⟩
  | .hbm, ⟨35, _⟩ => ⟨S17409x8x128, .f32⟩
  | .hbm, ⟨36, _⟩ => ⟨S_, .i32⟩
  | .hbm, ⟨37, _⟩ => ⟨S77824, .i32⟩
  | .hbm, ⟨38, _⟩ => ⟨S77824, .i1⟩
  | .hbm, ⟨39, _⟩ => ⟨S77824x1x1, .i1⟩
  | .hbm, ⟨40, _⟩ => ⟨S_, .i32⟩
  | .hbm, ⟨41, _⟩ => ⟨S77824, .i32⟩
  | .hbm, ⟨42, _⟩ => ⟨S77824, .i1⟩
  | .hbm, ⟨43, _⟩ => ⟨S_, .i32⟩
  | .hbm, ⟨44, _⟩ => ⟨S77824, .i32⟩
  | .hbm, ⟨45, _⟩ => ⟨S77824, .i32⟩
  | .hbm, ⟨46, _⟩ => ⟨S77824, .i32⟩
  | .hbm, ⟨47, _⟩ => ⟨S77824x1, .i32⟩
  | .hbm, ⟨48, _⟩ => ⟨S77824x8x128, .f32⟩
  | .hbm, ⟨49, _⟩ => ⟨S77824x8x128, .i1⟩
  | .hbm, ⟨50, _⟩ => ⟨S77824x8x128, .f32⟩
  | _, _ => ⟨S69632, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_c_1 : Ref sig .tc := ⟨.hbm, 24, rfl⟩
abbrev main_v3 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_c_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_4 : Ref sig .tc := ⟨.hbm, 40, rfl⟩
abbrev main_v15 : Ref sig .tc := ⟨.hbm, 41, rfl⟩
abbrev main_v16 : Ref sig .tc := ⟨.hbm, 42, rfl⟩
abbrev main_c_5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call1_v0 : Ref sig .tc := ⟨.hbm, 49, rfl⟩
abbrev main_v22 : Ref sig .tc := ⟨.hbm, 50, rfl⟩

abbrev nD : Nat := 1
abbrev τ : Topo := Topo.v7x

variable {F : FTy → Type} [FloatOps F]
-- ==== Experts.lean ====
abbrev S304 : Shape := ⟨1, ![304]⟩
abbrev S1 : Shape := ⟨1, ![1]⟩
abbrev S77824x8x128 : Shape := ⟨3, ![77824, 8, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S256x8x128 : Shape := ⟨3, ![256, 8, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 10
  | .vmem => 14
  | .smem => 2
  | _ => 0

abbrev bufTy : (tb : Table) → Fin (tcTables nBuf tb) → BufTy
  | .hbm, ⟨0, _⟩ => ⟨S77824x8x128, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S64x1024x2048, .f32⟩
  | .hbm, ⟨6, _⟩ => ⟨S64x1x2048, .f32⟩
  | .hbm, ⟨7, _⟩ => ⟨S64x1024x1024, .f32⟩
  | .hbm, ⟨8, _⟩ => ⟨S64x1x1024, .f32⟩
  | .hbm, ⟨9, _⟩ => ⟨S77824x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x8x128, .f32⟩
  | .local _ .vmem, ⟨11, _⟩ => ⟨S256x8x128, .f32⟩
  | .local _ .vmem, ⟨12, _⟩ => ⟨S1024x2048, .bf16⟩
  | .local _ .vmem, ⟨13, _⟩ => ⟨S1024x1024, .bf16⟩
  | .local _ .smem, ⟨0, _⟩ => ⟨S304, .i32⟩
  | .local _ .smem, ⟨1, _⟩ => ⟨S1, .i32⟩
  | _, _ => ⟨S77824x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S304 : Shape := ⟨1, ![304]⟩
abbrev S1 : Shape := ⟨1, ![1]⟩
abbrev S77824x8x128 : Shape := ⟨3, ![77824, 8, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S304x256x1024 : Shape := ⟨3, ![304, 256, 1024]⟩
abbrev S1x32x1024x2048 : Shape := ⟨4, ![1, 32, 1024, 2048]⟩
abbrev S32x1024x2048 : Shape := ⟨3, ![32, 1024, 2048]⟩
abbrev S_ : Shape := ⟨0, ![]⟩
abbrev S304x1 : Shape := ⟨2, ![304, 1]⟩
abbrev S304x1024x2048 : Shape := ⟨3, ![304, 1024, 2048]⟩
abbrev S304x256x2048 : Shape := ⟨3, ![304, 256, 2048]⟩
abbrev S1x32x2048 : Shape := ⟨3, ![1, 32, 2048]⟩
abbrev S32x2048 : Shape := ⟨2, ![32, 2048]⟩
abbrev S304x2048 : Shape := ⟨2, ![304, 2048]⟩
abbrev S304x1x2048 : Shape := ⟨3, ![304, 1, 2048]⟩
abbrev S1x32x1024x1024 : Shape := ⟨4, ![1, 32, 1024, 1024]⟩
abbrev S32x1024x1024 : Shape := ⟨3, ![32, 1024, 1024]⟩
abbrev S304x1024x1024 : Shape := ⟨3, ![304, 1024, 1024]⟩
abbrev S1x32x1024 : Shape := ⟨3, ![1, 32, 1024]⟩
abbrev S32x1024 : Shape := ⟨2, ![32, 1024]⟩
abbrev S304x1024 : Shape := ⟨2, ![304, 1024]⟩
abbrev S304x1x1024 : Shape := ⟨3, ![304, 1, 1024]⟩
abbrev S304x1x1 : Shape := ⟨3, ![304, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S77824x8x128, .f32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S304x256x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S304, .i32⟩
  | .hbm, ⟨12, _⟩ => ⟨S304, .i1⟩
  | .hbm, ⟨13, _⟩ => ⟨S_, .i32⟩
  | .hbm, ⟨14, _⟩ => ⟨S304, .i32⟩
  | .hbm, ⟨15, _⟩ => ⟨S304, .i32⟩
  | .hbm, ⟨16, _⟩ => ⟨S304, .i32⟩
  | .hbm, ⟨17, _⟩ => ⟨S304x1, .i32⟩
  | .hbm, ⟨18, _⟩ => ⟨S304x1024x2048, .f32⟩
  | .hbm, ⟨19, _⟩ => ⟨S304x256x2048, .f32⟩
  | .hbm, ⟨20, _⟩ => ⟨S1x32x2048, .f32⟩
  | .hbm, ⟨21, _⟩ => ⟨S32x2048, .f32⟩
  | .hbm, ⟨22, _⟩ => ⟨S_, .i32⟩
  | .hbm, ⟨23, _⟩ => ⟨S304, .i32⟩
  | .hbm, ⟨24, _⟩ => ⟨S304, .i1⟩
  | .hbm, ⟨25, _⟩ => ⟨S_, .i32⟩
  | .hbm, ⟨26, _⟩ => ⟨S304, .i32⟩
  | .hbm, ⟨27, _⟩ => ⟨S304, .i32⟩
  | .hbm, ⟨28, _⟩ => ⟨S304, .i32⟩
  | .hbm, ⟨29, _⟩ => ⟨S304x1, .i32⟩
  | .hbm, ⟨30, _⟩ => ⟨S304x2048, .f32⟩
  | .hbm, ⟨31, _⟩ => ⟨S304x1x2048, .f32⟩
  | .hbm, ⟨32, _⟩ => ⟨S304x256x2048, .f32⟩
  | .hbm, ⟨33, _⟩ => ⟨S304x256x2048, .f32⟩
  | .hbm, ⟨34, _⟩ => ⟨S304x256x1024, .f32⟩
  | .hbm, ⟨35, _⟩ => ⟨S304x256x1024, .f32⟩
  | .hbm, ⟨36, _⟩ => ⟨S_, .f32⟩
  | .hbm, ⟨37, _⟩ => ⟨S304x256x1024, .f32⟩
  | .hbm, ⟨38, _⟩ => ⟨S304x256x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S304x256x1024, .f32⟩
  | .hbm, ⟨43, _⟩ => ⟨S304x256x1024, .f32⟩
  | .hbm, ⟨44, _⟩ => ⟨S_, .f32⟩
  | .hbm, ⟨45, _⟩ => ⟨S304x256x1024, .f32⟩
  | .hbm, ⟨46, _⟩ => ⟨S304x256x1024, .f32⟩
  | .hbm, ⟨47, _⟩ => ⟨S_, .f32⟩
  | .hbm, ⟨48, _⟩ => ⟨S304x256x1024, .f32⟩
  | .hbm, ⟨49, _⟩ => ⟨S304x256x1024, .f32⟩
  | .hbm, ⟨50, _⟩ => ⟨S_, .f32⟩
  | .hbm, ⟨51, _⟩ => ⟨S304x256x1024, .f32⟩
  | .hbm, ⟨52, _⟩ => ⟨S304x256x1024, .f32⟩
  | .hbm, ⟨53, _⟩ => ⟨S304x256x1024, .f32⟩
  | .hbm, ⟨54, _⟩ => ⟨S304x256x1024, .f32⟩
  | .hbm, ⟨55, _⟩ => ⟨S_, .f32⟩
  | .hbm, ⟨56, _⟩ => ⟨S304x256x1024, .f32⟩
  | .hbm, ⟨57, _⟩ => ⟨S304x256x1024, .f32⟩
  | .hbm, ⟨58, _⟩ => ⟨S_, .f32⟩
  | .hbm, ⟨59, _⟩ => ⟨S304x256x1024, .f32⟩
  | .hbm, ⟨60, _⟩ => ⟨S304x256x1024, .f32⟩
  | .hbm, ⟨61, _⟩ => ⟨S304x256x1024, .f32⟩
  | .hbm, ⟨62, _⟩ => ⟨S304x256x1024, .f32⟩
  | .hbm, ⟨63, _⟩ => ⟨S1x32x1024x1024, .f32⟩
  | .hbm, ⟨64, _⟩ => ⟨S32x1024x1024, .f32⟩
  | .hbm, ⟨65, _⟩ => ⟨S_, .i32⟩
  | .hbm, ⟨66, _⟩ => ⟨S304, .i32⟩
  | .hbm, ⟨67, _⟩ => ⟨S304, .i1⟩
  | .hbm, ⟨68, _⟩ => ⟨S_, .i32⟩
  | .hbm, ⟨69, _⟩ => ⟨S304, .i32⟩
  | .hbm, ⟨70, _⟩ => ⟨S304, .i32⟩
  | .hbm, ⟨71, _⟩ => ⟨S304, .i32⟩
  | .hbm, ⟨72, _⟩ => ⟨S304x1, .i32⟩
  | .hbm, ⟨73, _⟩ => ⟨S304x1024x1024, .f32⟩
  | .hbm, ⟨74, _⟩ => ⟨S304x256x1024, .f32⟩
  | .hbm, ⟨75, _⟩ => ⟨S1x32x1024, .f32⟩
  | .hbm, ⟨76, _⟩ => ⟨S32x1024, .f32⟩
  | .hbm, ⟨77, _⟩ => ⟨S_, .i32⟩
  | .hbm, ⟨78, _⟩ => ⟨S304, .i32⟩
  | .hbm, ⟨79, _⟩ => ⟨S304, .i1⟩
  | .hbm, ⟨80, _⟩ => ⟨S_, .i32⟩
  | .hbm, ⟨81, _⟩ => ⟨S304, .i32⟩
  | .hbm, ⟨82, _⟩ => ⟨S304, .i32⟩
  | .hbm, ⟨83, _⟩ => ⟨S304, .i32⟩
  | .hbm, ⟨84, _⟩ => ⟨S304x1, .i32⟩
  | .hbm, ⟨85, _⟩ => ⟨S304x1024, .f32⟩
  | .hbm, ⟨86, _⟩ => ⟨S304x1x1024, .f32⟩
  | .hbm, ⟨87, _⟩ => ⟨S304x256x1024, .f32⟩
  | .hbm, ⟨88, _⟩ => ⟨S304x256x1024, .f32⟩
  | .hbm, ⟨89, _⟩ => ⟨S304, .i32⟩
  | .hbm, ⟨90, _⟩ => ⟨S_, .i32⟩
  | .hbm, ⟨91, _⟩ => ⟨S304, .i32⟩
  | .hbm, ⟨92, _⟩ => ⟨S304, .i1⟩
  | .hbm, ⟨93, _⟩ => ⟨S304x1x1, .i1⟩
  | .hbm, ⟨94, _⟩ => ⟨S_, .f32⟩
  | .hbm, ⟨95, _⟩ => ⟨S_, .f32⟩
  | .hbm, ⟨96, _⟩ => ⟨S304x256x1024, .i1⟩
  | .hbm, ⟨97, _⟩ => ⟨S304x256x1024, .f32⟩
  | .hbm, ⟨98, _⟩ => ⟨S304x256x1024, .f32⟩
  | .hbm, ⟨99, _⟩ => ⟨S77824x8x128, .f32⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Inproj.lean ====
abbrev S4x4096x1024 : Shape := ⟨3, ![4, 4096, 1024]⟩
abbrev S1024 : Shape := ⟨1, ![1024]⟩
abbrev S4x1024 : Shape := ⟨2, ![4, 1024]⟩
abbrev S1024x3008 : Shape := ⟨2, ![1024, 3008]⟩
abbrev S2x4x256 : Shape := ⟨3, ![2, 4, 256]⟩
abbrev S2x256 : Shape := ⟨2, ![2, 256]⟩
abbrev S2x960 : Shape := ⟨2, ![2, 960]⟩
abbrev S_ : Shape := ⟨0, ![]⟩
abbrev S1024x64 : Shape := ⟨2, ![1024, 64]⟩
abbrev S1024x256 : Shape := ⟨2, ![1024, 256]⟩
abbrev S1024x768 : Shape := ⟨2, ![1024, 768]⟩
abbrev S1024x192 : Shape := ⟨2, ![1024, 192]⟩
abbrev S1024x1536 : Shape := ⟨2, ![1024, 1536]⟩
abbrev S1024x3072 : Shape := ⟨2, ![1024, 3072]⟩
abbrev S2x768 : Shape := ⟨2, ![2, 768]⟩
abbrev S2x192 : Shape := ⟨2, ![2, 192]⟩
abbrev S2x64 : Shape := ⟨2, ![2, 64]⟩
abbrev S2x1024 : Shape := ⟨2, ![2, 1024]⟩
abbrev S1x1024 : Shape := ⟨2, ![1, 1024]⟩
abbrev S4x1x1024 : Shape := ⟨3, ![4, 1, 1024]⟩
abbrev S4x4096x256 : Shape := ⟨3, ![4, 4096, 256]⟩
abbrev S4x4096x768 : Shape := ⟨3, ![4, 4096, 768]⟩
abbrev S4x4096x512 : Shape := ⟨3, ![4, 4096, 512]⟩
abbrev S1x512x1024 : Shape := ⟨3, ![1, 512, 1024]⟩
abbrev S1x8x1024 : Shape := ⟨3, ![1, 8, 1024]⟩
abbrev S1x1x1024 : Shape := ⟨3, ![1, 1, 1024]⟩
abbrev S1x512x256 : Shape := ⟨3, ![1, 512, 256]⟩
abbrev S1x512x768 : Shape := ⟨3, ![1, 512, 768]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x1280 : Shape := ⟨2, ![1024, 1280]⟩
abbrev S16x1280 : Shape := ⟨2, ![16, 1280]⟩
abbrev S8x1280 : Shape := ⟨2, ![8, 1280]⟩
abbrev S512x1280 : Shape := ⟨2, ![512, 1280]⟩
abbrev S528x1280 : Shape := ⟨2, ![528, 1280]⟩
abbrev S528x256 : Shape := ⟨2, ![528, 256]⟩
abbrev S1x256 : Shape := ⟨2, ![1, 256]⟩
abbrev S1x1x256 : Shape := ⟨3, ![1, 1, 256]⟩
abbrev S512x256 : Shape := ⟨2, ![512, 256]⟩
abbrev S512x768 : Shape := ⟨2, ![512, 768]⟩
abbrev S512x512 : Shape := ⟨2, ![512, 512]⟩

abbrev nBuf : Space → Nat
  | .hbm => 33
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3008, .f32⟩
  | .hbm, ⟨5, _⟩ => ⟨S2x4x256, .f32⟩
  | .hbm, ⟨6, _⟩ => ⟨S2x256, .f32⟩
  | .hbm, ⟨7, _⟩ => ⟨S2x960, .f32⟩
  | .hbm, ⟨8, _⟩ => ⟨S_, .f32⟩
  | .hbm, ⟨9, _⟩ => ⟨S1024x64, .f32⟩
  | .hbm, ⟨10, _⟩ => ⟨S1024x256, .f32⟩
  | .hbm, ⟨11, _⟩ => ⟨S1024x768, .f32⟩
  | .hbm, ⟨12, _⟩ => ⟨S1024x192, .f32⟩
  | .hbm, ⟨13, _⟩ => ⟨S1024x256, .f32⟩
  | .hbm, ⟨14, _⟩ => ⟨S1024x1536, .f32⟩
  | .hbm, ⟨15, _⟩ => ⟨S1024x3072, .f32⟩
  | .hbm, ⟨16, _⟩ => ⟨S1024x3072, .bf16⟩
  | .hbm, ⟨17, _⟩ => ⟨S2x768, .f32⟩
  | .hbm, ⟨18, _⟩ => ⟨S2x192, .f32⟩
  | .hbm, ⟨19, _⟩ => ⟨S_, .f32⟩
  | .hbm, ⟨20, _⟩ => ⟨S2x64, .f32⟩
  | .hbm, ⟨21, _⟩ => ⟨S2x1024, .f32⟩
  | .hbm, ⟨22, _⟩ => ⟨S1x1024, .f32⟩
  | .hbm, ⟨23, _⟩ => ⟨S4x1x1024, .f32⟩
  | .hbm, ⟨24, _⟩ => ⟨S4x1x1024, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x768, .f32⟩
  | .hbm, ⟨29, _⟩ => ⟨S4x4096x256, .f32⟩
  | .hbm, ⟨30, _⟩ => ⟨S4x4096x512, .bf16⟩
  | .hbm, ⟨31, _⟩ => ⟨S4x4096x512, .bf16⟩
  | .hbm, ⟨32, _⟩ => ⟨S4x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x3072, .bf16⟩
  | .local _ .vmem, ⟨12, _⟩ => ⟨S2x4x256, .f32⟩
  | .local _ .vmem, ⟨13, _⟩ => ⟨S2x256, .f32⟩
  | .local _ .vmem, ⟨14, _⟩ => ⟨S2x1024, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x768, .f32⟩
  | .local _ .vmem, ⟨22, _⟩ => ⟨S1x512x768, .f32⟩
  | .local _ .vmem, ⟨23, _⟩ => ⟨S1x512x256, .f32⟩
  | .local _ .vmem, ⟨24, _⟩ => ⟨S1x512x256, .f32⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_v15_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InprojReferenceIdeal.lean ====
abbrev S4x4096x1024 : Shape := ⟨3, ![4, 4096, 1024]⟩
abbrev S1024 : Shape := ⟨1, ![1024]⟩
abbrev S4x1024 : Shape := ⟨2, ![4, 1024]⟩
abbrev S1024x3008 : Shape := ⟨2, ![1024, 3008]⟩
abbrev S2x4x256 : Shape := ⟨3, ![2, 4, 256]⟩
abbrev S2x256 : Shape := ⟨2, ![2, 256]⟩
abbrev S2x960 : Shape := ⟨2, ![2, 960]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x3008 : Shape := ⟨3, ![4, 4096, 3008]⟩
abbrev S4x4096x512 : Shape := ⟨3, ![4, 4096, 512]⟩
abbrev S4x4096x960 : Shape := ⟨3, ![4, 4096, 960]⟩
abbrev S4x4096x1536 : Shape := ⟨3, ![4, 4096, 1536]⟩
abbrev S4x4096x256 : Shape := ⟨3, ![4, 4096, 256]⟩
abbrev S4x4099x256 : Shape := ⟨3, ![4, 4099, 256]⟩
abbrev S1x1x256 : Shape := ⟨3, ![1, 1, 256]⟩
abbrev S256 : Shape := ⟨1, ![256]⟩
abbrev S1x256 : Shape := ⟨2, ![1, 256]⟩
abbrev S4x4095x960 : Shape := ⟨3, ![4, 4095, 960]⟩
abbrev S1x960 : Shape := ⟨2, ![1, 960]⟩
abbrev S960 : Shape := ⟨1, ![960]⟩
abbrev S1x1x960 : Shape := ⟨3, ![1, 1, 960]⟩
abbrev S4x4096x768 : Shape := ⟨3, ![4, 4096, 768]⟩
abbrev S4x4096x192 : Shape := ⟨3, ![4, 4096, 192]⟩

abbrev nBuf : Space → Nat
  | .hbm => 151
  | .vmem => 0
  | .smem => 0
  | _ => 0

abbrev hbmTy0_0 (i : Nat) : BufTy := match i % 128 with
  | 0 => ⟨S4x4096x1024, .f32⟩
  | 1 => ⟨S1024, .f32⟩
  | 2 => ⟨S4x1024, .f32⟩
  | 3 => ⟨S4x1024, .f32⟩
  | 4 => ⟨S1024x3008, .f32⟩
  | 5 => ⟨S2x4x256, .f32⟩
  | 6 => ⟨S2x256, .f32⟩
  | 7 => ⟨S2x960, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S4x1x1024, .f32⟩
  | 25 => ⟨S_, .f32⟩
  | 26 => ⟨S4x1x1024, .f32⟩
  | 27 => ⟨S4x1x1024, .f32⟩
  | 28 => ⟨S4x4096x1024, .f32⟩
  | 29 => ⟨S4x4096x1024, .f32⟩
  | 30 => ⟨S4x1x1024, .f32⟩
  | 31 => ⟨S4x4096x1024, .f32⟩
  | 32 => ⟨S4x4096x1024, .f32⟩
  | 33 => ⟨S4x4096x3008, .f32⟩
  | 34 => ⟨S4x4096x512, .f32⟩
  | 35 => ⟨S4x4096x960, .f32⟩
  | 36 => ⟨S4x4096x1536, .f32⟩
  | 37 => ⟨S4x4096x256, .f32⟩
  | 38 => ⟨S4x4096x256, .f32⟩
  | 39 => ⟨S_, .i32⟩
  | 40 => ⟨S_, .f32⟩
  | 41 => ⟨S4x4099x256, .f32⟩
  | 42 => ⟨S_, .i32⟩
  | 43 => ⟨S_, .f32⟩
  | 44 => ⟨S4x4099x256, .f32⟩
  | 45 => ⟨S1x1x256, .f32⟩
  | 46 => ⟨S256, .f32⟩
  | 47 => ⟨S4x4096x256, .f32⟩
  | 48 => ⟨S1x1x256, .f32⟩
  | 49 => ⟨S4x4096x256, .f32⟩
  | 50 => ⟨S4x4096x256, .f32⟩
  | 51 => ⟨S_, .f32⟩
  | 52 => ⟨S4x4096x256, .f32⟩
  | 53 => ⟨S4x4096x256, .f32⟩
  | 54 => ⟨S1x1x256, .f32⟩
  | 55 => ⟨S256, .f32⟩
  | 56 => ⟨S4x4096x256, .f32⟩
  | 57 => ⟨S1x1x256, .f32⟩
  | 58 => ⟨S4x4096x256, .f32⟩
  | 59 => ⟨S4x4096x256, .f32⟩
  | 60 => ⟨S4x4096x256, .f32⟩
  | 61 => ⟨S1x1x256, .f32⟩
  | 62 => ⟨S256, .f32⟩
  | 63 => ⟨S4x4096x256, .f32⟩
  | 64 => ⟨S1x1x256, .f32⟩
  | 65 => ⟨S4x4096x256, .f32⟩
  | 66 => ⟨S4x4096x256, .f32⟩
  | 67 => ⟨S4x4096x256, .f32⟩
  | 68 => ⟨S1x1x256, .f32⟩
  | 69 => ⟨S256, .f32⟩
  | 70 => ⟨S4x4096x256, .f32⟩
  | 71 => ⟨S1x1x256, .f32⟩
  | 72 => ⟨S4x4096x256, .f32⟩
  | 73 => ⟨S4x4096x256, .f32⟩
  | 74 => ⟨S4x4096x256, .f32⟩
  | 75 => ⟨S1x256, .f32⟩
  | 76 => ⟨S256, .f32⟩
  | 77 => ⟨S1x1x256, .f32⟩
  | 78 => ⟨S4x4096x256, .f32⟩
  | 79 => ⟨S4x4096x256, .f32⟩
  | 80 => ⟨S1x1x256, .f32⟩
  | 81 => ⟨S256, .f32⟩
  | 82 => ⟨S4x4096x256, .f32⟩
  | 83 => ⟨S1x1x256, .f32⟩
  | 84 => ⟨S4x4096x256, .f32⟩
  | 85 => ⟨S4x4096x256, .f32⟩
  | 86 => ⟨S_, .f32⟩
  | 87 => ⟨S4x4096x256, .f32⟩
  | 88 => ⟨S4x4096x256, .f32⟩
  | 89 => ⟨S1x1x256, .f32⟩
  | 90 => ⟨S256, .f32⟩
  | 91 => ⟨S4x4096x256, .f32⟩
  | 92 => ⟨S1x1x256, .f32⟩
  | 93 => ⟨S4x4096x256, .f32⟩
  | 94 => ⟨S4x4096x256, .f32⟩
  | 95 => ⟨S4x4096x256, .f32⟩
  | 96 => ⟨S1x1x256, .f32⟩
  | 97 => ⟨S256, .f32⟩
  | 98 => ⟨S4x4096x256, .f32⟩
  | 99 => ⟨S1x1x256, .f32⟩
  | 100 => ⟨S4x4096x256, .f32⟩
  | 101 => ⟨S4x4096x256, .f32⟩
  | 102 => ⟨S4x4096x256, .f32⟩
  | 103 => ⟨S1x1x256, .f32⟩
  | 104 => ⟨S256, .f32⟩
  | 105 => ⟨S4x4096x256, .f32⟩
  | 106 => ⟨S1x1x256, .f32⟩
  | 107 => ⟨S4x4096x256, .f32⟩
  | 108 => ⟨S4x4096x256, .f32⟩
  | 109 => ⟨S4x4096x256, .f32⟩
  | 110 => ⟨S1x256, .f32⟩
  | 111 => ⟨S256, .f32⟩
  | 112 => ⟨S1x1x256, .f32⟩
  | 113 => ⟨S4x4096x256, .f32⟩
  | 114 => ⟨S4x4096x256, .f32⟩
  | 115 => ⟨S4x4095x960, .f32⟩
  | 116 => ⟨S_, .i32⟩
  | 117 => ⟨S_, .f32⟩
  | 118 => ⟨S4x4096x960, .f32⟩
  | 119 => ⟨S4x4095x960, .f32⟩
  | 120 => ⟨S_, .i32⟩
  | 121 => ⟨S_, .f32⟩
  | 122 => ⟨S4x4096x960, .f32⟩
  | 123 => ⟨S1x960, .f32⟩
  | 124 => ⟨S960, .f32⟩
  | 125 => ⟨S4x4096x960, .f32⟩
  | 126 => ⟨S1x1x960, .f32⟩
  | 127 => ⟨S4x4096x960, .f32⟩
  | _ => ⟨S4x4096x1024, .f32⟩

abbrev hbmTy0_1 (i : Nat) : BufTy := match i % 128 with
  | 0 => ⟨S4x4096x960, .f32⟩
  | 1 => ⟨S4x4096x960, .f32⟩
  | 2 => ⟨S1x960, .f32⟩
  | 3 => ⟨S960, .f32⟩
  | 4 => ⟨S4x4096x960, .f32⟩
  | 5 => ⟨S1x1x960, .f32⟩
  | 6 => ⟨S4x4096x960, .f32⟩
  | 7 => ⟨S4x4096x960, .f32⟩
  | 8 => ⟨S4x4096x960, .f32⟩
  | 9 => ⟨S4x4096x768, .f32⟩
  | 10 => ⟨S4x4096x192, .f32⟩
  | 11 => ⟨S_, .i32⟩
  | 12 => ⟨S_, .f32⟩
  | 13 => ⟨S4x4096x256, .f32⟩
  | 14 => ⟨S4x4096x512, .f32⟩
  | 15 => ⟨S4x4096x512, .f32⟩
  | 16 => ⟨S4x4096x512, .f32⟩
  | 17 => ⟨S_, .f32⟩
  | 18 => ⟨S4x4096x512, .f32⟩
  | 19 => ⟨S4x4096x512, .f32⟩
  | 20 => ⟨S4x4096x512, .bf16⟩
  | 21 => ⟨S4x4096x512, .bf16⟩
  | 22 => ⟨S4x4096x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call0_v0 : Ref sig .tc := ⟨.hbm, 40, rfl⟩
abbrev main_v27 : Ref sig .tc := ⟨.hbm, 41, rfl⟩
abbrev main_c_3 : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_c_6 : Ref sig .tc := ⟨.hbm, 116, rfl⟩
abbrev main_call2_v0 : Ref sig .tc := ⟨.hbm, 117, rfl⟩
abbrev main_v98 : Ref sig .tc := ⟨.hbm, 118, rfl⟩
abbrev main_v99 : Ref sig .tc := ⟨.hbm, 119, rfl⟩
abbrev main_c_7 : Ref sig .tc := ⟨.hbm, 120, rfl⟩
abbrev main_call3_v0 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_c_8 : Ref sig .tc := ⟨.hbm, 139, rfl⟩
abbrev main_call4_v0 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_9 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩

abbrev nD : Nat := 1
abbrev τ : Topo := Topo.v7x

variable {F : FTy → Type} [FloatOps F]
-- ==== Outproj.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S1024x1024 : Shape := ⟨2, ![1024, 1024]⟩
abbrev S64x256 : Shape := ⟨2, ![64, 256]⟩
abbrev S256 : Shape := ⟨1, ![256]⟩
abbrev S4x1024 : Shape := ⟨2, ![4, 1024]⟩
abbrev S1024 : Shape := ⟨1, ![1024]⟩
abbrev S1024x32 : Shape := ⟨2, ![1024, 32]⟩
abbrev S32 : Shape := ⟨1, ![32]⟩
abbrev S1x256 : Shape := ⟨2, ![1, 256]⟩
abbrev S1x32 : Shape := ⟨2, ![1, 32]⟩
abbrev S4x1x1024 : Shape := ⟨3, ![4, 1, 1024]⟩
abbrev S1x1024 : Shape := ⟨2, ![1, 1024]⟩
abbrev S4x4096x8x128 : Shape := ⟨4, ![4, 4096, 8, 128]⟩
abbrev S4x4096x32 : Shape := ⟨3, ![4, 4096, 32]⟩
abbrev S1x512x1024 : Shape := ⟨3, ![1, 512, 1024]⟩
abbrev S1x512x256 : Shape := ⟨3, ![1, 512, 256]⟩
abbrev S1x512x512 : Shape := ⟨3, ![1, 512, 512]⟩
abbrev S1x1x1024 : Shape := ⟨3, ![1, 1, 1024]⟩
abbrev S1x512x8x128 : Shape := ⟨4, ![1, 512, 8, 128]⟩
abbrev S1x512x32 : Shape := ⟨3, ![1, 512, 32]⟩
abbrev S512x256 : Shape := ⟨2, ![512, 256]⟩
abbrev S256x256 : Shape := ⟨2, ![256, 256]⟩
abbrev S512x64 : Shape := ⟨2, ![512, 64]⟩
abbrev S256x1024 : Shape := ⟨2, ![256, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x8x128 : Shape := ⟨3, ![512, 8, 128]⟩
abbrev S512x32 : Shape := ⟨2, ![512, 32]⟩

abbrev nBuf : Space → Nat
  | .hbm => 31
  | .vmem => 39
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S4x4096x512, .f32⟩
  | .hbm, ⟨10, _⟩ => ⟨S1024x1024, .f32⟩
  | .hbm, ⟨11, _⟩ => ⟨S64x256, .f32⟩
  | .hbm, ⟨12, _⟩ => ⟨S256, .f32⟩
  | .hbm, ⟨13, _⟩ => ⟨S256, .f32⟩
  | .hbm, ⟨14, _⟩ => ⟨S4x1024, .f32⟩
  | .hbm, ⟨15, _⟩ => ⟨S1024, .f32⟩
  | .hbm, ⟨16, _⟩ => ⟨S4x1024, .f32⟩
  | .hbm, ⟨17, _⟩ => ⟨S4x1024, .f32⟩
  | .hbm, ⟨18, _⟩ => ⟨S1024x32, .f32⟩
  | .hbm, ⟨19, _⟩ => ⟨S32, .f32⟩
  | .hbm, ⟨20, _⟩ => ⟨S1024x1024, .bf16⟩
  | .hbm, ⟨21, _⟩ => ⟨S1x256, .f32⟩
  | .hbm, ⟨22, _⟩ => ⟨S1x256, .f32⟩
  | .hbm, ⟨23, _⟩ => ⟨S1x32, .f32⟩
  | .hbm, ⟨24, _⟩ => ⟨S4x1x1024, .f32⟩
  | .hbm, ⟨25, _⟩ => ⟨S1x1024, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x8x128, .f32⟩
  | .hbm, ⟨30, _⟩ => ⟨S4x4096x32, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x512, .f32⟩
  | .local _ .vmem, ⟨19, _⟩ => ⟨S1x512x512, .f32⟩
  | .local _ .vmem, ⟨20, _⟩ => ⟨S1024x1024, .bf16⟩
  | .local _ .vmem, ⟨21, _⟩ => ⟨S64x256, .f32⟩
  | .local _ .vmem, ⟨22, _⟩ => ⟨S1x256, .f32⟩
  | .local _ .vmem, ⟨23, _⟩ => ⟨S1x256, .f32⟩
  | .local _ .vmem, ⟨24, _⟩ => ⟨S1x1x1024, .f32⟩
  | .local _ .vmem, ⟨25, _⟩ => ⟨S1x1x1024, .f32⟩
  | .local _ .vmem, ⟨26, _⟩ => ⟨S1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1024x32, .f32⟩
  | .local _ .vmem, ⟨32, _⟩ => ⟨S1x32, .f32⟩
  | .local _ .vmem, ⟨33, _⟩ => ⟨S1x512x1024, .f32⟩
  | .local _ .vmem, ⟨34, _⟩ => ⟨S1x512x1024, .f32⟩
  | .local _ .vmem, ⟨35, _⟩ => ⟨S1x512x8x128, .f32⟩
  | .local _ .vmem, ⟨36, _⟩ => ⟨S1x512x8x128, .f32⟩
  | .local _ .vmem, ⟨37, _⟩ => ⟨S1x512x32, .f32⟩
  | .local _ .vmem, ⟨38, _⟩ => ⟨S1x512x32, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v8_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1024x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x8x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== OutprojReferenceIdeal.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S1024x1024 : Shape := ⟨2, ![1024, 1024]⟩
abbrev S64x256 : Shape := ⟨2, ![64, 256]⟩
abbrev S256 : Shape := ⟨1, ![256]⟩
abbrev S4x1024 : Shape := ⟨2, ![4, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S1x1x256 : Shape := ⟨3, ![1, 1, 256]⟩
abbrev S4x4096x64 : Shape := ⟨3, ![4, 4096, 64]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8x128 : Shape := ⟨4, ![4, 4096, 8, 128]⟩
abbrev S4x4096x32 : Shape := ⟨3, ![4, 4096, 32]⟩
abbrev S1x1x32 : Shape := ⟨3, ![1, 1, 32]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S4x4096x512, .f32⟩
  | .hbm, ⟨10, _⟩ => ⟨S1024x1024, .f32⟩
  | .hbm, ⟨11, _⟩ => ⟨S64x256, .f32⟩
  | .hbm, ⟨12, _⟩ => ⟨S256, .f32⟩
  | .hbm, ⟨13, _⟩ => ⟨S256, .f32⟩
  | .hbm, ⟨14, _⟩ => ⟨S4x1024, .f32⟩
  | .hbm, ⟨15, _⟩ => ⟨S1024, .f32⟩
  | .hbm, ⟨16, _⟩ => ⟨S4x1024, .f32⟩
  | .hbm, ⟨17, _⟩ => ⟨S4x1024, .f32⟩
  | .hbm, ⟨18, _⟩ => ⟨S1024x32, .f32⟩
  | .hbm, ⟨19, _⟩ => ⟨S32, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096x256, .f32⟩
  | .hbm, ⟨24, _⟩ => ⟨S4x4096x256, .f32⟩
  | .hbm, ⟨25, _⟩ => ⟨S4x4096x256, .f32⟩
  | .hbm, ⟨26, _⟩ => ⟨S_, .f32⟩
  | .hbm, ⟨27, _⟩ => ⟨S4x4096x256, .f32⟩
  | .hbm, ⟨28, _⟩ => ⟨S4x4096x256, .f32⟩
  | .hbm, ⟨29, _⟩ => ⟨S4x4096x256, .f32⟩
  | .hbm, ⟨30, _⟩ => ⟨S_, .f32⟩
  | .hbm, ⟨31, _⟩ => ⟨S4x4096x256, .f32⟩
  | .hbm, ⟨32, _⟩ => ⟨S4x4096x256, .f32⟩
  | .hbm, ⟨33, _⟩ => ⟨S_, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S4x4096x4x64, .f32⟩
  | .hbm, ⟨41, _⟩ => ⟨S_, .f32⟩
  | .hbm, ⟨42, _⟩ => ⟨S4x4096x4, .f32⟩
  | .hbm, ⟨43, _⟩ => ⟨S4x4096x4x1, .f32⟩
  | .hbm, ⟨44, _⟩ => ⟨S_, .f32⟩
  | .hbm, ⟨45, _⟩ => ⟨S4x4096x4x1, .f32⟩
  | .hbm, ⟨46, _⟩ => ⟨S4x4096x4x1, .f32⟩
  | .hbm, ⟨47, _⟩ => ⟨S4x4096x4x64, .f32⟩
  | .hbm, ⟨48, _⟩ => ⟨S4x4096x4x64, .f32⟩
  | .hbm, ⟨49, _⟩ => ⟨S4x4096x4x64, .f32⟩
  | .hbm, ⟨50, _⟩ => ⟨S_, .f32⟩
  | .hbm, ⟨51, _⟩ => ⟨S4x4096x4, .f32⟩
  | .hbm, ⟨52, _⟩ => ⟨S4x4096x4x1, .f32⟩
  | .hbm, ⟨53, _⟩ => ⟨S_, .f32⟩
  | .hbm, ⟨54, _⟩ => ⟨S4x4096x4x1, .f32⟩
  | .hbm, ⟨55, _⟩ => ⟨S4x4096x4x1, .f32⟩
  | .hbm, ⟨56, _⟩ => ⟨S4x4096x4x64, .f32⟩
  | .hbm, ⟨57, _⟩ => ⟨S4x4096x4x64, .f32⟩
  | .hbm, ⟨58, _⟩ => ⟨S_, .f32⟩
  | .hbm, ⟨59, _⟩ => ⟨S4x4096x4x1, .f32⟩
  | .hbm, ⟨60, _⟩ => ⟨S4x4096x4x1, .f32⟩
  | .hbm, ⟨61, _⟩ => ⟨S4x4096x4x1, .f32⟩
  | .hbm, ⟨62, _⟩ => ⟨S4x4096x4x64, .f32⟩
  | .hbm, ⟨63, _⟩ => ⟨S4x4096x4x64, .f32⟩
  | .hbm, ⟨64, _⟩ => ⟨S4x4096x256, .f32⟩
  | .hbm, ⟨65, _⟩ => ⟨S1x1x256, .f32⟩
  | .hbm, ⟨66, _⟩ => ⟨S4x4096x256, .f32⟩
  | .hbm, ⟨67, _⟩ => ⟨S4x4096x256, .f32⟩
  | .hbm, ⟨68, _⟩ => ⟨S1x1x256, .f32⟩
  | .hbm, ⟨69, _⟩ => ⟨S4x4096x256, .f32⟩
  | .hbm, ⟨70, _⟩ => ⟨S4x4096x256, .f32⟩
  | .hbm, ⟨71, _⟩ => ⟨S4x4096x256, .f32⟩
  | .hbm, ⟨72, _⟩ => ⟨S4x4096x256, .f32⟩
  | .hbm, ⟨73, _⟩ => ⟨S4x4096x64, .f32⟩
  | .hbm, ⟨74, _⟩ => ⟨S4x4096x64, .f32⟩
  | .hbm, ⟨75, _⟩ => ⟨S4x4096x64, .f32⟩
  | .hbm, ⟨76, _⟩ => ⟨S_, .f32⟩
  | .hbm, ⟨77, _⟩ => ⟨S4x4096x64, .f32⟩
  | .hbm, ⟨78, _⟩ => ⟨S4x4096x64, .f32⟩
  | .hbm, ⟨79, _⟩ => ⟨S_, .f32⟩
  | .hbm, ⟨80, _⟩ => ⟨S4x4096x64, .f32⟩
  | .hbm, ⟨81, _⟩ => ⟨S4x4096x64, .f32⟩
  | .hbm, ⟨82, _⟩ => ⟨S4x4096x256, .f32⟩
  | .hbm, ⟨83, _⟩ => ⟨S4x4096x256, .f32⟩
  | .hbm, ⟨84, _⟩ => ⟨S4x1x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S_, .f32⟩
  | .hbm, ⟨92, _⟩ => ⟨S4x4096, .f32⟩
  | .hbm, ⟨93, _⟩ => ⟨S4x4096x1, .f32⟩
  | .hbm, ⟨94, _⟩ => ⟨S_, .f32⟩
  | .hbm, ⟨95, _⟩ => ⟨S4x4096x1, .f32⟩
  | .hbm, ⟨96, _⟩ => ⟨S4x4096x1, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S4x4096x1, .f32⟩
  | .hbm, ⟨101, _⟩ => ⟨S4x4096x1024, .f32⟩
  | .hbm, ⟨102, _⟩ => ⟨S4x4096x1024, .f32⟩
  | .hbm, ⟨103, _⟩ => ⟨S1x1x1024, .f32⟩
  | .hbm, ⟨104, _⟩ => ⟨S4x4096x1024, .f32⟩
  | .hbm, ⟨105, _⟩ => ⟨S4x4096x1024, .f32⟩
  | .hbm, ⟨106, _⟩ => ⟨S4x1x1024, .f32⟩
  | .hbm, ⟨107, _⟩ => ⟨S_, .f32⟩
  | .hbm, ⟨108, _⟩ => ⟨S4x1x1024, .f32⟩
  | .hbm, ⟨109, _⟩ => ⟨S4x1x1024, .f32⟩
  | .hbm, ⟨110, _⟩ => ⟨S4x4096x1024, .f32⟩
  | .hbm, ⟨111, _⟩ => ⟨S4x4096x1024, .f32⟩
  | .hbm, ⟨112, _⟩ => ⟨S4x1x1024, .f32⟩
  | .hbm, ⟨113, _⟩ => ⟨S4x4096x1024, .f32⟩
  | .hbm, ⟨114, _⟩ => ⟨S4x4096x1024, .f32⟩
  | .hbm, ⟨115, _⟩ => ⟨S4x4096x8x128, .f32⟩
  | .hbm, ⟨116, _⟩ => ⟨S4x4096x32, .f32⟩
  | .hbm, ⟨117, _⟩ => ⟨S1x1x32, .f32⟩
  | .hbm, ⟨118, _⟩ => ⟨S4x4096x32, .f32⟩
  | .hbm, ⟨119, _⟩ => ⟨S4x4096x32, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Proof.ExpertsRun.lean ====
/- One point of the experts kernel run whole: the weights rounded into the scratch buffers where the expert changes, the
   block's rows sent through the expert where the block is in use, zeros where it is not. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a buffer of words on core `c`. -/
abbrev Words (c : Dev nD) {s : Shape} (M : Memref sig .tc .smem s .i32) : Type := Buf (Elt F) (M.view.loc (c : Thread nD τ))

/-- The half of a table the kernel reads it by. -/
abbrev half (c : Dev nD) {s : Shape} (M : Memref sig .tc .smem s .i32) (f : Words (F := F) c M) : sProp 𝕄 := M.view.loc (c : Thread nD τ) ↦{fullShare.right} f

/-- The word a scalar load of one element reads. -/
def wordAt (c : Dev nD) {n : ℕ} (M : Memref sig .tc .smem ⟨1, ![n]⟩ .i32) (off : Fin 1 → ℕ) (h : ∀ a, off a + S1.size a ≤ (⟨1, ![n]⟩ : Shape).size a)
    (f : Words (F := F) c M) : BitVec 32 :=
  M.view.readAt (Elt F) (Rect.unit (s := ⟨1, ![n]⟩) off S1.size h).toLoadRect f (Shape.Idx.first (numel1_S1.symm ▸ Nat.one_pos))

/-- Whether a point rounds its expert's weights anew: it is the first, or its expert is another than the point before's. -/
def fresh (i : grid0.Coords) (now before : BitVec 32) : BitVec 1 :=
  Scalar.cmpi .ne (Scalar.extui (Scalar.ori (Scalar.cmpi .eq (BitVec.ofNat 32 (i 0).val) 0#32) (Scalar.cmpi .ne before now)) : BitVec 32) 0#32

/-- The block's result of equal operands. -/
theorem pay3_congr {x0 x0' : Vec F S256x8x128 .f32} {w w' : Vec F S1024x2048 .bf16} {b b' : Vec F S1x1x2048 .f32} {d d' : Vec F S1024x1024 .bf16}
    {o o' : Vec F S1x1x1024 .f32} (h0 : x0 = x0') (h1 : w = w') (h2 : b = b') (h3 : d = d') (h4 : o = o') :
    k0_pay3 x0 w b d o = k0_pay3 x0' w' b' d' o' := by subst h0 h1 h2 h3 h4; rfl

section Run

variable (c : Dev nD) (i : grid0.Coords)
  (arg3 : Memref sig .tc .vmem S256x8x128 .f32) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S256x8x128 .f32) (harg8 : arg8.IsWhole)
  (arg9 : Memref sig .tc .vmem S1024x2048 .bf16) (harg9 : arg9.IsWhole) (arg10 : Memref sig .tc .vmem S1024x1024 .bf16) (harg10 : arg10.IsWhole)
  (x0 : Vec F S256x8x128 .f32) (x1 : Vec F S1x1024x2048 .f32) (x2 : Vec F S1x1x2048 .f32) (x3 : Vec F S1x1024x1024 .f32) (x4 : Vec F S1x1x1024 .f32)
  (s0 : Vec F S1024x2048 .bf16) (s1 : Vec F S1024x1024 .bf16)
  (be : Words (F := F) c (Memref.whole main_arg0)) (nu : Words (F := F) c (Memref.whole main_arg1))

/-- The body at the point, on whole staging buffers. -/
abbrev bodyProg : Prog (TpuEff nD τ sig (Elt F) Λ₀ .tc) PUnit :=
  cc0_experts i (Memref.whole main_arg0) (Memref.isWhole_whole _) (Memref.whole main_arg1) (Memref.isWhole_whole _)
    arg3 harg3 arg4 harg4 arg5 harg5 arg6 harg6 arg7 harg7 arg8 harg8 arg9 harg9 arg10 harg10

/-- What the five inputs' buffers and the two tables hold, before the body and after it. -/
abbrev inputs : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4
    ∗ half c (Memref.whole main_arg0) be ∗ half c (Memref.whole main_arg1) nu)

set_option maxHeartbeats 1000000 in
/-- A point whose expert changes and whose block is in use. -/
theorem run_fresh_used
    (hf : fresh i (wordAt c (Memref.whole main_arg0) (k0_off1 i) (k0_off1_inb i) be) (wordAt c (Memref.whole main_arg0) (k0_off2 i) (k0_off2_inb i) be) = 1#1)
    (h2 : k0_cond2 i (wordAt c (Memref.whole main_arg1) ![0] inb_S1_S1_0 nu) = 1#1)
    (h3 : ¬k0_cond3 i (wordAt c (Memref.whole main_arg1) ![0] inb_S1_S1_0 nu) = 1#1) (E : Set ℕ) (K : PUnit → sProp 𝕄) :
    iprop(inputs c arg3 arg4 arg5 arg6 arg7 x0 x1 x2 x3 x4 be nu ∗ (∃ d, owns (c : Thread nD τ) arg8 fullShare d)
        ∗ (∃ d, owns (c : Thread nD τ) arg9 fullShare d) ∗ (∃ d, owns (c : Thread nD τ) arg10 fullShare d)
        ∗ (iprop(inputs c arg3 arg4 arg5 arg6 arg7 x0 x1 x2 x3 x4 be nu ∗ owns (c : Thread nD τ) arg8 fullShare (k0_pay3 x0 (k0_pay1 x1) x2 (k0_pay2 x3) x4)
            ∗ owns (c : Thread nD τ) arg9 fullShare (k0_pay1 x1) ∗ owns (c : Thread nD τ) arg10 fullShare (k0_pay2 x3)) -∗ K ⟨⟩))
      ⊢ wp frame (wpE (defs₀ (F := F)) Variants.none c none) E
          (bodyProg i arg3 harg3 arg4 harg4 arg5 harg5 arg6 harg6 arg7 harg7 arg8 harg8 arg9 harg9 arg10 harg10) K := by
  unfold bodyProg
  simp only [cc0_experts_eq_skeleton]; unfold cc0_experts_skel
  unfold inputs owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, ⟨%ds0, %fs0, -, HS0⟩, ⟨%ds1, %fs1, -, HS1⟩, Hk⟩
  subst hf0 hf1 hf2 hf3 hf4
  sl_exec (disch := first | sl_exact hf | sl_exact h2 | sl_exact h3)
  sl_step
  iapply Hk
  isplitl [H0 H1 H2 H3 H4 HT0 HT1]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [HT0]; · iexact HT0
    iexact HT1
  isplitl [H5]
  · iexists _; isplitr; swap; · iexact H5
    ipureintro; exact (View.read_writes_full _ _ _ _ _).trans (by
      unfold run_fresh_used.sl.v22 run_fresh_used.sl.v44 run_fresh_used.sl.HS0_1 run_fresh_used.sl.HS1_1
      exact pay3_congr (View.readAt_full _ _ _) ((View.readCov_full _ _ _ _ _).trans (congrArg k0_pay1 (View.readAt_full _ _ _)))
        (View.readAt_full _ _ _) ((View.readCov_full _ _ _ _ _).trans (congrArg k0_pay2 (View.readAt_full _ _ _))) (View.readAt_full _ _ _))
  isplitl [HS0]
  · iexists _; isplitr; swap; · iexact HS0
    ipureintro; exact (by unfold run_fresh_used.sl.HS0_1; exact (View.read_writes_full _ _ _ _ _).trans (congrArg k0_pay1 (View.readAt_full _ _ _)))
  iexists _; isplitr; swap; · iexact HS1
  ipureintro; exact (by unfold run_fresh_used.sl.HS1_1; exact (View.read_writes_full _ _ _ _ _).trans (congrArg k0_pay2 (View.readAt_full _ _ _)))

set_option maxHeartbeats 1000000 in
/-- A point whose expert changes and whose block is not in use. -/
theorem run_fresh_unused
    (hf : fresh i (wordAt c (Memref.whole main_arg0) (k0_off1 i) (k0_off1_inb i) be) (wordAt c (Memref.whole main_arg0) (k0_off2 i) (k0_off2_inb i) be) = 1#1)
    (h2 : ¬k0_cond2 i (wordAt c (Memref.whole main_arg1) ![0] inb_S1_S1_0 nu) = 1#1)
    (h3 : k0_cond3 i (wordAt c (Memref.whole main_arg1) ![0] inb_S1_S1_0 nu) = 1#1) (E : Set ℕ) (K : PUnit → sProp 𝕄) :
    iprop(inputs c arg3 arg4 arg5 arg6 arg7 x0 x1 x2 x3 x4 be nu ∗ (∃ d, owns (c : Thread nD τ) arg8 fullShare d)
        ∗ (∃ d, owns (c : Thread nD τ) arg9 fullShare d) ∗ (∃ d, owns (c : Thread nD τ) arg10 fullShare d)
        ∗ (iprop(inputs c arg3 arg4 arg5 arg6 arg7 x0 x1 x2 x3 x4 be nu ∗ owns (c : Thread nD τ) arg8 fullShare k0_pay4
            ∗ owns (c : Thread nD τ) arg9 fullShare (k0_pay1 x1) ∗ owns (c : Thread nD τ) arg10 fullShare (k0_pay2 x3)) -∗ K ⟨⟩))
      ⊢ wp frame (wpE (defs₀ (F := F)) Variants.none c none) E
          (bodyProg i arg3 harg3 arg4 harg4 arg5 harg5 arg6 harg6 arg7 harg7 arg8 harg8 arg9 harg9 arg10 harg10) K := by
  unfold bodyProg
  simp only [cc0_experts_eq_skeleton]; unfold cc0_experts_skel
  unfold inputs owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, ⟨%ds0, %fs0, -, HS0⟩, ⟨%ds1, %fs1, -, HS1⟩, Hk⟩
  subst hf0 hf1 hf2 hf3 hf4
  sl_exec (disch := first | sl_exact hf | sl_exact h2 | sl_exact h3)
  sl_step
  iapply Hk
  isplitl [H0 H1 H2 H3 H4 HT0 HT1]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [HT0]; · iexact HT0
    iexact HT1
  isplitl [H5]
  · iexists _; isplitr; swap; · iexact H5
    ipureintro; exact View.read_writes_full _ _ _ _ _
  isplitl [HS0]
  · iexists _; isplitr; swap; · iexact HS0
    ipureintro; exact (by exact (View.read_writes_full _ _ _ _ _).trans (congrArg k0_pay1 (View.readAt_full _ _ _)))
  iexists _; isplitr; swap; · iexact HS1
  ipureintro; exact (by exact (View.read_writes_full _ _ _ _ _).trans (congrArg k0_pay2 (View.readAt_full _ _ _)))

set_option maxHeartbeats 1000000 in
/-- A point of the same expert as before whose block is in use. -/
theorem run_same_used
    (hf : ¬fresh i (wordAt c (Memref.whole main_arg0) (k0_off1 i) (k0_off1_inb i) be) (wordAt c (Memref.whole main_arg0) (k0_off2 i) (k0_off2_inb i) be) = 1#1)
    (h2 : k0_cond2 i (wordAt c (Memref.whole main_arg1) ![0] inb_S1_S1_0 nu) = 1#1)
    (h3 : ¬k0_cond3 i (wordAt c (Memref.whole main_arg1) ![0] inb_S1_S1_0 nu) = 1#1) (E : Set ℕ) (K : PUnit → sProp 𝕄) :
    iprop(inputs c arg3 arg4 arg5 arg6 arg7 x0 x1 x2 x3 x4 be nu ∗ (∃ d, owns (c : Thread nD τ) arg8 fullShare d)
        ∗ owns (c : Thread nD τ) arg9 fullShare s0 ∗ owns (c : Thread nD τ) arg10 fullShare s1
        ∗ (iprop(inputs c arg3 arg4 arg5 arg6 arg7 x0 x1 x2 x3 x4 be nu ∗ owns (c : Thread nD τ) arg8 fullShare (k0_pay3 x0 s0 x2 s1 x4)
            ∗ owns (c : Thread nD τ) arg9 fullShare s0 ∗ owns (c : Thread nD τ) arg10 fullShare s1) -∗ K ⟨⟩))
      ⊢ wp frame (wpE (defs₀ (F := F)) Variants.none c none) E
          (bodyProg i arg3 harg3 arg4 harg4 arg5 harg5 arg6 harg6 arg7 harg7 arg8 harg8 arg9 harg9 arg10 harg10) K := by
  unfold bodyProg
  simp only [cc0_experts_eq_skeleton]; unfold cc0_experts_skel
  unfold inputs owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, ⟨%fs0, %hs0, HS0⟩, ⟨%fs1, %hs1, HS1⟩, Hk⟩
  subst hf0 hf1 hf2 hf3 hf4 hs0 hs1
  sl_exec (disch := first | sl_exact hf | sl_exact h2 | sl_exact h3)
  sl_step
  iapply Hk
  isplitl [H0 H1 H2 H3 H4 HT0 HT1]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [HT0]; · iexact HT0
    iexact HT1
  isplitl [H5]
  · iexists _; isplitr; swap; · iexact H5
    ipureintro; exact (View.read_writes_full _ _ _ _ _).trans
      (pay3_congr (View.readAt_full _ _ _) (View.readAt_full _ _ _) (View.readAt_full _ _ _) (View.readAt_full _ _ _) (View.readAt_full _ _ _))
  isplitl [HS0]
  · iexists _; isplitr; swap; · iexact HS0
    ipureintro; exact rfl
  iexists _; isplitr; swap; · iexact HS1
  ipureintro; exact rfl

set_option maxHeartbeats 1000000 in
/-- A point of the same expert as before whose block is not in use. -/
theorem run_same_unused
    (hf : ¬fresh i (wordAt c (Memref.whole main_arg0) (k0_off1 i) (k0_off1_inb i) be) (wordAt c (Memref.whole main_arg0) (k0_off2 i) (k0_off2_inb i) be) = 1#1)
    (h2 : ¬k0_cond2 i (wordAt c (Memref.whole main_arg1) ![0] inb_S1_S1_0 nu) = 1#1)
    (h3 : k0_cond3 i (wordAt c (Memref.whole main_arg1) ![0] inb_S1_S1_0 nu) = 1#1) (E : Set ℕ) (K : PUnit → sProp 𝕄) :
    iprop(inputs c arg3 arg4 arg5 arg6 arg7 x0 x1 x2 x3 x4 be nu ∗ (∃ d, owns (c : Thread nD τ) arg8 fullShare d)
        ∗ owns (c : Thread nD τ) arg9 fullShare s0 ∗ owns (c : Thread nD τ) arg10 fullShare s1
        ∗ (iprop(inputs c arg3 arg4 arg5 arg6 arg7 x0 x1 x2 x3 x4 be nu ∗ owns (c : Thread nD τ) arg8 fullShare k0_pay4
            ∗ owns (c : Thread nD τ) arg9 fullShare s0 ∗ owns (c : Thread nD τ) arg10 fullShare s1) -∗ K ⟨⟩))
      ⊢ wp frame (wpE (defs₀ (F := F)) Variants.none c none) E
          (bodyProg i arg3 harg3 arg4 harg4 arg5 harg5 arg6 harg6 arg7 harg7 arg8 harg8 arg9 harg9 arg10 harg10) K := by
  unfold bodyProg
  simp only [cc0_experts_eq_skeleton]; unfold cc0_experts_skel
  unfold inputs owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, ⟨%fs0, %hs0, HS0⟩, ⟨%fs1, %hs1, HS1⟩, Hk⟩
  subst hf0 hf1 hf2 hf3 hf4 hs0 hs1
  sl_exec (disch := first | sl_exact hf | sl_exact h2 | sl_exact h3)
  sl_step
  iapply Hk
  isplitl [H0 H1 H2 H3 H4 HT0 HT1]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [HT0]; · iexact HT0
    iexact HT1
  isplitl [H5]
  · iexists _; isplitr; swap; · iexact H5
    ipureintro; exact View.read_writes_full _ _ _ _ _
  isplitl [HS0]
  · iexists _; isplitr; swap; · iexact HS0
    ipureintro; exact rfl
  iexists _; isplitr; swap; · iexact HS1
  ipureintro; exact rfl

/-- Whether a block is in use is one of the two conditions, and the other is its negation. -/
theorem cond3_iff (v : BitVec 32) : k0_cond3 i v = 1#1 ↔ ¬k0_cond2 i v = 1#1 := by
  have hb : ∀ b : Bool, Scalar.cmpi .ne (Scalar.extui (BitVec.ofBool b) : BitVec 32) 0#32 = BitVec.ofBool b := by decide
  have h3 : k0_cond3 i v = BitVec.ofBool (v.sle (BitVec.ofNat 32 (i 0).val)) := hb _
  have h2 : k0_cond2 i v = BitVec.ofBool ((BitVec.ofNat 32 (i 0).val).slt v) := hb _
  have e1 : ∀ b : Bool, BitVec.ofBool b = 1#1 ↔ b = true := by decide
  rw [h3, h2, e1, e1, BitVec.sle_eq_decide, BitVec.slt_eq_decide, decide_eq_true_iff, decide_eq_true_iff, not_lt]

/-- A point that rounds nothing is not the first, and its expert is the point before's. -/
theorem of_not_fresh {now before : BitVec 32} (h : ¬fresh i now before = 1#1) : BitVec.ofNat 32 (i 0).val ≠ 0#32 ∧ before = now := by
  have hb : ∀ a b : Bool, ¬Scalar.cmpi .ne (Scalar.extui (Scalar.ori (BitVec.ofBool a) (BitVec.ofBool b)) : BitVec 32) 0#32 = 1#1 → a = false ∧ b = false := by decide
  have h' := hb (BitVec.ofNat 32 (i 0).val == 0#32) (before != now) h
  exact ⟨by simpa using h'.1, by simpa using h'.2⟩

/-- The first point rounds its expert's weights. -/
theorem fresh_first (now before : BitVec 32) (h0 : (i 0).val = 0) : fresh i now before = 1#1 := by
  by_contra h
  exact (of_not_fresh i h).1 (by rw [h0])

/-- What the body leaves of a block: its rows through the expert where the block is in use, zeros where it is not. -/
def blockOut (used : Prop) [Decidable used] : Vec F S256x8x128 .f32 := if used then k0_pay3 x0 (k0_pay1 x1) x2 (k0_pay2 x3) x4 else k0_pay4

/-- The point's run: from scratch buffers that hold the expert's rounded weights already, unless the point rounds them itself, to
    scratch buffers that hold them and the block's result. -/
theorem run_point
    (hs : ¬fresh i (wordAt c (Memref.whole main_arg0) (k0_off1 i) (k0_off1_inb i) be) (wordAt c (Memref.whole main_arg0) (k0_off2 i) (k0_off2_inb i) be) = 1#1 →
      s0 = k0_pay1 x1 ∧ s1 = k0_pay2 x3) (E : Set ℕ) (K : PUnit → sProp 𝕄) :
    iprop(inputs c arg3 arg4 arg5 arg6 arg7 x0 x1 x2 x3 x4 be nu ∗ (∃ d, owns (c : Thread nD τ) arg8 fullShare d)
        ∗ owns (c : Thread nD τ) arg9 fullShare s0 ∗ owns (c : Thread nD τ) arg10 fullShare s1
        ∗ (iprop(inputs c arg3 arg4 arg5 arg6 arg7 x0 x1 x2 x3 x4 be nu
            ∗ owns (c : Thread nD τ) arg8 fullShare (blockOut x0 x1 x2 x3 x4 (k0_cond2 i (wordAt c (Memref.whole main_arg1) ![0] inb_S1_S1_0 nu) = 1#1))
            ∗ owns (c : Thread nD τ) arg9 fullShare (k0_pay1 x1) ∗ owns (c : Thread nD τ) arg10 fullShare (k0_pay2 x3)) -∗ K ⟨⟩))
      ⊢ wp frame (wpE (defs₀ (F := F)) Variants.none c none) E
          (bodyProg i arg3 harg3 arg4 harg4 arg5 harg5 arg6 harg6 arg7 harg7 arg8 harg8 arg9 harg9 arg10 harg10) K := by
  unfold blockOut
  by_cases hf : fresh i (wordAt c (Memref.whole main_arg0) (k0_off1 i) (k0_off1_inb i) be) (wordAt c (Memref.whole main_arg0) (k0_off2 i) (k0_off2_inb i) be) = 1#1
  · by_cases h2 : k0_cond2 i (wordAt c (Memref.whole main_arg1) ![0] inb_S1_S1_0 nu) = 1#1
    · rw [if_pos h2]
      iintro ⟨HI, H8, H9, H10, Hk⟩
      iapply run_fresh_used c i arg3 harg3 arg4 harg4 arg5 harg5 arg6 harg6 arg7 harg7 arg8 harg8 arg9 harg9 arg10 harg10 x0 x1 x2 x3 x4 be nu hf h2
        (fun h => (cond3_iff i _).mp h h2)
      isplitl [HI]; · iexact HI
      isplitl [H8]; · iexact H8
      isplitl [H9]; · iexists _; iexact H9
      isplitl [H10]; · iexists _; iexact H10
      iexact Hk
    · rw [if_neg h2]
      iintro ⟨HI, H8, H9, H10, Hk⟩
      iapply run_fresh_unused c i arg3 harg3 arg4 harg4 arg5 harg5 arg6 harg6 arg7 harg7 arg8 harg8 arg9 harg9 arg10 harg10 x0 x1 x2 x3 x4 be nu hf h2
        ((cond3_iff i _).mpr h2)
      isplitl [HI]; · iexact HI
      isplitl [H8]; · iexact H8
      isplitl [H9]; · iexists _; iexact H9
      isplitl [H10]; · iexists _; iexact H10
      iexact Hk
  · obtain ⟨rfl, rfl⟩ := hs hf
    by_cases h2 : k0_cond2 i (wordAt c (Memref.whole main_arg1) ![0] inb_S1_S1_0 nu) = 1#1
    · rw [if_pos h2]
      exact run_same_used c i arg3 harg3 arg4 harg4 arg5 harg5 arg6 harg6 arg7 harg7 arg8 harg8 arg9 harg9 arg10 harg10 x0 x1 x2 x3 x4 _ _ be nu hf h2
        (fun h => (cond3_iff i _).mp h h2) E K
    · rw [if_neg h2]
      exact run_same_unused c i arg3 harg3 arg4 harg4 arg5 harg5 arg6 harg6 arg7 harg7 arg8 harg8 arg9 harg9 arg10 harg10 x0 x1 x2 x3 x4 _ _ be nu hf h2
        ((cond3_iff i _).mpr h2) E K

end Run

end Cert.ExpertsIdeal.Blocks

end
-- ==== Proof.ExpertsLaunch.lean ====
/- The experts kernel's launch: the scratch buffers carry the rounded weights of the expert the last point worked with, so that
   what every point leaves in its block of the result is a closed form of the tables' words and of its operands' blocks. -/
module

public import proofs.«01_k».proof.Proof.ExpertsRun
public import Idealize.ShloMosaic.Lib.Pipeline.ValueKit

@[expose] public section

set_option maxRecDepth 16384

noncomputable section

namespace Cert.ExpertsIdeal.Blocks

open Cert.ExpertsIdeal Cert.ExpertsIdeal.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- A core's buffers after the four reshapes of the weights. -/
abbrev V (c : Dev nD) (b : Ref sig .tc) : Buf (Elt F) ((c : Thread nD τ).loc b) := StableHlo.after hostOps0 (fun b => m (c, b)) b

theorem reshapes_fresh : (hostOps0 : List (HloOp τ sig (Elt F))).Forall fun op => op.fresh = ∅ := by
  simp only [List.Forall]; repeat' constructor

/-- A buffer that is none of the four reshaped weights is as launched. -/
theorem V_launched (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2, StableHlo.devRef_ne_of_ne h3⟩))

/-- The two tables' words. -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- What is asked of the tables: every block's expert's weights lie inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(half c (Memref.whole main_arg0) (tbl m 0) ∗ half c (Memref.whole main_arg1) (tbl m 1)) := by
  unfold Pipeline.ΦT Pipeline.prefHeld
  rw [show (Finset.univ : Finset (Fin 2)) = insert (0 : Fin 2) {(1 : Fin 2)} from by decide, bigSep_insert (by decide), bigSep_singleton]
  rfl

abbrev sc0 : Memref sig .tc .vmem S1024x2048 .bf16 := Memref.whole cc0_scratch0
abbrev sc1 : Memref sig .tc .vmem S1024x1024 .bf16 := Memref.whole cc0_scratch1

theorem scratch_eq (c : Dev nD) : (Pipeline.ΦA spec0 c : sProp 𝕄)
    = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The tables' words at a point -/

/-- The expert of a block. -/
def expert (t : Fin 304) : BitVec 32 := (tbl m 0 : S304.Idx → BitVec 32) (ix1 t)

/-- The number of blocks in use. -/
def inUse : BitVec 32 := (tbl m 1 : S1.Idx → BitVec 32) (ix1 (0 : Fin 1))

theorem word0 (c : Dev nD) (off : Fin 1 → ℕ) (h) (t : Fin 304) (ht : off 0 = t.val) :
    wordAt c (Memref.whole main_arg0) off h (tbl m 0) = expert m t := by
  unfold wordAt expert
  refine congrArg (tbl m 0 : S304.Idx → BitVec 32) (funext fun a => ?_)
  match a with
  | ⟨0, _⟩ => exact Fin.ext (show off 0 + 1 * 0 = t.val by omega)

theorem word1 (c : Dev nD) (off : Fin 1 → ℕ) (h) : wordAt c (Memref.whole main_arg1) off h (tbl m 1) = inUse m := by
  unfold wordAt inUse
  refine congrArg (tbl m 1 : S1.Idx → BitVec 32) (funext fun a => ?_)
  match a with
  | ⟨0, _⟩ => exact Subsingleton.elim (α := Fin 1) _ _

theorem coord_val (t : Fin grid0.N) : (grid0.coords t 0).val = t.val := by
  have ht : t.val < 304 := Nat.lt_of_lt_of_eq t.isLt N_0
  have e0 : (grid0.coords t 0).val = t.val / 1 % 304 := Pipeline.Grid.coords_val t 0 (by decide) rfl
  rw [e0, Nat.div_one, Nat.mod_eq_of_lt ht]

theorem off1_val (t : Fin grid0.N) : k0_off1 (grid0.coords t) 0 = t.val := by
  have ht : t.val < 304 := Nat.lt_of_lt_of_eq t.isLt N_0
  show (BitVec.ofNat 32 (grid0.coords t 0).val).toNat = t.val
  rw [coord_val, BitVec.toNat_ofNat, Nat.mod_eq_of_lt (by omega)]

theorem off2_val (t : Fin grid0.N) (h : t.val ≠ 0) : k0_off2 (grid0.coords t) 0 = t.val - 1 := by
  have ht : t.val < 304 := Nat.lt_of_lt_of_eq t.isLt N_0
  show (Scalar.maxsi (Scalar.subi (BitVec.ofNat 32 (grid0.coords t 0).val) 1#32) 0#32 : BitVec 32).toNat = t.val - 1
  rw [coord_val]
  have key : ∀ n : Fin 304, n.val ≠ 0 → (Scalar.maxsi (Scalar.subi (BitVec.ofNat 32 n.val) 1#32) 0#32 : BitVec 32).toNat = n.val - 1 := by decide +kernel
  exact key ⟨t.val, ht⟩ h

/-! ## The windows' blocks -/

/-- The block of window `w` at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The row of the weights a block's expert is at. -/
def sel (t : Fin 304) : Fin 64 := ⟨(32#32 + expert m t).toNat % 64, Nat.mod_lt _ (by decide)⟩

theorem iblk_0 (hO : Ok m) (c : Dev nD) (t : Fin grid0.N) (ht : t.val < 304) (y : S256x8x128.Idx) :
    (iblk m hO c 0 t : S256x8x128.Idx → F .f32) y
      = (V m c main_arg2 : S77824x8x128.Idx → F .f32) (ix3 ⟨256 * t.val + (y 0).val, by have : (y 0).val < 256 := (y 0).isLt; omega⟩ (y 1) (y 2)) := by
  have hw : (BitVec.ofNat 32 (grid0.coords t 0).val).toNat = t.val := by
    rw [coord_val, BitVec.toNat_ofNat, Nat.mod_eq_of_lt (by omega)]
  unfold iblk
  refine congrArg (V m c main_arg2 : S77824x8x128.Idx → F .f32) (funext fun a => Fin.ext ?_)
  match a with
  | ⟨0, _⟩ =>
    show (BitVec.ofNat 32 (grid0.coords t 0).val).toNat * 256 + 1 * (y 0).val = 256 * t.val + (y 0).val
    rw [hw]; omega
  | ⟨1, _⟩ => show 0 * 8 + 1 * (y 1).val = (y 1).val; omega
  | ⟨2, _⟩ => show 0 * 128 + 1 * (y 2).val = (y 2).val; omega

theorem sel_val (hO : Ok m) (t : Fin grid0.N) (ht : t.val < 304) :
    cc0_transform_1 k0_off1_inb numel1_S1 (tbl m) (grid0.coords t) 0 = (sel m ⟨t.val, ht⟩).val := by
  have hb : cc0_transform_1 k0_off1_inb numel1_S1 (tbl m) (grid0.coords t) 0 = (32#32 + expert m ⟨t.val, ht⟩).toNat :=
    congrArg (fun w : BitVec 32 => (32#32 + w).toNat) (word0 m 0 (k0_off1 (grid0.coords t)) (k0_off1_inb (grid0.coords t)) ⟨t.val, ht⟩ (off1_val t))
  obtain ⟨h, -⟩ := hO.1 (grid0.coords t)
  have h0 : (cc0_transform_1 k0_off1_inb numel1_S1 (tbl m) (grid0.coords t) 0 + 1) * 1 ≤ 64 := h 0
  rw [hb] at h0 ⊢
  show _ = (32#32 + expert m ⟨t.val, ht⟩).toNat % 64
  omega

theorem iblk_1 (hO : Ok m) (c : Dev nD) (t : Fin grid0.N) (ht : t.val < 304) (y : S1x1024x2048.Idx) :
    (iblk m hO c 1 t : S1x1024x2048.Idx → F .f32) y = (V m c main_v0 : S64x1024x2048.Idx → F .f32) (ix3 (sel m ⟨t.val, ht⟩) (y 1) (y 2)) := by
  have hw := sel_val m hO t ht
  have hy : (y 0).val < 1 := (y 0).isLt
  unfold iblk
  refine congrArg (V m c main_v0 : S64x1024x2048.Idx → F .f32) (funext fun a => Fin.ext ?_)
  match a with
  | ⟨0, _⟩ =>
    show cc0_transform_1 k0_off1_inb numel1_S1 (tbl m) (grid0.coords t) 0 * 1 + 1 * (y 0).val = (sel m ⟨t.val, ht⟩).val
    rw [hw]; omega
  | ⟨1, _⟩ => show 0 * 1024 + 1 * (y 1).val = (y 1).val; omega
  | ⟨2, _⟩ => show 0 * 2048 + 1 * (y 2).val = (y 2).val; omega

theorem iblk_2 (hO : Ok m) (c : Dev nD) (t : Fin grid0.N) (ht : t.val < 304) (y : S1x1x2048.Idx) :
    (iblk m hO c 2 t : S1x1x2048.Idx → F .f32) y = (V m c main_v1 : S64x1x2048.Idx → F .f32) (ix3 (sel m ⟨t.val, ht⟩) (y 1) (y 2)) := by
  have hw := sel_val m hO t ht
  have hy : (y 0).val < 1 := (y 0).isLt
  unfold iblk
  refine congrArg (V m c main_v1 : S64x1x2048.Idx → F .f32) (funext fun a => Fin.ext ?_)
  match a with
  | ⟨0, _⟩ =>
    show cc0_transform_1 k0_off1_inb numel1_S1 (tbl m) (grid0.coords t) 0 * 1 + 1 * (y 0).val = (sel m ⟨t.val, ht⟩).val
    rw [hw]; omega
  | ⟨1, _⟩ => show 0 * 1 + 1 * (y 1).val = (y 1).val; omega
  | ⟨2, _⟩ => show 0 * 2048 + 1 * (y 2).val = (y 2).val; omega

theorem iblk_3 (hO : Ok m) (c : Dev nD) (t : Fin grid0.N) (ht : t.val < 304) (y : S1x1024x1024.Idx) :
    (iblk m hO c 3 t : S1x1024x1024.Idx → F .f32) y = (V m c main_v2 : S64x1024x1024.Idx → F .f32) (ix3 (sel m ⟨t.val, ht⟩) (y 1) (y 2)) := by
  have hw := sel_val m hO t ht
  have hy : (y 0).val < 1 := (y 0).isLt
  unfold iblk
  refine congrArg (V m c main_v2 : S64x1024x1024.Idx → F .f32) (funext fun a => Fin.ext ?_)
  match a with
  | ⟨0, _⟩ =>
    show cc0_transform_1 k0_off1_inb numel1_S1 (tbl m) (grid0.coords t) 0 * 1 + 1 * (y 0).val = (sel m ⟨t.val, ht⟩).val
    rw [hw]; omega
  | ⟨1, _⟩ => show 0 * 1024 + 1 * (y 1).val = (y 1).val; omega
  | ⟨2, _⟩ => show 0 * 1024 + 1 * (y 2).val = (y 2).val; omega

theorem iblk_4 (hO : Ok m) (c : Dev nD) (t : Fin grid0.N) (ht : t.val < 304) (y : S1x1x1024.Idx) :
    (iblk m hO c 4 t : S1x1x1024.Idx → F .f32) y = (V m c main_v3 : S64x1x1024.Idx → F .f32) (ix3 (sel m ⟨t.val, ht⟩) (y 1) (y 2)) := by
  have hw := sel_val m hO t ht
  have hy : (y 0).val < 1 := (y 0).isLt
  unfold iblk
  refine congrArg (V m c main_v3 : S64x1x1024.Idx → F .f32) (funext fun a => Fin.ext ?_)
  match a with
  | ⟨0, _⟩ =>
    show cc0_transform_1 k0_off1_inb numel1_S1 (tbl m) (grid0.coords t) 0 * 1 + 1 * (y 0).val = (sel m ⟨t.val, ht⟩).val
    rw [hw]; omega
  | ⟨1, _⟩ => show 0 * 1 + 1 * (y 1).val = (y 1).val; omega
  | ⟨2, _⟩ => show 0 * 1024 + 1 * (y 2).val = (y 2).val; omega

/-! ## What the points leave -/

theorem lt_304 (hO : Ok m) (t : Fin (cfgM m hO).N) : t.val < 304 := Nat.lt_of_lt_of_eq t.isLt N_0

/-- The first weights' block at a point, and the second's. -/
abbrev gateUp (hO : Ok m) (c : Dev nD) (t : Fin (cfgM m hO).N) : Vec F S1x1024x2048 .f32 := iblk m hO c 1 t
abbrev down (hO : Ok m) (c : Dev nD) (t : Fin (cfgM m hO).N) : Vec F S1x1024x1024 .f32 := iblk m hO c 3 t

/-- Two points with one expert have one pair of weights' blocks. -/
theorem weights_same (hO : Ok m) (c : Dev nD) (t t' : Fin (cfgM m hO).N) (h : expert m ⟨t'.val, lt_304 m hO t'⟩ = expert m ⟨t.val, lt_304 m hO t⟩) :
    gateUp m hO c t' = gateUp m hO c t ∧ down m hO c t' = down m hO c t := by
  have hs : sel m ⟨t'.val, lt_304 m hO t'⟩ = sel m ⟨t.val, lt_304 m hO t⟩ :=
    Fin.ext (congrArg (fun w : BitVec 32 => (32#32 + w).toNat % 64) h)
  constructor
  · funext y
    exact (iblk_1 m hO c t' (lt_304 m hO t') y).trans ((congrArg (fun k => (V m c main_v0 : S64x1024x2048.Idx → F .f32) (ix3 k (y 1) (y 2))) hs).trans
      (iblk_1 m hO c t (lt_304 m hO t) y).symm)
  · funext y
    exact (iblk_3 m hO c t' (lt_304 m hO t') y).trans ((congrArg (fun k => (V m c main_v2 : S64x1024x1024.Idx → F .f32) (ix3 k (y 1) (y 2))) hs).trans
      (iblk_3 m hO c t (lt_304 m hO t) y).symm)

/-- A point's block is in use. -/
abbrev Used (t : Fin grid0.N) : Prop := k0_cond2 (grid0.coords t) (inUse m) = 1#1

/-- What a point leaves in its block of the result. -/
def left (hO : Ok m) (c : Dev nD) (t : Fin (cfgM m hO).N) : Vec F S256x8x128 .f32 :=
  blockOut (iblk m hO c 0 t) (gateUp m hO c t) (iblk m hO c 2 t) (down m hO c t) (iblk m hO c 4 t) (Used m t)

/-- The invariant before point `n`: the scratch buffers hold the rounded weights of the point before's expert. -/
def inv (hO : Ok m) (c : Dev nD) : (n : ℕ) → n ≤ (cfgM m hO).N → sProp 𝕄
  | 0, _ => iprop(Pipeline.ΦA spec0 c ∗ Pipeline.ΦT pre0 (tbl m) c)
  | n + 1, hn => iprop(((owns (c : Thread nD τ) sc0 fullShare (k0_pay1 (gateUp m hO c ⟨n, hn⟩)) ∗ owns (c : Thread nD τ) sc1 fullShare (k0_pay2 (down m hO c ⟨n, hn⟩)))
      ∗ (∃ r, prngReg c r)) ∗ Pipeline.ΦT pre0 (tbl m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => left m hO c t
  Φ t := inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = left m hO c t := by dsimp only [dats]; try rfl

/-- An input's staging buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The result's block is written back at every point. -/
theorem flush_5 (hO : Ok m) (t : Fin (cfgM m hO).N) : ((cfgM m hO).win 5).flush t = true :=
  (fun t => (Pipeline.Window.flushOf_reads cc0_transform_5 reads0_5 hreads0_5 0 (by decide) (by decide)
      (Pipeline.Window.sep_of_coord cc0_transform_5 0 0 (fun _ => rfl) (by decide)) (P := 1) (m := 0) (by decide) rfl t).mpr (Nat.mod_one _)
    : ∀ t : Fin grid0.N, Pipeline.Window.flushOf grid0 true cc0_transform_5 t = true) t

/-- A block that is written back is left as stated, whether or not its window is called idle there. -/
theorem left_of_flush (b f : Bool) (P Q : sProp 𝕄) :
    f = true → (P ⊢ (match b with | true => (match f with | false => Q | true => P) | false => P)) := by
  rintro rfl
  cases b <;> exact .rfl

theorem row_eq (hO : Ok m) (t : Fin (cfgM m hO).N) :
    defs₀ (F := F) .tc (cfgM m hO).body ((cfgM m hO).bodyArgs t ((cfgM m hO).slots t))
      = bodyProg (grid0.coords t) (spec0_0.stage ((cfgM m hO).slots t 0)) (hstage0_0 (((cfgM m hO).slots t 0).cast nbuf0_0))
          (spec0_1.stage ((cfgM m hO).slots t 1)) (hstage0_1 (((cfgM m hO).slots t 1).cast nbuf0_1))
          (spec0_2.stage ((cfgM m hO).slots t 2)) (hstage0_2 (((cfgM m hO).slots t 2).cast nbuf0_2))
          (spec0_3.stage ((cfgM m hO).slots t 3)) (hstage0_3 (((cfgM m hO).slots t 3).cast nbuf0_3))
          (spec0_4.stage ((cfgM m hO).slots t 4)) (hstage0_4 (((cfgM m hO).slots t 4).cast nbuf0_4))
          (spec0_5.stage ((cfgM m hO).slots t 5)) (hstage0_5 (((cfgM m hO).slots t 5).cast nbuf0_5))
          sc0 (Memref.isWhole_whole _) sc1 (Memref.isWhole_whole _) := by
  unfold defs₀; rw [Defs.onTc_tc]

/-- Before a point the scratch buffers hold something, and the point's own rounded weights unless it rounds them. -/
theorem inv_open (hO : Ok m) (c : Dev nD) (t : Fin (cfgM m hO).N) :
    inv m hO c t.val (Nat.le_of_lt t.isLt) ⊢ iprop(∃ s0 s1, ⌜¬fresh (grid0.coords t) (wordAt c (Memref.whole main_arg0) (k0_off1 (grid0.coords t)) (k0_off1_inb (grid0.coords t)) (tbl m 0))
          (wordAt c (Memref.whole main_arg0) (k0_off2 (grid0.coords t)) (k0_off2_inb (grid0.coords t)) (tbl m 0)) = 1#1
            → s0 = k0_pay1 (gateUp m hO c t) ∧ s1 = k0_pay2 (down m hO c t)⌝
        ∗ owns (c : Thread nD τ) sc0 fullShare s0 ∗ owns (c : Thread nD τ) sc1 fullShare s1 ∗ (∃ r, prngReg c r)
        ∗ half c (Memref.whole main_arg0) (tbl m 0) ∗ half c (Memref.whole main_arg1) (tbl m 1)) := by
  obtain ⟨n, hn⟩ := t
  cases n with
  | zero =>
    show iprop(Pipeline.ΦA spec0 c ∗ Pipeline.ΦT pre0 (tbl m) c) ⊢ _
    rw [scratch_eq, tables_eq]
    iintro ⟨⟨⟨⟨%s0, H0⟩, ⟨%s1, H1⟩⟩, Hp⟩, Ha, Hb⟩
    iexists s0; iexists s1
    isplitr
    · ipureintro; exact fun h => absurd (fresh_first (grid0.coords ⟨0, hn⟩) _ _ (coord_val ⟨0, hn⟩)) h
    isplitl [H0]; · iexact H0
    isplitl [H1]; · iexact H1
    isplitl [Hp]; · iexact Hp
    isplitl [Ha]; · iexact Ha
    iexact Hb
  | succ n =>
    show iprop(((owns (c : Thread nD τ) sc0 fullShare (k0_pay1 (gateUp m hO c ⟨n, Nat.lt_of_succ_lt hn⟩)) ∗ owns (c : Thread nD τ) sc1 fullShare (k0_pay2 (down m hO c ⟨n, Nat.lt_of_succ_lt hn⟩)))
      ∗ (∃ r, prngReg c r)) ∗ Pipeline.ΦT pre0 (tbl m) c) ⊢ _
    rw [tables_eq]
    iintro ⟨⟨⟨H0, H1⟩, Hp⟩, Ha, Hb⟩
    iexists _; iexists _
    isplitr
    rotate_left
    · isplitl [H0]; · iexact H0
      isplitl [H1]; · iexact H1
      isplitl [Hp]; · iexact Hp
      isplitl [Ha]; · iexact Ha
      iexact Hb
    ipureintro
    intro h
    have hw := (of_not_fresh _ h).2
    rw [word0 m c _ _ ⟨n + 1, lt_304 m hO ⟨n + 1, hn⟩⟩ (off1_val ⟨n + 1, hn⟩),
      word0 m c _ _ ⟨n, Nat.lt_of_succ_lt (lt_304 m hO ⟨n + 1, hn⟩)⟩ (off2_val ⟨n + 1, hn⟩ (Nat.succ_ne_zero n))] at hw
    obtain ⟨e1, e2⟩ := weights_same m hO c ⟨n + 1, hn⟩ ⟨n, Nat.lt_of_succ_lt hn⟩ hw
    rw [e1, e2]
    exact ⟨rfl, rfl⟩

theorem inv_castSucc (hO : Ok m) (c : Dev nD) (t : Fin (cfgM m hO).N) : (dats m hO 0 c).Φ t.castSucc = inv m hO c t.val (Nat.le_of_lt t.isLt) := by
  dsimp only [dats]; exact Pipeline.Dat.Φ_castSucc (inv m hO c) t

theorem inv_succ (hO : Ok m) (c : Dev nD) (n : ℕ) (hn : n + 1 ≤ (cfgM m hO).N) : inv m hO c (n + 1) hn
    = iprop(((owns (c : Thread nD τ) sc0 fullShare (k0_pay1 (gateUp m hO c ⟨n, hn⟩)) ∗ owns (c : Thread nD τ) sc1 fullShare (k0_pay2 (down m hO c ⟨n, hn⟩)))
      ∗ (∃ r, prngReg c r)) ∗ Pipeline.ΦT pre0 (tbl m) c) := rfl

/-- One point of the region, on any whole staging buffers: the inputs' blocks stay, the result's block is left, and the
    invariant passes to the next point. `O` stands for what the core owes. -/
theorem point_holds (hO : Ok m) (c : Dev nD) (t : Fin (cfgM m hO).N) (O : sProp 𝕄)
    (arg3 : Memref sig .tc .vmem S256x8x128 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S256x8x128 .f32) (harg8 : arg8.IsWhole) :
    iprop(inv m hO c t.val (Nat.le_of_lt t.isLt) ∗ O
        ∗ owns (c : Thread nD τ) arg3 fullShare (iblk m hO c 0 t) ∗ owns (c : Thread nD τ) arg4 fullShare (gateUp m hO c t)
        ∗ owns (c : Thread nD τ) arg5 fullShare (iblk m hO c 2 t) ∗ owns (c : Thread nD τ) arg6 fullShare (down m hO c t)
        ∗ owns (c : Thread nD τ) arg7 fullShare (iblk m hO c 4 t) ∗ (∃ d, owns (c : Thread nD τ) arg8 fullShare d))
      ⊢ wp frame (wpE (defs₀ (F := F)) Variants.none c none) Set.univ
          (bodyProg (grid0.coords t) arg3 harg3 arg4 harg4 arg5 harg5 arg6 harg6 arg7 harg7 arg8 harg8 sc0 (Memref.isWhole_whole _) sc1 (Memref.isWhole_whole _))
          (fun _ => iprop(inv m hO c (t.val + 1) t.isLt ∗ O
            ∗ owns (c : Thread nD τ) arg3 fullShare (iblk m hO c 0 t) ∗ owns (c : Thread nD τ) arg4 fullShare (gateUp m hO c t)
            ∗ owns (c : Thread nD τ) arg5 fullShare (iblk m hO c 2 t) ∗ owns (c : Thread nD τ) arg6 fullShare (down m hO c t)
            ∗ owns (c : Thread nD τ) arg7 fullShare (iblk m hO c 4 t) ∗ owns (c : Thread nD τ) arg8 fullShare (left m hO c t))) := by
  iintro ⟨HI, Ho, H3, H4, H5, H6, H7, H8⟩
  ihave HI := (inv_open m hO c t) $$ HI
  icases HI with ⟨%s0, %s1, %hs, S0, S1, Hp, Ha, Hb⟩
  iapply (run_point c (grid0.coords t) arg3 harg3 arg4 harg4 arg5 harg5 arg6 harg6 arg7 harg7 arg8 harg8 sc0 (Memref.isWhole_whole _) sc1 (Memref.isWhole_whole _)
    (iblk m hO c 0 t) (gateUp m hO c t) (iblk m hO c 2 t) (down m hO c t) (iblk m hO c 4 t) s0 s1 (tbl m 0) (tbl m 1) hs)
  rw [word1 m c]
  isplitl [H3 H4 H5 H6 H7 Ha Hb]
  · isplitl [H3]; · iexact H3
    isplitl [H4]; · iexact H4
    isplitl [H5]; · iexact H5
    isplitl [H6]; · iexact H6
    isplitl [H7]; · iexact H7
    isplitl [Ha]; · iexact Ha
    iexact Hb
  isplitl [H8]; · iexact H8
  isplitl [S0]; · iexact S0
  isplitl [S1]; · iexact S1
  iintro ⟨⟨H3, H4, H5, H6, H7, Ha, Hb⟩, H8, S0, S1⟩
  isplitl [S0 S1 Hp Ha Hb]
  · rw [inv_succ, tables_eq]
    isplitl [S0 S1 Hp]
    · isplitl [S0 S1]
      · isplitl [S0]; · iexact S0
        iexact S1
      iexact Hp
    isplitl [Ha]; · iexact Ha
    iexact Hb
  isplitl [Ho]; · iexact Ho
  isplitl [H3]; · iexact H3
  isplitl [H4]; · iexact H4
  isplitl [H5]; · iexact H5
  isplitl [H6]; · iexact H6
  isplitl [H7]; · iexact H7
  iexact H8

/-- A buffer that may hold any of several things, all equal to one, holds that one. -/
theorem held_at {α : Type} (P : sProp 𝕄) (Q : α → sProp 𝕄) (h : ∀ d, Q d = P) : iprop(∃ d, Q d) ⊢ P := by
  obtain rfl : Q = fun _ => P := funext h
  iintro ⟨%d, H⟩
  iexact H

/-- A buffer that holds one of certain things holds something. -/
theorem held_some {α β : Type} (Q : α → sProp 𝕄) (f : β → α) : iprop(∃ d, Q (f d)) ⊢ iprop(∃ d, Q d) := by
  iintro ⟨%d, H⟩
  iexists (f d)
  iexact H

set_option maxHeartbeats 4000000 in
theorem body_obligation (hO : Ok m) (c : Dev nD) : BodyObligation (dats (F := F) m hO 0 c) (defs₀ (F := F)) Variants.none () Set.univ := fun t => by
  rw [bigSep_W0, bigSep_W0, row_eq, inv_castSucc]
  refine triple_restated (point_holds m hO c t ((dats m hO 0 c).owesAt () t.castSucc) _ _ _ _ _ _ _ _ _ _ _ _) rfl ?_ (fun _ => ?_)
  · exact Idealize.SL.BI.sep_mono (Idealize.SL.BI.Entails.refl _) <| Idealize.SL.BI.sep_mono (Idealize.SL.BI.Entails.refl _) <| Idealize.SL.BI.sep_mono (held_at _ _ fun d => congrArg (owns (c : Thread nD τ) (spec0_0.stage ((cfgM m hO).slots t 0)) fullShare) (before_0 m hO c t d)) <|
      Idealize.SL.BI.sep_mono (held_at _ _ fun d => congrArg (owns (c : Thread nD τ) (spec0_1.stage ((cfgM m hO).slots t 1)) fullShare) (before_1 m hO c t d)) <|
      Idealize.SL.BI.sep_mono (held_at _ _ fun d => congrArg (owns (c : Thread nD τ) (spec0_2.stage ((cfgM m hO).slots t 2)) fullShare) (before_2 m hO c t d)) <|
      Idealize.SL.BI.sep_mono (held_at _ _ fun d => congrArg (owns (c : Thread nD τ) (spec0_3.stage ((cfgM m hO).slots t 3)) fullShare) (before_3 m hO c t d)) <|
      Idealize.SL.BI.sep_mono (held_at _ _ fun d => congrArg (owns (c : Thread nD τ) (spec0_4.stage ((cfgM m hO).slots t 4)) fullShare) (before_4 m hO c t d)) <|
      held_some (owns (c : Thread nD τ) (spec0_5.stage ((cfgM m hO).slots t 5)) fullShare) ((dats m hO 0 c).before 5 t)
  · exact Idealize.SL.BI.sep_mono (Idealize.SL.BI.Entails.refl _) <| Idealize.SL.BI.sep_mono (Idealize.SL.BI.Entails.refl _) <| Idealize.SL.BI.sep_mono (Idealize.SL.BI.Entails.refl _) <| Idealize.SL.BI.sep_mono (Idealize.SL.BI.Entails.refl _) <| Idealize.SL.BI.sep_mono (Idealize.SL.BI.Entails.refl _) <| Idealize.SL.BI.sep_mono (Idealize.SL.BI.Entails.refl _) <| Idealize.SL.BI.sep_mono (Idealize.SL.BI.Entails.refl _) <|
      left_of_flush _ _ _ _ (flush_5 m hO t)

end Cert.ExpertsIdeal.Blocks

end
-- ==== Proof.ExpertsResult.lean ====
/- The experts kernel's whole run: it ends, its arguments as they were, its result the blocks its points leave. -/
module

public import proofs.«01_k».proof.Proof.ExpertsLaunch
public import proofs.«01_k».proof.Proof.Gen.ExpertsIdeal.Launch

@[expose] public section

set_option maxRecDepth 16384

noncomputable section

namespace Cert.ExpertsIdeal.Blocks

open Cert.ExpertsIdeal Cert.ExpertsIdeal.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub reshapes_fresh main_chain

theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

theorem hout (hO : Ok m) (c : Dev nD) : (dats m hO 0 c).Φ (Fin.last (cfgM m hO).N) ⊢ Pipeline.ΦA spec0 c := by
  have hlast : ∀ (n : ℕ) (hn : n ≤ (cfgM m hO).N), n ≠ 0 → (inv m hO c n hn ⊢ Pipeline.ΦA spec0 c) := by
    intro n hn h0
    cases n with
    | zero => exact absurd rfl h0
    | succ n =>
      rw [inv_succ, scratch_eq]
      iintro ⟨⟨⟨H0, H1⟩, Hp⟩, -⟩
      isplitl [H0 H1]
      · isplitl [H0]
        · iexists _; iexact H0
        iexists _; iexact H1
      iexact Hp
  exact hlast (cfgM m hO).N (Nat.le_refl _) (by have : (cfgM m hO).N = 304 := N_0; omega)

set_option backward.isDefEq.respectTransparency.types false in
/-- Every run ends, at the arrays and buffers the points leave, every semaphore at zero. -/
theorem run_launch (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_tbl m)
    (hin := hin m hO) (hout := hout m hO)

/-! ## The result -/

/-- Where a point's block of the result lies. -/
theorem place_5 (hO : Ok m) (t : Fin (cfgM m hO).N) (ht : t.val < 304) (y : S256x8x128.Idx) :
    ((((cfgM m hO).win 5).blk t).view.emb y : S77824x8x128.Idx)
      = ix3 ⟨256 * t.val + (y 0).val, by have : (y 0).val < 256 := (y 0).isLt; omega⟩ (y 1) (y 2) := by
  have hw : (BitVec.ofNat 32 (grid0.coords t 0).val).toNat = t.val := by
    rw [coord_val, BitVec.toNat_ofNat, Nat.mod_eq_of_lt (by omega)]
  funext a
  apply Fin.ext
  match a with
  | ⟨0, _⟩ =>
    show (BitVec.ofNat 32 (grid0.coords t 0).val).toNat * 256 + 1 * (y 0).val = 256 * t.val + (y 0).val
    rw [hw]; omega
  | ⟨1, _⟩ => show 0 * 8 + 1 * (y 1).val = (y 1).val; omega
  | ⟨2, _⟩ => show 0 * 128 + 1 * (y 2).val = (y 2).val; omega

/-- The block an element of the result is in, and the row of the block it is at. -/
def blockOf (hO : Ok m) (i : S77824x8x128.Idx) : Fin (cfgM m hO).N :=
  ⟨(i 0).val / 256, by have : (i 0).val < 77824 := (i 0).isLt; have hN : (cfgM m hO).N = 304 := N_0; rw [hN]; omega⟩
def rowOf (i : S77824x8x128.Idx) : S256x8x128.Idx := ix3 ⟨(i 0).val % 256, Nat.mod_lt _ (by decide)⟩ (i 1) (i 2)

/-- The whole result: at every element, what the point of its block leaves there. -/
def result (hO : Ok m) (c : Dev nD) : S77824x8x128.Idx → F .f32 := fun i => left m hO c (blockOf m hO i) (rowOf i)

theorem result_at (hO : Ok m) (c : Dev nD) (t : Fin (cfgM m hO).N) (ht : t.val < 304) (y : S256x8x128.Idx) :
    left m hO c t y = result m hO c (ix3 ⟨256 * t.val + (y 0).val, by have : (y 0).val < 256 := (y 0).isLt; omega⟩ (y 1) (y 2)) := by
  have hy : (y 0).val < 256 := (y 0).isLt
  have e1 : blockOf m hO (ix3 ⟨256 * t.val + (y 0).val, by omega⟩ (y 1) (y 2)) = t :=
    Fin.ext (by show (256 * t.val + (y 0).val) / 256 = t.val; omega)
  have e2 : rowOf (ix3 ⟨256 * t.val + (y 0).val, by omega⟩ (y 1) (y 2)) = y := by
    funext a
    apply Fin.ext
    match a with
    | ⟨0, _⟩ => show (256 * t.val + (y 0).val) % 256 = (y 0).val; omega
    | ⟨1, _⟩ => rfl
    | ⟨2, _⟩ => rfl
  unfold result
  rw [e1, e2]

/-- Every element of the result is in its block, at its row. -/
theorem placed (hO : Ok m) (i : S77824x8x128.Idx) : ((((cfgM m hO).win 5).blk (blockOf m hO i)).view.emb (rowOf i) : S77824x8x128.Idx) = i := by
  have ht : (blockOf m hO i).val < 304 := Nat.lt_of_lt_of_eq (blockOf m hO i).isLt N_0
  refine (place_5 m hO _ ht (rowOf i)).trans (funext fun a => Fin.ext ?_)
  match a with
  | ⟨0, _⟩ => show 256 * ((i 0).val / 256) + (i 0).val % 256 = (i 0).val; omega
  | ⟨1, _⟩ => rfl
  | ⟨2, _⟩ => rfl

theorem covered (hO : Ok m) (i : S77824x8x128.Idx) : ∃ t : Fin (cfgM m hO).N, ((cfgM m hO).win 5).flush t = true ∧ i ∈ (((cfgM m hO).win 5).blk t).view.set :=
  ⟨blockOf m hO i, flush_5 m hO _, (congrArg (fun j : S77824x8x128.Idx => j ∈ (((cfgM m hO).win 5).blk (blockOf m hO i)).view.set) (placed m hO i)).mp
    (View.emb_mem_set _ _)⟩

theorem array_5 (hO : Ok m) (c : Dev nD) : (dats m hO 0 c).arrAt 5 (cfgM m hO).N = result m hO c :=
  (dats m hO 0 c).arrAt_eq_of_emb 5 (result m hO c)
    (fun t _ y => (congrFun (after_5 m hO c t) y).trans ((result_at m hO c t (Nat.lt_of_lt_of_eq t.isLt N_0) y).trans
      (congrArg (result m hO c) (place_5 m hO t (Nat.lt_of_lt_of_eq t.isLt N_0) y)).symm))
    (covered m hO)

/-- The arguments end as they were launched, and the result holds the blocks. -/
theorem run_result (hO : Ok m) : θ_run defs (onTc (τ := τ) (main (F := F))) ⟨m, fun _ => 0, ρ⟩ (fun r => (∀ c : Dev nD,
      r.2.mem ((c.tc : Thread nD τ).loc main_v4) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_launch m ρ hO)
  have kept : ∀ b : Ref sig .tc, b ∈ Pipeline.restRefs sig spec0 → b ≠ main_v0 → b ≠ main_v1 → b ≠ main_v2 → b ≠ main_v3 →
      r.2.mem ((c.tc : Thread nD τ).loc b) = m ((c.tc : Thread nD τ).loc b) :=
    fun b hb h0 h1 h2 h3 => ((h.1 c).2 b hb).trans (V_launched m c b h0 h1 h2 h3)
  refine ⟨((h.1 c).1 5).trans (array_5 m hO c), kept main_arg0 (by decide) (by decide) (by decide) (by decide) (by decide),
    kept main_arg1 (by decide) (by decide) (by decide) (by decide) (by decide), ?_,
    kept main_arg3 (by decide) (by decide) (by decide) (by decide) (by decide),
    kept main_arg4 (by decide) (by decide) (by decide) (by decide) (by decide),
    kept main_arg5 (by decide) (by decide) (by decide) (by decide) (by decide),
    kept main_arg6 (by decide) (by decide) (by decide) (by decide) (by decide)⟩
  exact ((h.1 c).1 0).trans (((dats m hO 0 c).arrAt_in 0 rfl _).trans ((A_eq m hO c 0).trans
    (V_launched m c main_arg2 (by decide) (by decide) (by decide) (by decide))))

/-! ## The tables -/

theorem expert_launched (c : Dev nD) (t : Fin 304) : expert m t = (m ((c : Thread nD τ).loc main_arg0) : S304.Idx → BitVec 32) (ix1 t) := by
  obtain rfl : c = 0 := Subsingleton.elim _ _
  exact congrFun (V_launched m 0 main_arg0 (by decide) (by decide) (by decide) (by decide)) (ix1 t)

theorem inUse_launched (c : Dev nD) : inUse m = (m ((c : Thread nD τ).loc main_arg1) : S1.Idx → BitVec 32) (ix1 (0 : Fin 1)) := by
  obtain rfl : c = 0 := Subsingleton.elim _ _
  exact congrFun (V_launched m 0 main_arg1 (by decide) (by decide) (by decide) (by decide)) (ix1 (0 : Fin 1))

/-- Where every block's expert is one of the 32, its weights lie inside the arrays. -/
theorem ok_of_experts (he : ∀ t, (expert m t).toNat < 32) : Ok m := by
  have hw : ∀ i : grid0.Coords, ∃ w : BitVec 32, w.toNat < 32 ∧ cc0_transform_1 k0_off1_inb numel1_S1 (tbl m) i 0 = (32#32 + w).toNat := fun i => by
    have hi : (i 0).val < 304 := (i 0).isLt
    refine ⟨expert m ⟨(i 0).val, hi⟩, he _, ?_⟩
    refine congrArg (fun w : BitVec 32 => (32#32 + w).toNat) (word0 m 0 (k0_off1 i) (k0_off1_inb i) ⟨(i 0).val, hi⟩ ?_)
    show (BitVec.ofNat 32 (i 0).val).toNat = (i 0).val
    rw [BitVec.toNat_ofNat, Nat.mod_eq_of_lt (by omega)]
  have hle : ∀ i : grid0.Coords, (cc0_transform_1 k0_off1_inb numel1_S1 (tbl m) i 0 + 1) * 1 ≤ 64 := fun i => by
    obtain ⟨w, hlt, e⟩ := hw i
    rw [e, BitVec.toNat_add, show (32#32 : BitVec 32).toNat = 32 from rfl]
    omega
  refine ⟨fun i => ⟨fun a => ?_, .inl rfl⟩, fun i => ⟨fun a => ?_, .inl rfl⟩, fun i => ⟨fun a => ?_, .inl rfl⟩, fun i => ⟨fun a => ?_, .inl rfl⟩⟩
  · match a with
    | ⟨0, _⟩ => exact hle i
    | ⟨1, _⟩ => exact show (0 + 1) * 1024 ≤ 1024 by omega
    | ⟨2, _⟩ => exact show (0 + 1) * 2048 ≤ 2048 by omega
  · match a with
    | ⟨0, _⟩ => exact hle i
    | ⟨1, _⟩ => exact show (0 + 1) * 1 ≤ 1 by omega
    | ⟨2, _⟩ => exact show (0 + 1) * 2048 ≤ 2048 by omega
  · match a with
    | ⟨0, _⟩ => exact hle i
    | ⟨1, _⟩ => exact show (0 + 1) * 1024 ≤ 1024 by omega
    | ⟨2, _⟩ => exact show (0 + 1) * 1024 ≤ 1024 by omega
  · match a with
    | ⟨0, _⟩ => exact hle i
    | ⟨1, _⟩ => exact show (0 + 1) * 1 ≤ 1 by omega
    | ⟨2, _⟩ => exact show (0 + 1) * 1024 ≤ 1024 by omega

end Cert.ExpertsIdeal.Blocks

end
-- ==== Proof.ExpertsNetwork.lean ====
/- One row through one expert: what the kernel's points and the reference both compute of it, over the extended reals. -/
module

public import Idealize.ShloMosaic.Lib.Pointwise

@[expose] public section

noncomputable section

namespace Cert.ExpertNetwork

open Idealize.ShloMosaic hiding ix1 ix2 ix3 ix4
open Idealize.ShloMosaic.ValueIdx (ix1 ix2 ix3 ix4)

/-- The first product and its bias, at one of the 2048 columns. -/
def hidden (x : Fin 1024 → EReal) (w : Fin 1024 → Fin 2048 → EReal) (b : Fin 2048 → EReal) (f : Fin 2048) : EReal :=
  ∑ k : Fin 1024, x k * w k f + b f

/-- The gate's half, not above seven; the other half, between minus seven and seven. -/
def gate (h : Fin 2048 → EReal) (g : Fin 1024) : EReal := min (h ⟨g.val, by omega⟩) (Ideal.ofBits FTy.f32 1088421888#32)
def up (h : Fin 2048 → EReal) (g : Fin 1024) : EReal :=
  min (Ideal.ofBits FTy.f32 1088421888#32) (max (Ideal.ofBits FTy.f32 3235905536#32) (h ⟨1024 + g.val, by omega⟩))

/-- The two halves joined: the gate times the logistic function of 1.702 times it, times the other half and one. -/
def active (h : Fin 2048 → EReal) (g : Fin 1024) : EReal :=
  (up h g + 1) * (gate h g * Ideal.logistic (Ideal.ofBits FTy.f32 1071242019#32 * gate h g))

/-- The second product and its bias. -/
def row (x : Fin 1024 → EReal) (w : Fin 1024 → Fin 2048 → EReal) (b : Fin 2048 → EReal) (d : Fin 1024 → Fin 1024 → EReal) (o : Fin 1024 → EReal)
    (q : Fin 1024) : EReal :=
  ∑ g : Fin 1024, active (hidden x w b) g * d g q + o q

/-- A layer's blocks of 256 rows: block `t` through expert `e t` of the second layer's weights, zeros for the blocks not in use. -/
def layered (e : (⟨1, ![304]⟩ : Shape).Idx → BitVec 32) (n : BitVec 32) (x : (⟨3, ![77824, 8, 128]⟩ : Shape).Idx → EReal)
    (w : (⟨4, ![2, 32, 1024, 2048]⟩ : Shape).Idx → EReal) (b : (⟨3, ![2, 32, 2048]⟩ : Shape).Idx → EReal)
    (d : (⟨4, ![2, 32, 1024, 1024]⟩ : Shape).Idx → EReal) (o : (⟨3, ![2, 32, 1024]⟩ : Shape).Idx → EReal)
    (r : Fin 77824) (y1 : Fin 8) (y2 : Fin 128) : EReal :=
  let t : Fin 304 := ⟨r.val / 256, by omega⟩
  let s : Fin 32 := ⟨(e (ix1 t)).toNat % 32, Nat.mod_lt _ (by decide)⟩
  if (BitVec.ofNat 32 t.val).slt n then
    row (fun k => x (ix3 r ⟨k.val / 128, by omega⟩ ⟨k.val % 128, by omega⟩)) (fun k f => w (ix4 (1 : Fin 2) s k f))
      (fun f => b (ix3 (1 : Fin 2) s f)) (fun g q => d (ix4 (1 : Fin 2) s g q)) (fun q => o (ix3 (1 : Fin 2) s q))
      ⟨y1.val * 128 + y2.val, by omega⟩
  else 0

end Cert.ExpertNetwork

end
-- ==== Proof.ExpertsValue.lean ====
/- What the experts kernel's points leave, over the extended reals: every row of a block through the block's expert. -/
module

public import proofs.«01_k».proof.Proof.ExpertsResult
public import proofs.«01_k».proof.Proof.ExpertsNetwork

@[expose] public section

set_option maxRecDepth 16384

noncomputable section

namespace Cert.ExpertsIdeal.Blocks

open Cert.ExpertsIdeal Cert.ExpertsIdeal.Gen
open Idealize.ShloMosaic hiding ix1 ix2 ix3 ix4
open Idealize.ShloMosaic.TcCoe
open Idealize.SL.Sem
open Idealize.ShloMosaic.ValueIdx (ix1 ix2 ix3 ix4)

theorem used_block (x : Vec Ideal S256x8x128 .f32) (w : Vec Ideal S1x1024x2048 .f32) (b : Vec Ideal S1x1x2048 .f32)
    (d : Vec Ideal S1x1024x1024 .f32) (o : Vec Ideal S1x1x1024 .f32) (y : S256x8x128.Idx) :
    (k0_pay3 x (k0_pay1 w) b (k0_pay2 d) o : FVec Ideal S256x8x128 .f32) y
      = ExpertNetwork.row (fun k => x (ix3 (y 0) ⟨k.val / 128, by omega⟩ ⟨k.val % 128, by omega⟩)) (fun k f => w (ix3 (0 : Fin 1) k f))
          (fun f => b (ix3 (0 : Fin 1) (0 : Fin 1) f)) (fun g q => d (ix3 (0 : Fin 1) g q)) (fun q => o (ix3 (0 : Fin 1) (0 : Fin 1) q))
          ⟨(y 1).val * 128 + (y 2).val, by have h1 : (y 1).val < 8 := (y 1).isLt; have h2 : (y 2).val < 128 := (y 2).isLt; omega⟩ := by
  pointwise [k0_pay3, k0_pay1, k0_pay2]
  rfl

theorem unused_block (y : S256x8x128.Idx) : (k0_pay4 : FVec Ideal S256x8x128 .f32) y = (0 : EReal) := by
  pointwise [k0_pay4]

/-! ## The weights' reshapes

Expert `e` of layer `l` is row `32 * l + e`. -/

theorem reshaped_1 {E : Type} (W : S2x32x1024x2048.Idx → E) (k : Fin 64) (p : Fin 1024) (q : Fin 2048) :
    shapeCast S64x1024x2048 W shapeCasts_S2x32x1024x2048_S64x1024x2048 (ix3 k p q)
      = W (ix4 (⟨k.val / 32, by omega⟩ : Fin 2) (⟨k.val % 32, by omega⟩ : Fin 32) p q) := by
  pointwise
  rfl

theorem reshaped_2 {E : Type} (W : S2x32x2048.Idx → E) (k : Fin 64) (z : Fin 1) (q : Fin 2048) :
    shapeCast S64x1x2048 W shapeCasts_S2x32x2048_S64x1x2048 (ix3 k z q)
      = W (ix3 (⟨k.val / 32, by omega⟩ : Fin 2) (⟨k.val % 32, by omega⟩ : Fin 32) q) := by
  pointwise
  rfl

theorem reshaped_3 {E : Type} (W : S2x32x1024x1024.Idx → E) (k : Fin 64) (p : Fin 1024) (q : Fin 1024) :
    shapeCast S64x1024x1024 W shapeCasts_S2x32x1024x1024_S64x1024x1024 (ix3 k p q)
      = W (ix4 (⟨k.val / 32, by omega⟩ : Fin 2) (⟨k.val % 32, by omega⟩ : Fin 32) p q) := by
  pointwise
  rfl

theorem reshaped_4 {E : Type} (W : S2x32x1024.Idx → E) (k : Fin 64) (z : Fin 1) (q : Fin 1024) :
    shapeCast S64x1x1024 W shapeCasts_S2x32x1024_S64x1x1024 (ix3 k z q)
      = W (ix3 (⟨k.val / 32, by omega⟩ : Fin 2) (⟨k.val % 32, by omega⟩ : Fin 32) q) := by
  pointwise
  rfl

variable (m : (ℓ : Loc nD τ sig) → Buf (Elt Ideal) ℓ)

/-- Expert `e`'s row of the reshaped weights is the second layer's expert `e`. -/
theorem sel_layer (t : Fin 304) (h : (expert m t).toNat < 32) : (sel m t).val / 32 = 1 ∧ (sel m t).val % 32 = (expert m t).toNat % 32 := by
  have e : (sel m t).val = 32 + (expert m t).toNat := by
    show (32#32 + expert m t).toNat % 64 = _
    rw [BitVec.toNat_add, show (32#32 : BitVec 32).toNat = 32 from rfl]
    omega
  omega

theorem weights_1 (c : Dev nD) (k : Fin 64) (p : Fin 1024) (q : Fin 2048) :
    (V m c main_v0 : S64x1024x2048.Idx → Ideal .f32) (ix3 k p q)
      = (m ((c : Thread nD τ).loc main_arg3) : S2x32x1024x2048.Idx → Ideal .f32) (ix4 (⟨k.val / 32, by omega⟩ : Fin 2) (⟨k.val % 32, by omega⟩ : Fin 32) p q) := by
  have e : V m c main_v0 = shapeCast S64x1024x2048 (m ((c : Thread nD τ).loc main_arg3) : S2x32x1024x2048.Idx → Ideal .f32) shapeCasts_S2x32x1024x2048_S64x1024x2048 := by
    rfl
  exact (congrFun e _).trans (reshaped_1 _ k p q)

theorem weights_2 (c : Dev nD) (k : Fin 64) (z : Fin 1) (q : Fin 2048) :
    (V m c main_v1 : S64x1x2048.Idx → Ideal .f32) (ix3 k z q)
      = (m ((c : Thread nD τ).loc main_arg4) : S2x32x2048.Idx → Ideal .f32) (ix3 (⟨k.val / 32, by omega⟩ : Fin 2) (⟨k.val % 32, by omega⟩ : Fin 32) q) := by
  have e : V m c main_v1 = shapeCast S64x1x2048 (m ((c : Thread nD τ).loc main_arg4) : S2x32x2048.Idx → Ideal .f32) shapeCasts_S2x32x2048_S64x1x2048 := by
    rfl
  exact (congrFun e _).trans (reshaped_2 _ k z q)

theorem weights_3 (c : Dev nD) (k : Fin 64) (p : Fin 1024) (q : Fin 1024) :
    (V m c main_v2 : S64x1024x1024.Idx → Ideal .f32) (ix3 k p q)
      = (m ((c : Thread nD τ).loc main_arg5) : S2x32x1024x1024.Idx → Ideal .f32) (ix4 (⟨k.val / 32, by omega⟩ : Fin 2) (⟨k.val % 32, by omega⟩ : Fin 32) p q) := by
  have e : V m c main_v2 = shapeCast S64x1024x1024 (m ((c : Thread nD τ).loc main_arg5) : S2x32x1024x1024.Idx → Ideal .f32) shapeCasts_S2x32x1024x1024_S64x1024x1024 := by
    rfl
  exact (congrFun e _).trans (reshaped_3 _ k p q)

theorem weights_4 (c : Dev nD) (k : Fin 64) (z : Fin 1) (q : Fin 1024) :
    (V m c main_v3 : S64x1x1024.Idx → Ideal .f32) (ix3 k z q)
      = (m ((c : Thread nD τ).loc main_arg6) : S2x32x1024.Idx → Ideal .f32) (ix3 (⟨k.val / 32, by omega⟩ : Fin 2) (⟨k.val % 32, by omega⟩ : Fin 32) q) := by
  have e : V m c main_v3 = shapeCast S64x1x1024 (m ((c : Thread nD τ).loc main_arg6) : S2x32x1024.Idx → Ideal .f32) shapeCasts_S2x32x1024_S64x1x1024 := by
    rfl
  exact (congrFun e _).trans (reshaped_4 _ k z q)

theorem rows_0 (c : Dev nD) : V m c main_arg2 = m ((c : Thread nD τ).loc main_arg2) :=
  V_launched m c main_arg2 (by decide) (by decide) (by decide) (by decide)

/-- A point works where its number is below the number of blocks in use. -/
theorem used_iff (t : Fin grid0.N) : Used m t ↔ (BitVec.ofNat 32 t.val).slt (inUse m) := by
  have key : ∀ b : Bool, (Scalar.cmpi .ne (Scalar.extui (BitVec.ofBool b) : BitVec 32) 0#32 : BitVec 1) = 1#1 ↔ b = true := by decide
  have e : k0_cond2 (grid0.coords t) (inUse m)
      = Scalar.cmpi .ne (Scalar.extui (BitVec.ofBool ((BitVec.ofNat 32 (grid0.coords t 0).val).slt (inUse m))) : BitVec 32) 0#32 := rfl
  rw [coord_val] at e
  unfold Used
  rw [e]
  exact key _

/-- The kernel's result, at an element. -/
theorem result_layered (hO : Ok m) (c : Dev nD) (he : ∀ t, (expert m t).toNat < 32) (r : Fin 77824) (y1 : Fin 8) (y2 : Fin 128) :
    result m hO c (ix3 r y1 y2)
      = ExpertNetwork.layered (fun i => expert m (i 0)) (inUse m) (m ((c : Thread nD τ).loc main_arg2)) (m ((c : Thread nD τ).loc main_arg3))
          (m ((c : Thread nD τ).loc main_arg4)) (m ((c : Thread nD τ).loc main_arg5)) (m ((c : Thread nD τ).loc main_arg6)) r y1 y2 := by
  have ht : r.val / 256 < 304 := by omega
  obtain ⟨hl, hs⟩ := sel_layer m ⟨r.val / 256, ht⟩ (he _)
  have hu := used_iff m (blockOf m hO (ix3 r y1 y2))
  have e4 : ∀ {n q : ℕ} (k : Fin n) (f : Fin q), (ix4 (⟨(sel m ⟨r.val / 256, ht⟩).val / 32, by omega⟩ : Fin 2) (⟨(sel m ⟨r.val / 256, ht⟩).val % 32, by omega⟩ : Fin 32) k f)
      = ix4 (1 : Fin 2) (⟨(expert m ⟨r.val / 256, ht⟩).toNat % 32, Nat.mod_lt _ (by decide)⟩ : Fin 32) k f := fun k f =>
    congrArg₂ (fun a b => ix4 a b k f) (Fin.ext hl) (Fin.ext hs)
  have e3 : ∀ {q : ℕ} (f : Fin q), (ix3 (⟨(sel m ⟨r.val / 256, ht⟩).val / 32, by omega⟩ : Fin 2) (⟨(sel m ⟨r.val / 256, ht⟩).val % 32, by omega⟩ : Fin 32) f)
      = ix3 (1 : Fin 2) (⟨(expert m ⟨r.val / 256, ht⟩).toNat % 32, Nat.mod_lt _ (by decide)⟩ : Fin 32) f := fun f =>
    congrArg₂ (fun a b => ix3 a b f) (Fin.ext hl) (Fin.ext hs)
  show left m hO c (blockOf m hO (ix3 r y1 y2)) (rowOf (ix3 r y1 y2)) = _
  unfold left blockOut ExpertNetwork.layered
  by_cases h : Used m (blockOf m hO (ix3 r y1 y2))
  · rw [if_pos h]
    refine Eq.trans ?_ (if_pos (hu.1 h)).symm
    refine (used_block _ _ _ _ _ _).trans ?_
    congr 1
    · funext k
      refine (iblk_0 m hO c _ ht _).trans ?_
      rw [rows_0]
      refine congrArg (m ((c : Thread nD τ).loc main_arg2) : S77824x8x128.Idx → Ideal .f32) (funext fun a => Fin.ext ?_)
      match a with
      | ⟨0, _⟩ => exact Nat.div_add_mod r.val 256
      | ⟨1, _⟩ => rfl
      | ⟨2, _⟩ => rfl
    · funext k f
      exact (iblk_1 m hO c _ ht _).trans ((weights_1 m c _ k f).trans (congrArg (m ((c : Thread nD τ).loc main_arg3) : S2x32x1024x2048.Idx → Ideal .f32) (e4 k f)))
    · funext f
      exact (iblk_2 m hO c _ ht _).trans ((weights_2 m c _ _ f).trans (congrArg (m ((c : Thread nD τ).loc main_arg4) : S2x32x2048.Idx → Ideal .f32) (e3 f)))
    · funext k f
      exact (iblk_3 m hO c _ ht _).trans ((weights_3 m c _ k f).trans (congrArg (m ((c : Thread nD τ).loc main_arg5) : S2x32x1024x1024.Idx → Ideal .f32) (e4 k f)))
    · funext f
      exact (iblk_4 m hO c _ ht _).trans ((weights_4 m c _ _ f).trans (congrArg (m ((c : Thread nD τ).loc main_arg6) : S2x32x1024.Idx → Ideal .f32) (e3 f)))
  · rw [if_neg h]
    exact (unused_block _).trans (if_neg fun q => h (hu.2 q)).symm

end Cert.ExpertsIdeal.Blocks

end
-- ==== Proof.InprojSpec.lean ====
/- The tokens' projections: what the kernel's points and the reference both compute, over the extended reals. -/
module

public import Idealize.ShloMosaic.Lib.Pointwise

@[expose] public section

noncomputable section

namespace Cert.TokenProjection

open Idealize.ShloMosaic hiding ix1 ix2 ix3 ix4
open Idealize.ShloMosaic.ValueIdx (ix1 ix2 ix3 ix4)

/-- A token's row over its root mean square, times the gain, scaled and shifted. -/
def modulated (x g shift scale : Fin 1024 → EReal) (k : Fin 1024) : EReal :=
  x k * Ideal.rsqrt (Ideal.div (∑ j, x j * x j) (Ideal.ofBits FTy.f32 1149239296#32) + Ideal.ofBits FTy.f32 897988541#32) * g k * (1 + scale k) + shift k

/-- That row times a column of the weights. -/
def product (x g shift scale w : Fin 1024 → EReal) : EReal := ∑ k, modulated x g shift scale k * w k

/-- A sequence of 4096 rows at a row counted from eight before the first, zero outside the sequence. -/
def around (f : Fin 4096 → EReal) (r : ℕ) : EReal := if h : 8 ≤ r ∧ r < 4104 then f ⟨r - 8, by omega⟩ else 0

/-- The sequence's width-4 convolutions at a row, over the rows before it and over the rows after it. -/
def before (w : Fin 4 → EReal) (b : EReal) (f : Fin 4096 → EReal) (r : Fin 4096) : EReal :=
  b + w 0 * around f (8 + r.val) + w 1 * around f (7 + r.val) + w 2 * around f (6 + r.val) + w 3 * around f (5 + r.val)
def after (w : Fin 4 → EReal) (b : EReal) (f : Fin 4096 → EReal) (r : Fin 4096) : EReal :=
  b + w 0 * around f (8 + r.val) + w 1 * around f (9 + r.val) + w 2 * around f (10 + r.val) + w 3 * around f (11 + r.val)

/-- The token shift at a row: towards the row before it and towards the row after it. -/
def shifted (u v : EReal) (f : Fin 4096 → EReal) (r : Fin 4096) : EReal :=
  around f (8 + r.val) + u * (around f (7 + r.val) - around f (8 + r.val)) + v * (around f (9 + r.val) - around f (8 + r.val))

theorem around_of {f : Fin 4096 → EReal} {r : ℕ} (s : Fin 4096) (h : r = s.val + 8) : around f r = f s := by
  have := s.isLt
  unfold around
  rw [dif_pos (by omega)]
  exact congrArg f (Fin.ext (by show r - 8 = s.val; omega))

theorem around_zero {f : Fin 4096 → EReal} {r : ℕ} (h : r < 8 ∨ 4104 ≤ r) : around f r = 0 := by
  unfold around
  rw [dif_neg (by omega)]

theorem product_congr {x g s c w x' g' s' c' w' : Fin 1024 → EReal} (hx : ∀ k, x k = x' k) (hg : ∀ k, g k = g' k) (hs : ∀ k, s k = s' k)
    (hc : ∀ k, c k = c' k) (hw : ∀ k, w k = w' k) : product x g s c w = product x' g' s' c' w' := by
  rw [funext hx, funext hg, funext hs, funext hc, funext hw]

/-- A column of zeros gives zeros, and so does its token shift. -/
theorem product_zero (x g shift scale : Fin 1024 → EReal) : product x g shift scale (fun _ => 0) = 0 := by
  unfold product
  simp

theorem shifted_zero (r : Fin 4096) : shifted 0 0 (fun _ => 0) r = 0 := by
  unfold shifted around
  simp

/-! ## Over the arrays -/

/-- A token's modulated row times a column. -/
def token (X : (⟨3, ![4, 4096, 1024]⟩ : Shape).Idx → EReal) (G : (⟨1, ![1024]⟩ : Shape).Idx → EReal) (S C : (⟨2, ![4, 1024]⟩ : Shape).Idx → EReal)
    (w : Fin 1024 → EReal) (b : Fin 4) (r : Fin 4096) : EReal :=
  product (fun k => X (ix3 b r k)) (fun k => G (ix1 k)) (fun k => S (ix2 b k)) (fun k => C (ix2 b k)) w

variable (X : (⟨3, ![4, 4096, 1024]⟩ : Shape).Idx → EReal) (G : (⟨1, ![1024]⟩ : Shape).Idx → EReal) (S C : (⟨2, ![4, 1024]⟩ : Shape).Idx → EReal)
  (W : (⟨2, ![1024, 3008]⟩ : Shape).Idx → EReal)

/-- The tokens' projection onto a column of the weights, along the sequence. -/
def along (q : Fin 3008) (b : Fin 4) (r : Fin 4096) : EReal := token X G S C (fun k => W (ix2 k q)) b r

/-- The eight results. -/
def forward (w : (⟨3, ![2, 4, 256]⟩ : Shape).Idx → EReal) (v : (⟨2, ![2, 256]⟩ : Shape).Idx → EReal) (y : (⟨3, ![4, 4096, 256]⟩ : Shape).Idx) : EReal :=
  before (fun j => w (ix3 (0 : Fin 2) j (y 2))) (v (ix2 (0 : Fin 2) (y 2))) (along X G S C W ⟨(y 2).val, Nat.lt_trans (y 2).isLt (by decide)⟩ (y 0)) (y 1)
def backward (w : (⟨3, ![2, 4, 256]⟩ : Shape).Idx → EReal) (v : (⟨2, ![2, 256]⟩ : Shape).Idx → EReal) (y : (⟨3, ![4, 4096, 256]⟩ : Shape).Idx) : EReal :=
  after (fun j => w (ix3 (1 : Fin 2) j (y 2))) (v (ix2 (1 : Fin 2) (y 2))) (along X G S C W ⟨(y 2).val, Nat.lt_trans (y 2).isLt (by decide)⟩ (y 0)) (y 1)
def gate (y : (⟨3, ![4, 4096, 256]⟩ : Shape).Idx) : EReal :=
  along X G S C W ⟨256 + (y 2).val, Nat.lt_trans (Nat.add_lt_add_left (y 2).isLt 256) (by decide)⟩ (y 0) (y 1)
def mixed (u : (⟨2, ![2, 960]⟩ : Shape).Idx → EReal) (q : Fin 960) (b : Fin 4) (r : Fin 4096) : EReal :=
  shifted (u (ix2 (0 : Fin 2) q)) (u (ix2 (1 : Fin 2) q)) (along X G S C W ⟨512 + q.val, by omega⟩ b) r
def rows (u : (⟨2, ![2, 960]⟩ : Shape).Idx → EReal) (y : (⟨3, ![4, 4096, 768]⟩ : Shape).Idx) : EReal :=
  mixed X G S C W u ⟨(y 2).val, Nat.lt_trans (y 2).isLt (by decide)⟩ (y 0) (y 1)
def lows (u : (⟨2, ![2, 960]⟩ : Shape).Idx → EReal) (y : (⟨3, ![4, 4096, 256]⟩ : Shape).Idx) : EReal :=
  if h : (y 2).val < 192 then mixed X G S C W u ⟨768 + (y 2).val, Nat.add_lt_add_left h 768⟩ (y 0) (y 1) else 0
def query (y : (⟨3, ![4, 4096, 512]⟩ : Shape).Idx) : EReal :=
  along X G S C W ⟨1472 + (y 2).val, Nat.lt_trans (Nat.add_lt_add_left (y 2).isLt 1472) (by decide)⟩ (y 0) (y 1) * Ideal.ofBits FTy.f32 1040187392#32
def key (y : (⟨3, ![4, 4096, 512]⟩ : Shape).Idx) : EReal :=
  along X G S C W ⟨1984 + (y 2).val, Nat.lt_trans (Nat.add_lt_add_left (y 2).isLt 1984) (by decide)⟩ (y 0) (y 1)
def value (y : (⟨3, ![4, 4096, 512]⟩ : Shape).Idx) : EReal :=
  along X G S C W ⟨2496 + (y 2).val, Nat.lt_of_lt_of_eq (Nat.add_lt_add_left (y 2).isLt 2496) (by decide)⟩ (y 0) (y 1)

end Cert.TokenProjection

end
-- ==== Proof.InprojTile.lean ====
/- What a point of the projections' kernel computes of its blocks, over the extended reals. -/
module

public import proofs.«01_k».proof.Proof.Gen.InprojIdeal.Value
public import proofs.«01_k».proof.Proof.InprojSpec

@[expose] public section

set_option maxRecDepth 16384

noncomputable section

namespace Cert.InprojIdeal.Blocks

open Cert.InprojIdeal Cert.InprojIdeal.Gen
open Idealize.ShloMosaic hiding ix1 ix2 ix3 ix4
open Idealize.ShloMosaic.TcCoe
open Idealize.SL.Sem
open Idealize.ShloMosaic.ValueIdx (ix1 ix2 ix3 ix4)

theorem tile_at (g : Vec Ideal S1x1024 .f32) (s c : Vec Ideal S1x1x1024 .f32) (x : Vec Ideal S1x512x1024 .f32) (w : Vec Ideal S1024x3072 .bf16)
    (p : Fin 512) (q : Fin 3072) :
    (k0_pay5 g s c x w : FVec Ideal S512x3072 .f32) (ix2 p q)
      = TokenProjection.product (fun k => x (ix3 (0 : Fin 1) p k)) (fun k => g (ix2 (0 : Fin 1) k)) (fun k => s (ix3 (0 : Fin 1) (0 : Fin 1) k))
          (fun k => c (ix3 (0 : Fin 1) (0 : Fin 1) k)) (fun k => w (ix2 k q)) := by
  pointwise [k0_pay5, k0_pay2, k0_pay3, k0_pay4]
  rfl

/-! ## The rows around a tile -/

/-- The sixteen rows before and after a tile, modulated, times the first columns of the weights. -/
def edges (g s c : FVec Ideal S1x1024 .f32) (x : FVec Ideal S16x1024 .f32) (w : Vec Ideal S1024x1280 .bf16) : FVec Ideal S16x1280 .f32 :=
  matmul (φ₂ := .bf16) dot_S16x1024_S1024x1280_S16x1280_1_0_0_1_n_n none
    (truncf .bf16 (addf (mulf (mulf (mulf x
        (broadcastTo S16x1024 (rsqrt (addf (divf (shapeCast S16x1 (multiReduction .add [1] S16 (mulf x x) 0x00000000#32 reduces_S16x1024_S16 (.inl rfl) rfl) shapeCasts_S16_S16x1)
          (broadcast S16x1 (Scalar.ofBits (F := Ideal) .f32 0x44800000#32))) (broadcast S16x1 (Scalar.ofBits (F := Ideal) .f32 0x358637BD#32)))) broadcasts_S16x1_S16x1024))
        (broadcastTo S16x1024 g broadcasts_S1x1024_S16x1024))
        (broadcastTo S16x1024 (addf (broadcast S1x1024 (Scalar.ofBits (F := Ideal) .f32 0x3F800000#32)) c) broadcasts_S1x1024_S16x1024))
        (broadcastTo S16x1024 s broadcasts_S1x1024_S16x1024)) bitsLt_bf16_f32)
    (shapeCast S1024x1280 w shapeCasts_S1024x1280_S1024x1280) (constant S16x1280 .f32 0x00000000#32)

theorem edges_at (g s c : FVec Ideal S1x1024 .f32) (x : FVec Ideal S16x1024 .f32) (w : Vec Ideal S1024x1280 .bf16) (p : Fin 16) (q : Fin 1280) :
    edges g s c x w (ix2 p q)
      = TokenProjection.product (fun k => x (ix2 p k)) (fun k => g (ix2 (0 : Fin 1) k)) (fun k => s (ix2 (0 : Fin 1) k))
          (fun k => c (ix2 (0 : Fin 1) k)) (fun k => w (ix2 k q)) := by
  pointwise [edges]
  rfl

/-- The rows before the tile, the tile's and the rows after it, the first of them zeros when there is no tile before, the last when there is none after. -/
def joined (a : BitVec 32) (t : FVec Ideal S512x3072 .f32) (e : FVec Ideal S16x1280 .f32) : FVec Ideal S528x1280 .f32 :=
  concatenate S528x1280 0 [⟨S8x1280, Scalar.select (Scalar.cmpi .sgt a 0#32) (extractStridedSlice S8x1280 ![0, 0] e slices_S16x1280_o0_0_S8x1280)
      (broadcast S8x1280 (Scalar.ofBits (F := Ideal) .f32 0x00000000#32))⟩,
    ⟨S512x1280, extractStridedSlice S512x1280 ![0, 0] t slices_S512x3072_o0_0_S512x1280⟩,
    ⟨S8x1280, Scalar.select (Scalar.cmpi .slt a 7#32) (extractStridedSlice S8x1280 ![8, 0] e slices_S16x1280_o8_0_S8x1280)
      (broadcast S8x1280 (Scalar.ofBits (F := Ideal) .f32 0x00000000#32))⟩] concatenates_S8x1280_S512x1280_S8x1280_S528x1280_d0

set_option maxHeartbeats 2000000 in
theorem around_eq (a : BitVec 32) (g s c : FVec Ideal S1x1024 .f32) (t : FVec Ideal S512x3072 .f32) (x y : FVec Ideal S8x1024 .f32) (w : Vec Ideal S1024x1280 .bf16) :
    (k0_pay8 a g s c t x y w : FVec Ideal S528x1280 .f32)
      = joined a t (edges g s c (concatenate S16x1024 0 [⟨S8x1024, x⟩, ⟨S8x1024, y⟩] concatenates_S8x1024_S8x1024_S16x1024_d0) w) := rfl

theorem sides_at (x y : FVec Ideal S8x1024 .f32) (p : Fin 16) (q : Fin 1024) :
    concatenate S16x1024 0 [⟨S8x1024, x⟩, ⟨S8x1024, y⟩] concatenates_S8x1024_S8x1024_S16x1024_d0 (ix2 p q)
      = if h : p.val < 8 then x (ix2 (⟨p.val, h⟩ : Fin 8) q) else y (ix2 (⟨p.val - 8, by omega⟩ : Fin 8) q) := by
  pointwise
  rfl

theorem first_tile : ∀ i : Fin 8, Scalar.cmpi .sgt (BitVec.ofNat 32 i.val) 0#32 = if 0 < i.val then 1#1 else 0#1 := by decide

theorem last_tile : ∀ i : Fin 8, Scalar.cmpi .slt (BitVec.ofNat 32 i.val) 7#32 = if i.val < 7 then 1#1 else 0#1 := by decide

theorem select_ite (c : Prop) [Decidable c] (x y : EReal) : Scalar.select (if c then 1#1 else 0#1) x y = if c then x else y := by
  by_cases h : c
  · rw [if_pos h, if_pos h]; rfl
  · rw [if_neg h, if_neg h]; rfl

theorem joined_at (i : Fin 8) (t : FVec Ideal S512x3072 .f32) (e : FVec Ideal S16x1280 .f32) (p : Fin 528) (q : Fin 1280) :
    joined (BitVec.ofNat 32 i.val) t e (ix2 p q)
      = if h : p.val < 8 then (if 0 < i.val then e (ix2 (⟨p.val, by omega⟩ : Fin 16) q) else 0)
        else if h' : p.val - 8 < 512 then t (ix2 (⟨p.val - 8, h'⟩ : Fin 512) (⟨q.val, by omega⟩ : Fin 3072))
        else if i.val < 7 then e (ix2 (⟨8 + (p.val - 8 - 512), by omega⟩ : Fin 16) q) else 0 := by
  have e1 : ∀ x : EReal, Scalar.select (Scalar.cmpi .sgt (BitVec.ofNat 32 i.val) 0#32) x 0 = if 0 < i.val then x else 0 := fun x => by
    rw [first_tile, select_ite]
  have e2 : ∀ x : EReal, Scalar.select (Scalar.cmpi .slt (BitVec.ofNat 32 i.val) 7#32) x 0 = if i.val < 7 then x else 0 := fun x => by
    rw [last_tile, select_ite]
  pointwise [joined]
  simp only [e1, e2]
  rfl

/-! ## The outputs' blocks -/

theorem forward_at (a : BitVec 32) (g s c : FVec Ideal S1x1024 .f32) (t : FVec Ideal S512x3072 .f32) (x y : FVec Ideal S8x1024 .f32) (u : Vec Ideal S1024x1280 .bf16)
    (f : FVec Ideal S528x1280 .f32) (hf : k0_pay8 a g s c t x y u = f) (w : Vec Ideal S2x4x256 .f32) (b : Vec Ideal S2x256 .f32) (z : Fin 1) (p : Fin 512) (q : Fin 256) :
    (k0_pay13 (k0_pay9 a g s c t x y u) w (k0_pay11 a g s c t x y u w) (k0_pay12 b) : FVec Ideal S1x512x256 .f32) (ix3 z p q)
      = b (ix2 (0 : Fin 2) q) + w (ix3 (0 : Fin 2) (0 : Fin 4) q) * f (ix2 (⟨8 + p.val, by omega⟩ : Fin 528) (⟨q.val, by omega⟩ : Fin 1280))
          + w (ix3 (0 : Fin 2) (1 : Fin 4) q) * f (ix2 (⟨7 + p.val, by omega⟩ : Fin 528) (⟨q.val, by omega⟩ : Fin 1280))
          + w (ix3 (0 : Fin 2) (2 : Fin 4) q) * f (ix2 (⟨6 + p.val, by omega⟩ : Fin 528) (⟨q.val, by omega⟩ : Fin 1280))
          + w (ix3 (0 : Fin 2) (3 : Fin 4) q) * f (ix2 (⟨5 + p.val, by omega⟩ : Fin 528) (⟨q.val, by omega⟩ : Fin 1280)) := by
  unfold k0_pay11 k0_pay9
  rw [hf]
  pointwise [k0_pay13, k0_pay12]
  rfl

theorem backward_at (a : BitVec 32) (g s c : FVec Ideal S1x1024 .f32) (t : FVec Ideal S512x3072 .f32) (x y : FVec Ideal S8x1024 .f32) (u : Vec Ideal S1024x1280 .bf16)
    (f : FVec Ideal S528x1280 .f32) (hf : k0_pay8 a g s c t x y u = f) (w : Vec Ideal S2x4x256 .f32) (b : Vec Ideal S2x256 .f32) (z : Fin 1) (p : Fin 512) (q : Fin 256) :
    (k0_pay14 (k0_pay9 a g s c t x y u) w (k0_pay10 b) : FVec Ideal S1x512x256 .f32) (ix3 z p q)
      = b (ix2 (1 : Fin 2) q) + w (ix3 (1 : Fin 2) (0 : Fin 4) q) * f (ix2 (⟨8 + p.val, by omega⟩ : Fin 528) (⟨q.val, by omega⟩ : Fin 1280))
          + w (ix3 (1 : Fin 2) (1 : Fin 4) q) * f (ix2 (⟨9 + p.val, by omega⟩ : Fin 528) (⟨q.val, by omega⟩ : Fin 1280))
          + w (ix3 (1 : Fin 2) (2 : Fin 4) q) * f (ix2 (⟨10 + p.val, by omega⟩ : Fin 528) (⟨q.val, by omega⟩ : Fin 1280))
          + w (ix3 (1 : Fin 2) (3 : Fin 4) q) * f (ix2 (⟨11 + p.val, by omega⟩ : Fin 528) (⟨q.val, by omega⟩ : Fin 1280)) := by
  unfold k0_pay9
  rw [hf]
  pointwise [k0_pay14, k0_pay10]
  rfl

theorem shift_at (f : FVec Ideal S528x1280 .f32) (u : Vec Ideal S2x1024 .f32) (p : Fin 512) (q : Fin 1024) :
    (k0_pay17 f (k0_pay15 f) (k0_pay16 f) u : FVec Ideal S512x1024 .f32) (ix2 p q)
      = f (ix2 (⟨8 + p.val, by omega⟩ : Fin 528) (⟨256 + q.val, by omega⟩ : Fin 1280))
          + u (ix2 (0 : Fin 2) q) * (f (ix2 (⟨7 + p.val, by omega⟩ : Fin 528) (⟨256 + q.val, by omega⟩ : Fin 1280))
              - f (ix2 (⟨8 + p.val, by omega⟩ : Fin 528) (⟨256 + q.val, by omega⟩ : Fin 1280)))
          + u (ix2 (1 : Fin 2) q) * (f (ix2 (⟨9 + p.val, by omega⟩ : Fin 528) (⟨256 + q.val, by omega⟩ : Fin 1280))
              - f (ix2 (⟨8 + p.val, by omega⟩ : Fin 528) (⟨256 + q.val, by omega⟩ : Fin 1280))) := by
  pointwise [k0_pay17, k0_pay15, k0_pay16]
  rfl

theorem rows_at (f : FVec Ideal S528x1280 .f32) (u : Vec Ideal S2x1024 .f32) (z : Fin 1) (p : Fin 512) (q : Fin 768) :
    (k0_pay18 f (k0_pay15 f) (k0_pay16 f) u : FVec Ideal S1x512x768 .f32) (ix3 z p q)
      = (k0_pay17 f (k0_pay15 f) (k0_pay16 f) u : FVec Ideal S512x1024 .f32) (ix2 p (⟨q.val, by omega⟩ : Fin 1024)) := by
  unfold k0_pay18
  generalize (k0_pay17 f (k0_pay15 f) (k0_pay16 f) u : FVec Ideal S512x1024 .f32) = v
  pointwise
  rfl

theorem lows_at (f : FVec Ideal S528x1280 .f32) (u : Vec Ideal S2x1024 .f32) (z : Fin 1) (p : Fin 512) (q : Fin 256) :
    (k0_pay19 f (k0_pay15 f) (k0_pay16 f) u : FVec Ideal S1x512x256 .f32) (ix3 z p q)
      = (k0_pay17 f (k0_pay15 f) (k0_pay16 f) u : FVec Ideal S512x1024 .f32) (ix2 p (⟨768 + q.val, by omega⟩ : Fin 1024)) := by
  unfold k0_pay19
  generalize (k0_pay17 f (k0_pay15 f) (k0_pay16 f) u : FVec Ideal S512x1024 .f32) = v
  pointwise
  rfl

theorem gate_at (t : FVec Ideal S512x3072 .f32) (z : Fin 1) (p : Fin 512) (q : Fin 256) :
    (k0_pay20 t : FVec Ideal S1x512x256 .f32) (ix3 z p q) = t (ix2 p (⟨1280 + q.val, by omega⟩ : Fin 3072)) := by
  pointwise [k0_pay20]
  rfl

theorem query_at (t : FVec Ideal S512x3072 .f32) (z : Fin 1) (p : Fin 512) (q : Fin 512) :
    (k0_pay21 t : FVec Ideal S1x512x512 .bf16) (ix3 z p q) = t (ix2 p (⟨1536 + q.val, by omega⟩ : Fin 3072)) * Ideal.ofBits FTy.f32 1040187392#32 := by
  pointwise [k0_pay21]
  rfl

theorem key_at (t : FVec Ideal S512x3072 .f32) (z : Fin 1) (p : Fin 512) (q : Fin 512) :
    (k0_pay22 t : FVec Ideal S1x512x512 .bf16) (ix3 z p q) = t (ix2 p (⟨2048 + q.val, by omega⟩ : Fin 3072)) := by
  pointwise [k0_pay22]
  rfl

theorem value_at (t : FVec Ideal S512x3072 .f32) (z : Fin 1) (p : Fin 512) (q : Fin 512) :
    (k0_pay1 t : FVec Ideal S1x512x512 .bf16) (ix3 z p q) = t (ix2 p (⟨2560 + q.val, by omega⟩ : Fin 3072)) := by
  pointwise [k0_pay1]
  rfl

end Cert.InprojIdeal.Blocks

end
-- ==== Proof.InprojValue.lean ====
/- What the projections' kernel leaves in its eight results, over the extended reals. -/
module

public import proofs.«01_k».proof.Proof.InprojTile
public import Idealize.ShloMosaic.Lib.Pipeline.ValueKit.Basic
public import Idealize.ShloMosaic.Lib.Pipeline.ValueKit.Tiles
public import Idealize.ShloMosaic.Lib.Pipeline.ValueKit.Geometry

@[expose] public section

set_option maxRecDepth 16384

noncomputable section

namespace Cert.InprojIdeal.Blocks

open Cert.InprojIdeal Cert.InprojIdeal.Gen
open Idealize.ShloMosaic hiding ix1 ix2 ix3 ix4
open Idealize.ShloMosaic.TcCoe
open Idealize.SL.Sem
open Idealize.ShloMosaic.ValueIdx (ix1 ix2 ix3 ix4)

variable (m : (ℓ : Loc nD τ sig) → Buf (Elt Ideal) ℓ) (ρ : Dev nD → PrngReg)

/-! ## The arrays the host operations leave -/

/-- The weights' columns in the kernel's order, 64 columns of zeros among them. -/
def columns (W : FVec Ideal S1024x3008 .f32) : FVec Ideal S1024x3072 .bf16 :=
  truncf .bf16 (concatenate S1024x3072 1 [⟨S1024x256, extractStridedSlice S1024x256 ![0, 0] W slices_S1024x3008_S1024x256_0_0⟩,
    ⟨S1024x768, extractStridedSlice S1024x768 ![0, 512] W slices_S1024x3008_S1024x768_0_512⟩,
    ⟨S1024x192, extractStridedSlice S1024x192 ![0, 1280] W slices_S1024x3008_S1024x192_0_1280⟩,
    ⟨S1024x64, broadcastInDim S1024x64 ![] bcast_S_S1024x64 (constant S_ .f32 0x00000000#32)⟩,
    ⟨S1024x256, extractStridedSlice S1024x256 ![0, 256] W slices_S1024x3008_S1024x256_0_256⟩,
    ⟨S1024x1536, extractStridedSlice S1024x1536 ![0, 1472] W slices_S1024x3008_S1024x1536_0_1472⟩]
    concatenates_S1024x256_S1024x768_S1024x192_S1024x64_S1024x256_S1024x1536_S1024x3072_d1) bitsLt_bf16_f32

def shifts (u : FVec Ideal S2x960 .f32) : FVec Ideal S2x1024 .f32 :=
  concatenate S2x1024 1 [⟨S2x768, extractStridedSlice S2x768 ![0, 0] u slices_S2x960_S2x768_0_0⟩,
    ⟨S2x192, extractStridedSlice S2x192 ![0, 768] u slices_S2x960_S2x192_0_768⟩,
    ⟨S2x64, broadcastInDim S2x64 ![] bcast_S_S2x64 (constant S_ .f32 0x00000000#32)⟩] concatenates_S2x768_S2x192_S2x64_S2x1024_d1

theorem columns_at (W : FVec Ideal S1024x3008 .f32) (k : Fin 1024) (q : Fin 3072) :
    columns W (ix2 k q) = if h : q.val < 256 then W (ix2 k (⟨q.val, by omega⟩ : Fin 3008))
      else if h : q.val - 256 < 768 then W (ix2 k (⟨512 + (q.val - 256), by omega⟩ : Fin 3008))
      else if h : q.val - 256 - 768 < 192 then W (ix2 k (⟨1280 + (q.val - 256 - 768), by omega⟩ : Fin 3008))
      else if q.val - 256 - 768 - 192 < 64 then 0
      else if h : q.val - 256 - 768 - 192 - 64 < 256 then W (ix2 k (⟨256 + (q.val - 256 - 768 - 192 - 64), by omega⟩ : Fin 3008))
      else W (ix2 k (⟨1472 + (q.val - 256 - 768 - 192 - 64 - 256), by omega⟩ : Fin 3008)) := by
  pointwise [columns]
  rfl

theorem shifts_at (u : FVec Ideal S2x960 .f32) (z : Fin 2) (q : Fin 1024) :
    shifts u (ix2 z q) = if h : q.val < 768 then u (ix2 z (⟨q.val, by omega⟩ : Fin 960))
      else if h : q.val - 768 < 192 then u (ix2 z (⟨768 + (q.val - 768), by omega⟩ : Fin 960)) else 0 := by
  pointwise [shifts]
  rfl

theorem columns_first (W : FVec Ideal S1024x3008 .f32) (k : Fin 1024) (q : Fin 3072) (r : Fin 3008) (h : q.val < 256) (hr : r.val = q.val) :
    columns W (ix2 k q) = W (ix2 k r) := by
  rw [columns_at]
  split_ifs <;> first | (exfalso; omega) | exact congrArg (fun j : Fin 3008 => W (ix2 k j)) (Fin.ext (by dsimp only; omega))

theorem columns_mixed (W : FVec Ideal S1024x3008 .f32) (k : Fin 1024) (q : Fin 3072) (r : Fin 3008) (h : 256 ≤ q.val ∧ q.val < 1216) (hr : r.val = q.val + 256) :
    columns W (ix2 k q) = W (ix2 k r) := by
  rw [columns_at]
  split_ifs <;> first | (exfalso; omega) | exact congrArg (fun j : Fin 3008 => W (ix2 k j)) (Fin.ext (by dsimp only; omega))

theorem columns_none (W : FVec Ideal S1024x3008 .f32) (k : Fin 1024) (q : Fin 3072) (h : 1216 ≤ q.val ∧ q.val < 1280) : columns W (ix2 k q) = (0 : EReal) := by
  rw [columns_at]
  split_ifs <;> first | (exfalso; omega) | rfl

theorem columns_gate (W : FVec Ideal S1024x3008 .f32) (k : Fin 1024) (q : Fin 3072) (r : Fin 3008) (h : 1280 ≤ q.val ∧ q.val < 1536) (hr : r.val + 1024 = q.val) :
    columns W (ix2 k q) = W (ix2 k r) := by
  rw [columns_at]
  split_ifs <;> first | (exfalso; omega) | exact congrArg (fun j : Fin 3008 => W (ix2 k j)) (Fin.ext (by dsimp only; omega))

theorem columns_heads (W : FVec Ideal S1024x3008 .f32) (k : Fin 1024) (q : Fin 3072) (r : Fin 3008) (h : 1536 ≤ q.val) (hr : r.val + 64 = q.val) :
    columns W (ix2 k q) = W (ix2 k r) := by
  rw [columns_at]
  split_ifs <;> first | (exfalso; omega) | exact congrArg (fun j : Fin 3008 => W (ix2 k j)) (Fin.ext (by dsimp only; omega))

theorem shifts_some (u : FVec Ideal S2x960 .f32) (z : Fin 2) (q : Fin 1024) (r : Fin 960) (hr : r.val = q.val) : shifts u (ix2 z q) = u (ix2 z r) := by
  rw [shifts_at]
  split_ifs <;> first | (exfalso; omega) | exact congrArg (fun j : Fin 960 => u (ix2 z j)) (Fin.ext (by dsimp only; omega))

theorem shifts_none (u : FVec Ideal S2x960 .f32) (z : Fin 2) (q : Fin 1024) (h : 960 ≤ q.val) : shifts u (ix2 z q) = (0 : EReal) := by
  rw [shifts_at]
  split_ifs <;> first | (exfalso; omega) | rfl

theorem array_6 (c : Dev nD) : V m c main_v7 = columns (m ((c : Thread nD τ).loc main_arg4)) := by rfl
theorem array_9 (c : Dev nD) : V m c main_v11 = shifts (m ((c : Thread nD τ).loc main_arg7)) := by rfl

/-! ## The blocks -/

theorem coords_at : ∀ t : Fin cfg0.N, (grid0.coords t 0).val = t.val / 8 ∧ (grid0.coords t 1).val = t.val % 8
    ∧ cc0_transform_1 (grid0.coords t) 1 = 64 * (t.val % 8) - 1 ∧ cc0_transform_2 (grid0.coords t) 1 = min (64 * (t.val % 8 + 1)) 511 :=
  (by decide +kernel : ∀ t : Fin grid0.N, _)

theorem bound (t : Fin cfg0.N) : t.val < 32 := Nat.lt_of_lt_of_eq t.isLt (by decide)

/-- The batch a point is in, and a row of its tile. -/
def batch (t : Fin cfg0.N) : Fin 4 := ⟨t.val / 8, by have := bound t; omega⟩
def row (t : Fin cfg0.N) (p : Fin 512) : Fin 4096 := ⟨512 * (t.val % 8) + p.val, by omega⟩

theorem batch_eq (t : Fin cfg0.N) : (BitVec.ofNat 32 (grid0.coords t 0).val).toNat = t.val / 8 := by
  have := bound t
  rw [BitVec.toNat_ofNat, (coords_at t).1]; omega
theorem tile_eq (t : Fin cfg0.N) : (BitVec.ofNat 32 (grid0.coords t 1).val).toNat = t.val % 8 := by
  rw [BitVec.toNat_ofNat, (coords_at t).2.1]; omega

theorem block_0 (c : Dev nD) (t : Fin cfg0.N) (z : Fin 1) (p : Fin 512) (k : Fin 1024) :
    (iblk m c 0 t : Vec Ideal S1x512x1024 .f32) (ix3 z p k) = (m ((c : Thread nD τ).loc main_arg0) : Vec Ideal S4x4096x1024 .f32) (ix3 (batch t) (row t p) k) := by
  refine (congrFun (V_main_arg0 m c) _).trans (congrArg (m ((c : Thread nD τ).loc main_arg0) : Vec Ideal S4x4096x1024 .f32) (funext fun a => Fin.ext ?_))
  match a with
  | ⟨0, _⟩ => show (BitVec.ofNat 32 (grid0.coords t 0).val).toNat * 1 + 1 * z.val = t.val / 8; rw [batch_eq]; omega
  | ⟨1, _⟩ => show (BitVec.ofNat 32 (grid0.coords t 1).val).toNat * 512 + 1 * p.val = 512 * (t.val % 8) + p.val; rw [tile_eq]; omega
  | ⟨2, _⟩ => show 0 * 1024 + 1 * k.val = k.val; omega

theorem block_1 (c : Dev nD) (t : Fin cfg0.N) (z : Fin 1) (p : Fin 8) (k : Fin 1024) (h : 0 < t.val % 8) (r : Fin 4096) (hr : r.val + 8 = 512 * (t.val % 8) + p.val) :
    (iblk m c 1 t : Vec Ideal S1x8x1024 .f32) (ix3 z p k) = (m ((c : Thread nD τ).loc main_arg0) : Vec Ideal S4x4096x1024 .f32) (ix3 (batch t) r k) := by
  refine (congrFun (V_main_arg0 m c) _).trans (congrArg (m ((c : Thread nD τ).loc main_arg0) : Vec Ideal S4x4096x1024 .f32) (funext fun a => Fin.ext ?_))
  match a with
  | ⟨0, _⟩ => show (BitVec.ofNat 32 (grid0.coords t 0).val).toNat * 1 + 1 * z.val = t.val / 8; rw [batch_eq]; omega
  | ⟨1, _⟩ => show cc0_transform_1 (grid0.coords t) 1 * 8 + 1 * p.val = r.val; rw [(coords_at t).2.2.1]; omega
  | ⟨2, _⟩ => show 0 * 1024 + 1 * k.val = k.val; omega

theorem block_2 (c : Dev nD) (t : Fin cfg0.N) (z : Fin 1) (p : Fin 8) (k : Fin 1024) (h : t.val % 8 < 7) (r : Fin 4096) (hr : r.val = 512 * (t.val % 8) + 512 + p.val) :
    (iblk m c 2 t : Vec Ideal S1x8x1024 .f32) (ix3 z p k) = (m ((c : Thread nD τ).loc main_arg0) : Vec Ideal S4x4096x1024 .f32) (ix3 (batch t) r k) := by
  refine (congrFun (V_main_arg0 m c) _).trans (congrArg (m ((c : Thread nD τ).loc main_arg0) : Vec Ideal S4x4096x1024 .f32) (funext fun a => Fin.ext ?_))
  match a with
  | ⟨0, _⟩ => show (BitVec.ofNat 32 (grid0.coords t 0).val).toNat * 1 + 1 * z.val = t.val / 8; rw [batch_eq]; omega
  | ⟨1, _⟩ => show cc0_transform_2 (grid0.coords t) 1 * 8 + 1 * p.val = r.val; rw [(coords_at t).2.2.2]; omega
  | ⟨2, _⟩ => show 0 * 1024 + 1 * k.val = k.val; omega

theorem block_3 (c : Dev nD) (t : Fin cfg0.N) (z : Fin 1) (k : Fin 1024) :
    (iblk m c 3 t : Vec Ideal S1x1024 .f32) (ix2 z k) = (m ((c : Thread nD τ).loc main_arg1) : Vec Ideal S1024 .f32) (ix1 k) := by
  have e : V m c main_v12 = broadcastInDim S1x1024 ![1] bcast_S1024_S1x1024_1 (m ((c : Thread nD τ).loc main_arg1) : Vec Ideal S1024 .f32) := by rfl
  refine (congrFun e _).trans (congrArg (m ((c : Thread nD τ).loc main_arg1) : Vec Ideal S1024 .f32) (funext fun a => Fin.ext ?_))
  match a with
  | ⟨0, _⟩ => show 0 * 1024 + 1 * k.val = k.val; omega

/-- A batch's row of the scale or the shift, a unit axis put in. -/
theorem batched_at (f : Vec Ideal S4x1024 .f32) (i : S4x1x1024.Idx) (b : Fin 4) (k : Fin 1024) (hb : (i 0).val = b.val) (hk : (i 2).val = k.val) :
    broadcastInDim S4x1x1024 ![0, 2] bcast_S4x1024_S4x1x1024_0_2 f i = f (ix2 b k) := by
  refine congrArg f (funext fun a => Fin.ext ?_)
  match a with
  | ⟨0, _⟩ => exact hb
  | ⟨1, _⟩ => exact hk

theorem block_4 (c : Dev nD) (t : Fin cfg0.N) (z z' : Fin 1) (k : Fin 1024) :
    (iblk m c 4 t : Vec Ideal S1x1x1024 .f32) (ix3 z z' k) = (m ((c : Thread nD τ).loc main_arg2) : Vec Ideal S4x1024 .f32) (ix2 (batch t) k) := by
  have e : V m c main_v13 = broadcastInDim S4x1x1024 ![0, 2] bcast_S4x1024_S4x1x1024_0_2 (m ((c : Thread nD τ).loc main_arg2) : Vec Ideal S4x1024 .f32) := by rfl
  refine (congrFun e _).trans (batched_at _ _ _ _ ?_ ?_)
  · show (BitVec.ofNat 32 (grid0.coords t 0).val).toNat * 1 + 1 * z.val = t.val / 8; rw [batch_eq]; omega
  · show 0 * 1024 + 1 * k.val = k.val; omega

theorem block_5 (c : Dev nD) (t : Fin cfg0.N) (z z' : Fin 1) (k : Fin 1024) :
    (iblk m c 5 t : Vec Ideal S1x1x1024 .f32) (ix3 z z' k) = (m ((c : Thread nD τ).loc main_arg3) : Vec Ideal S4x1024 .f32) (ix2 (batch t) k) := by
  have e : V m c main_v14 = broadcastInDim S4x1x1024 ![0, 2] bcast_S4x1024_S4x1x1024_0_2 (m ((c : Thread nD τ).loc main_arg3) : Vec Ideal S4x1024 .f32) := by rfl
  refine (congrFun e _).trans (batched_at _ _ _ _ ?_ ?_)
  · show (BitVec.ofNat 32 (grid0.coords t 0).val).toNat * 1 + 1 * z.val = t.val / 8; rw [batch_eq]; omega
  · show 0 * 1024 + 1 * k.val = k.val; omega

theorem block_6 (c : Dev nD) (t : Fin cfg0.N) : (iblk m c 6 t : Vec Ideal S1024x3072 .bf16) = columns (m ((c : Thread nD τ).loc main_arg4)) := by
  refine Eq.trans (funext fun i => congrArg (V m c main_v7 : Vec Ideal S1024x3072 .bf16) (funext fun a => Fin.ext ?_)) (array_6 m c)
  match a with
  | ⟨0, _⟩ => show 0 * 1024 + 1 * (i 0).val = (i 0).val; omega
  | ⟨1, _⟩ => show 0 * 3072 + 1 * (i 1).val = (i 1).val; omega

theorem block_7 (c : Dev nD) (t : Fin cfg0.N) : (iblk m c 7 t : Vec Ideal S2x4x256 .f32) = (m ((c : Thread nD τ).loc main_arg5) : Vec Ideal S2x4x256 .f32) := by
  refine Eq.trans (funext fun i => congrArg (V m c main_arg5 : Vec Ideal S2x4x256 .f32) (funext fun a => Fin.ext ?_)) (V_main_arg5 m c)
  match a with
  | ⟨0, _⟩ => show 0 * 2 + 1 * (i 0).val = (i 0).val; omega
  | ⟨1, _⟩ => show 0 * 4 + 1 * (i 1).val = (i 1).val; omega
  | ⟨2, _⟩ => show 0 * 256 + 1 * (i 2).val = (i 2).val; omega

theorem block_8 (c : Dev nD) (t : Fin cfg0.N) : (iblk m c 8 t : Vec Ideal S2x256 .f32) = (m ((c : Thread nD τ).loc main_arg6) : Vec Ideal S2x256 .f32) := by
  refine Eq.trans (funext fun i => congrArg (V m c main_arg6 : Vec Ideal S2x256 .f32) (funext fun a => Fin.ext ?_)) (V_main_arg6 m c)
  match a with
  | ⟨0, _⟩ => show 0 * 2 + 1 * (i 0).val = (i 0).val; omega
  | ⟨1, _⟩ => show 0 * 256 + 1 * (i 1).val = (i 1).val; omega

theorem block_9 (c : Dev nD) (t : Fin cfg0.N) : (iblk m c 9 t : Vec Ideal S2x1024 .f32) = shifts (m ((c : Thread nD τ).loc main_arg7)) := by
  refine Eq.trans (funext fun i => congrArg (V m c main_v11 : Vec Ideal S2x1024 .f32) (funext fun a => Fin.ext ?_)) (array_9 m c)
  match a with
  | ⟨0, _⟩ => show 0 * 2 + 1 * (i 0).val = (i 0).val; omega
  | ⟨1, _⟩ => show 0 * 1024 + 1 * (i 1).val = (i 1).val; omega

/-! ## A point's projection -/

/-- A point's tile projected, and with the rows around it. -/
def tile (c : Dev nD) (t : Fin cfg0.N) : FVec Ideal S512x3072 .f32 :=
  k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t)
def wide (c : Dev nD) (t : Fin cfg0.N) : FVec Ideal S528x1280 .f32 :=
  k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t)

/-- A batch's projection onto one of the kernel's columns, along the sequence. -/
def sequence (c : Dev nD) (q : Fin 3072) (b : Fin 4) : Fin 4096 → EReal :=
  TokenProjection.token (m ((c : Thread nD τ).loc main_arg0)) (m ((c : Thread nD τ).loc main_arg1)) (m ((c : Thread nD τ).loc main_arg2)) (m ((c : Thread nD τ).loc main_arg3))
    (fun k => columns (m ((c : Thread nD τ).loc main_arg4)) (ix2 k q)) b

theorem tile_loads (i : grid0.Coords) (x0 : Vec Ideal S1x512x1024 .f32) (x1 x2 : Vec Ideal S1x8x1024 .f32) (x3 : Vec Ideal S1x1024 .f32) (x4 x5 : Vec Ideal S1x1x1024 .f32)
    (x6 : Vec Ideal S1024x3072 .bf16) (x7 : Vec Ideal S2x4x256 .f32) (x8 : Vec Ideal S2x256 .f32) (x9 : Vec Ideal S2x1024 .f32) :
    (k0_pay26 i x0 x1 x2 x3 x4 x5 x6 x7 x8 x9 : FVec Ideal S512x3072 .f32) = k0_pay5 x3 x4 x5 x0 x6 := by
  unfold k0_pay26
  rw [View.ld_unit_lit _ x3 (by decide), View.ld_unit_lit _ x4 (by decide), View.ld_unit_lit _ x5 (by decide), View.ld_unit_lit _ x0 (by decide), View.ld_unit_lit _ x6 (by decide)]

theorem wide_loads (i : grid0.Coords) (x0 : Vec Ideal S1x512x1024 .f32) (x1 x2 : Vec Ideal S1x8x1024 .f32) (x3 : Vec Ideal S1x1024 .f32) (x4 x5 : Vec Ideal S1x1x1024 .f32)
    (x6 : Vec Ideal S1024x3072 .bf16) (x7 : Vec Ideal S2x4x256 .f32) (x8 : Vec Ideal S2x256 .f32) (x9 : Vec Ideal S2x1024 .f32) :
    (k0_pay29 i x0 x1 x2 x3 x4 x5 x6 x7 x8 x9 : FVec Ideal S528x1280 .f32)
      = joined (BitVec.ofNat 32 (i 1).val) (k0_pay26 i x0 x1 x2 x3 x4 x5 x6 x7 x8 x9) (edges (k0_pay2 x3) (k0_pay3 x4) (k0_pay4 x5)
          (concatenate S16x1024 0 [⟨S8x1024, k0_pay6 x1⟩, ⟨S8x1024, k0_pay7 x2⟩] concatenates_S8x1024_S8x1024_S16x1024_d0) (View.ld x6 r0_5)) := by
  unfold k0_pay29
  rw [around_eq]
  unfold k0_pay23 k0_pay24 k0_pay25 k0_pay27 k0_pay28
  rw [View.ld_unit_lit _ x3 (by decide), View.ld_unit_lit _ x4 (by decide), View.ld_unit_lit _ x5 (by decide), View.ld_unit_lit _ x1 (by decide), View.ld_unit_lit _ x2 (by decide)]

theorem tile_row (c : Dev nD) (t : Fin cfg0.N) (p : Fin 512) (q : Fin 3072) : tile m c t (ix2 p q) = sequence m c q (batch t) (row t p) := by
  unfold tile
  rw [tile_loads]
  refine (tile_at _ _ _ _ _ p q).trans ?_
  unfold sequence TokenProjection.token
  refine TokenProjection.product_congr (fun k => ?_) (fun k => ?_) (fun k => ?_) (fun k => ?_) (fun k => ?_)
  · exact block_0 m c t 0 p k
  · exact block_3 m c t 0 k
  · exact block_4 m c t 0 0 k
  · exact block_5 m c t 0 0 k
  · exact congrFun (block_6 m c t) _

/-- The gain, the shift and the scale as one row each, and the rows before and after the tile. -/
theorem gain_at (x : Vec Ideal S1x1024 .f32) (k : Fin 1024) : (k0_pay2 x : FVec Ideal S1x1024 .f32) (ix2 (0 : Fin 1) k) = x (ix2 (0 : Fin 1) k) := by
  pointwise [k0_pay2]
theorem moved_at (x : Vec Ideal S1x1x1024 .f32) (k : Fin 1024) : (k0_pay3 x : FVec Ideal S1x1024 .f32) (ix2 (0 : Fin 1) k) = x (ix3 (0 : Fin 1) (0 : Fin 1) k) := by
  pointwise [k0_pay3]
  rfl
theorem side_at (x : Vec Ideal S1x8x1024 .f32) (p : Fin 8) (k : Fin 1024) : (k0_pay6 x : FVec Ideal S8x1024 .f32) (ix2 p k) = x (ix3 (0 : Fin 1) p k) := by
  pointwise [k0_pay6]
  rfl

/-- The rows around the tile, read at one of them. -/
theorem edge_row (c : Dev nD) (t : Fin cfg0.N) (p : Fin 16) (q : Fin 1280) (r : Fin 4096)
    (h : if p.val < 8 then 0 < t.val % 8 ∧ r.val + 8 = 512 * (t.val % 8) + p.val else t.val % 8 < 7 ∧ r.val + 8 = 512 * (t.val % 8) + 512 + p.val) :
    edges (k0_pay2 (iblk m c 3 t)) (k0_pay3 (iblk m c 4 t)) (k0_pay4 (iblk m c 5 t))
      (concatenate S16x1024 0 [⟨S8x1024, k0_pay6 (iblk m c 1 t)⟩, ⟨S8x1024, k0_pay7 (iblk m c 2 t)⟩] concatenates_S8x1024_S8x1024_S16x1024_d0)
      (View.ld (iblk m c 6 t) r0_5) (ix2 p q) = sequence m c (⟨q.val, by omega⟩ : Fin 3072) (batch t) r := by
  refine (edges_at _ _ _ _ _ p q).trans ?_
  unfold sequence TokenProjection.token
  refine TokenProjection.product_congr (fun k => ?_) (fun k => ?_) (fun k => ?_) (fun k => ?_) (fun k => ?_)
  · refine (sides_at _ _ p k).trans ?_
    by_cases hp : p.val < 8
    · rw [dif_pos hp]
      rw [if_pos hp] at h
      exact (side_at _ _ k).trans (block_1 m c t 0 _ k h.1 r h.2)
    · rw [dif_neg hp]
      rw [if_neg hp] at h
      exact (side_at _ _ k).trans (block_2 m c t 0 _ k h.1 r (by have := h.2; dsimp only; omega))
  · exact (gain_at _ k).trans (block_3 m c t 0 k)
  · exact (moved_at _ k).trans (block_4 m c t 0 0 k)
  · exact (moved_at _ k).trans (block_5 m c t 0 0 k)
  · refine (View.ld_unit_apply_of _ _ _ _ _ (ix2 k (⟨q.val, by omega⟩ : Fin 3072)) ?_).trans (congrFun (block_6 m c t) _)
    intro a
    match a with
    | ⟨0, _⟩ => show k.val = 0 + k.val; omega
    | ⟨1, _⟩ => show q.val = 0 + q.val; omega

theorem wide_row (c : Dev nD) (t : Fin cfg0.N) (p : Fin 528) (q : Fin 1280) :
    wide m c t (ix2 p q) = TokenProjection.around (sequence m c (⟨q.val, by omega⟩ : Fin 3072) (batch t)) (512 * (t.val % 8) + p.val) := by
  have hi : t.val % 8 < 8 := Nat.mod_lt _ (by decide)
  have e : wide m c t = joined (BitVec.ofNat 32 (t.val % 8)) (tile m c t) (edges (k0_pay2 (iblk m c 3 t)) (k0_pay3 (iblk m c 4 t)) (k0_pay4 (iblk m c 5 t))
      (concatenate S16x1024 0 [⟨S8x1024, k0_pay6 (iblk m c 1 t)⟩, ⟨S8x1024, k0_pay7 (iblk m c 2 t)⟩] concatenates_S8x1024_S8x1024_S16x1024_d0)
      (View.ld (iblk m c 6 t) r0_5)) := by
    unfold wide
    rw [wide_loads, (coords_at t).2.1]
    rfl
  rw [e]
  refine (joined_at ⟨t.val % 8, hi⟩ _ _ p q).trans ?_
  dsimp only
  split_ifs with h1 h2 h3 h4
  · exact (edge_row m c t _ q ⟨512 * (t.val % 8) + p.val - 8, by omega⟩ (by rw [if_pos (by exact h1)]; dsimp only; omega)).trans
      (TokenProjection.around_of _ (by dsimp only; omega)).symm
  · exact (TokenProjection.around_zero (by omega)).symm
  · exact (tile_row m c t _ _).trans (TokenProjection.around_of _ (by show _ = 512 * (t.val % 8) + (p.val - 8) + 8; omega)).symm
  · exact (edge_row m c t _ q ⟨512 * (t.val % 8) + p.val - 8, by omega⟩ (by rw [if_neg (by dsimp only; omega)]; dsimp only; omega)).trans
      (TokenProjection.around_of _ (by dsimp only; omega)).symm
  · exact (TokenProjection.around_zero (by omega)).symm

end Cert.InprojIdeal.Blocks

end
-- ==== Proof.InprojResult.lean ====
/- What the projections' kernel leaves in its eight results, over the extended reals. -/
module

public import proofs.«01_k».proof.Proof.InprojValue

@[expose] public section

set_option maxRecDepth 16384

noncomputable section

namespace Cert.InprojIdeal.Blocks

open Cert.InprojIdeal Cert.InprojIdeal.Gen
open Idealize.ShloMosaic hiding ix1 ix2 ix3 ix4
open Idealize.ShloMosaic.TcCoe
open Idealize.SL.Sem
open Idealize.ShloMosaic.ValueIdx (ix1 ix2 ix3 ix4)

variable (m : (ℓ : Loc nD τ sig) → Buf (Elt Ideal) ℓ) (ρ : Dev nD → PrngReg)

/-! ## The kernel's columns are the weights' -/

/-- A batch's projection onto one of the weights' columns, along the sequence. -/
abbrev alongs (c : Dev nD) (q : Fin 3008) (b : Fin 4) : Fin 4096 → EReal :=
  TokenProjection.along (m ((c : Thread nD τ).loc main_arg0)) (m ((c : Thread nD τ).loc main_arg1)) (m ((c : Thread nD τ).loc main_arg2)) (m ((c : Thread nD τ).loc main_arg3))
    (m ((c : Thread nD τ).loc main_arg4)) q b

theorem sequence_eq (c : Dev nD) (q : Fin 3072) (r : Fin 3008) (b : Fin 4)
    (h : ∀ k : Fin 1024, columns (m ((c : Thread nD τ).loc main_arg4)) (ix2 k q) = (m ((c : Thread nD τ).loc main_arg4) : Vec Ideal S1024x3008 .f32) (ix2 k r)) :
    sequence m c q b = alongs m c r b := by
  funext s
  unfold sequence alongs TokenProjection.along
  exact congrArg (fun w => TokenProjection.token _ _ _ _ w b s) (funext h)

theorem sequence_none (c : Dev nD) (q : Fin 3072) (b : Fin 4) (h : 1216 ≤ q.val ∧ q.val < 1280) : sequence m c q b = fun _ => 0 := by
  funext s
  unfold sequence TokenProjection.token
  rw [show (fun k : Fin 1024 => columns (m ((c : Thread nD τ).loc main_arg4)) (ix2 k q)) = fun _ => (0 : EReal) from funext fun k => columns_none _ k q h]
  exact TokenProjection.product_zero _ _ _ _

/-! ## The points' blocks in the results -/

/-- The row `p` of a point's tile is `512 * (t % 8) + p`, counted from eight before the first row of the tile. -/
theorem wide_at (c : Dev nD) (t : Fin cfg0.N) (d : ℕ) (p : Fin 512) (hd : d + p.val < 528) (q : Fin 1280) (r : Fin 3008)
    (h : ∀ k : Fin 1024, columns (m ((c : Thread nD τ).loc main_arg4)) (ix2 k (⟨q.val, by omega⟩ : Fin 3072)) = (m ((c : Thread nD τ).loc main_arg4) : Vec Ideal S1024x3008 .f32) (ix2 k r)) :
    wide m c t (ix2 (⟨d + p.val, hd⟩ : Fin 528) q) = TokenProjection.around (alongs m c r (batch t)) (d + (row t p).val) := by
  rw [wide_row, sequence_eq m c _ r _ h]
  exact congrArg _ (by show 512 * (t.val % 8) + (d + p.val) = d + (512 * (t.val % 8) + p.val); omega)

theorem tile_at_column (c : Dev nD) (t : Fin cfg0.N) (p : Fin 512) (q : Fin 3072) (r : Fin 3008)
    (h : ∀ k : Fin 1024, columns (m ((c : Thread nD τ).loc main_arg4)) (ix2 k q) = (m ((c : Thread nD τ).loc main_arg4) : Vec Ideal S1024x3008 .f32) (ix2 k r)) :
    tile m c t (ix2 p q) = alongs m c r (batch t) (row t p) := by
  rw [tile_row, sequence_eq m c _ r _ h]

/-- An index of a block, spelt out. -/
theorem spelt {n : ℕ} (y : (⟨3, ![1, 512, n]⟩ : Shape).Idx) : y = ix3 (y 0) (y 1) (y 2) := by
  funext a
  match a with
  | ⟨0, _⟩ => rfl
  | ⟨1, _⟩ => rfl
  | ⟨2, _⟩ => rfl

/-- Where a point's block lies in a result. -/
theorem placed {n : ℕ} (f : (⟨3, ![4, 4096, n]⟩ : Shape).Idx) (t : Fin cfg0.N) (z : Fin 1) (p : Fin 512) (q : Fin n)
    (h0 : (f 0).val = (BitVec.ofNat 32 (grid0.coords t 0).val).toNat * 1 + 1 * z.val) (h1 : (f 1).val = (BitVec.ofNat 32 (grid0.coords t 1).val).toNat * 512 + 1 * p.val)
    (h2 : (f 2).val = 0 * n + 1 * q.val) : f = ix3 (batch t) (row t p) q := by
  rw [batch_eq] at h0
  rw [tile_eq] at h1
  funext a
  apply Fin.ext
  match a with
  | ⟨0, _⟩ => show (f 0).val = t.val / 8; omega
  | ⟨1, _⟩ => show (f 1).val = 512 * (t.val % 8) + p.val; omega
  | ⟨2, _⟩ => show (f 2).val = q.val; omega

/-- The eight results. -/
abbrev forward (c : Dev nD) : S4x4096x256.Idx → EReal :=
  TokenProjection.forward (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
abbrev backward (c : Dev nD) : S4x4096x256.Idx → EReal :=
  TokenProjection.backward (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
abbrev gate (c : Dev nD) : S4x4096x256.Idx → EReal :=
  TokenProjection.gate (m ((c : Thread nD τ).loc main_arg0)) (m ((c : Thread nD τ).loc main_arg1)) (m ((c : Thread nD τ).loc main_arg2)) (m ((c : Thread nD τ).loc main_arg3))
    (m ((c : Thread nD τ).loc main_arg4))
abbrev rows (c : Dev nD) : S4x4096x768.Idx → EReal :=
  TokenProjection.rows (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg7))
abbrev lows (c : Dev nD) : S4x4096x256.Idx → EReal :=
  TokenProjection.lows (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg7))
abbrev query (c : Dev nD) : S4x4096x512.Idx → EReal :=
  TokenProjection.query (m ((c : Thread nD τ).loc main_arg0)) (m ((c : Thread nD τ).loc main_arg1)) (m ((c : Thread nD τ).loc main_arg2)) (m ((c : Thread nD τ).loc main_arg3))
    (m ((c : Thread nD τ).loc main_arg4))
abbrev key (c : Dev nD) : S4x4096x512.Idx → EReal :=
  TokenProjection.key (m ((c : Thread nD τ).loc main_arg0)) (m ((c : Thread nD τ).loc main_arg1)) (m ((c : Thread nD τ).loc main_arg2)) (m ((c : Thread nD τ).loc main_arg3))
    (m ((c : Thread nD τ).loc main_arg4))
abbrev value (c : Dev nD) : S4x4096x512.Idx → EReal :=
  TokenProjection.value (m ((c : Thread nD τ).loc main_arg0)) (m ((c : Thread nD τ).loc main_arg1)) (m ((c : Thread nD τ).loc main_arg2)) (m ((c : Thread nD τ).loc main_arg3))
    (m ((c : Thread nD τ).loc main_arg4))

/-! ## What a point leaves in each -/

theorem all_7 (x : Vec Ideal S2x4x256 .f32) : View.ld x r0_6 = x := View.ld_unit_lit _ x (by decide)

theorem all_8 (x : Vec Ideal S2x256 .f32) : View.ld x r0_7 = x := View.ld_unit_lit _ x (by decide)

theorem all_9 (x : Vec Ideal S2x1024 .f32) : View.ld x r0_9 = x := View.ld_unit_lit _ x (by decide)

theorem left_10 (c : Dev nD) (t : Fin cfg0.N) (z : Fin 1) (p : Fin 512) (q : Fin 256) :
    ((dats m 0 c).after 10 t : Vec Ideal S1x512x256 .f32) (ix3 z p q) = forward m c (ix3 (batch t) (row t p) q) := by
  have hc := fun k : Fin 1024 => columns_first (m ((c : Thread nD τ).loc main_arg4)) k (⟨q.val, by omega⟩ : Fin 3072) (⟨q.val, by omega⟩ : Fin 3008) q.isLt rfl
  rw [after0_10]
  unfold out0_10
  rw [View.canon_cons_unit_lit _ _ _ (by decide)]
  unfold k0_pay30
  refine (forward_at _ _ _ _ _ _ _ _ (wide m c t) rfl _ _ z p q).trans ?_
  rw [all_7 (iblk m c 7 t), all_8 (iblk m c 8 t), block_7, block_8]
  rw [wide_at m c t 8 p _ _ _ hc, wide_at m c t 7 p _ _ _ hc, wide_at m c t 6 p _ _ _ hc, wide_at m c t 5 p _ _ _ hc]
  rfl

theorem left_11 (c : Dev nD) (t : Fin cfg0.N) (z : Fin 1) (p : Fin 512) (q : Fin 256) :
    ((dats m 0 c).after 11 t : Vec Ideal S1x512x256 .f32) (ix3 z p q) = backward m c (ix3 (batch t) (row t p) q) := by
  have hc := fun k : Fin 1024 => columns_first (m ((c : Thread nD τ).loc main_arg4)) k (⟨q.val, by omega⟩ : Fin 3072) (⟨q.val, by omega⟩ : Fin 3008) q.isLt rfl
  rw [after0_11]
  unfold out0_11
  rw [View.canon_cons_unit_lit _ _ _ (by decide)]
  unfold k0_pay30
  refine (backward_at _ _ _ _ _ _ _ _ (wide m c t) rfl _ _ z p q).trans ?_
  rw [all_7 (iblk m c 7 t), all_8 (iblk m c 8 t), block_7, block_8]
  rw [wide_at m c t 8 p _ _ _ hc, wide_at m c t 9 p _ _ _ hc, wide_at m c t 10 p _ _ _ hc, wide_at m c t 11 p _ _ _ hc]
  rfl

theorem left_12 (c : Dev nD) (t : Fin cfg0.N) (z : Fin 1) (p : Fin 512) (q : Fin 256) :
    ((dats m 0 c).after 12 t : Vec Ideal S1x512x256 .f32) (ix3 z p q) = gate m c (ix3 (batch t) (row t p) q) := by
  rw [after0_12]
  unfold out0_12
  rw [View.canon_cons_unit_lit _ _ _ (by decide)]
  exact (gate_at _ z p q).trans (tile_at_column m c t p _ ⟨256 + q.val, by omega⟩ fun k => columns_gate _ k _ _ (by dsimp only; omega) (by dsimp only; omega))

/-- The token shift of a tile, at a column that is one of the weights'. -/
theorem shift_row (c : Dev nD) (t : Fin cfg0.N) (p : Fin 512) (q : Fin 1024) (r : Fin 960) (hr : r.val = q.val) :
    (k0_pay17 (wide m c t) (k0_pay15 (wide m c t)) (k0_pay16 (wide m c t)) (shifts (m ((c : Thread nD τ).loc main_arg7))) : FVec Ideal S512x1024 .f32) (ix2 p q)
      = TokenProjection.mixed (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg7)) r (batch t) (row t p) := by
  have hc := fun k : Fin 1024 => columns_mixed (m ((c : Thread nD τ).loc main_arg4)) k (⟨256 + q.val, by omega⟩ : Fin 3072) (⟨512 + r.val, by omega⟩ : Fin 3008)
    (by dsimp only; omega) (by dsimp only; omega)
  refine (shift_at _ _ p q).trans ?_
  rw [wide_at m c t 8 p _ _ _ hc, wide_at m c t 7 p _ _ _ hc, wide_at m c t 9 p _ _ _ hc, shifts_some _ 0 q r hr, shifts_some _ 1 q r hr]
  rfl

/-- At the columns of zeros. -/
theorem shift_none (c : Dev nD) (t : Fin cfg0.N) (p : Fin 512) (q : Fin 1024) (h : 960 ≤ q.val) :
    (k0_pay17 (wide m c t) (k0_pay15 (wide m c t)) (k0_pay16 (wide m c t)) (shifts (m ((c : Thread nD τ).loc main_arg7))) : FVec Ideal S512x1024 .f32) (ix2 p q) = (0 : EReal) := by
  have hw : ∀ r : Fin 528, wide m c t (ix2 r (⟨256 + q.val, by omega⟩ : Fin 1280)) = (0 : EReal) := fun r => by
    rw [wide_row, sequence_none m c _ _ (by dsimp only; omega)]
    unfold TokenProjection.around
    split <;> rfl
  refine (shift_at _ _ p q).trans ?_
  rw [hw, hw, hw, shifts_none _ 0 q h, shifts_none _ 1 q h]
  simp

theorem left_13 (c : Dev nD) (t : Fin cfg0.N) (z : Fin 1) (p : Fin 512) (q : Fin 768) :
    ((dats m 0 c).after 13 t : Vec Ideal S1x512x768 .f32) (ix3 z p q) = rows m c (ix3 (batch t) (row t p) q) := by
  rw [after0_13]
  unfold out0_13
  rw [View.canon_cons_unit_lit _ _ _ (by decide), all_9 (iblk m c 9 t), block_9]
  exact (rows_at (wide m c t) _ z p q).trans (shift_row m c t p _ _ rfl)

theorem left_14 (c : Dev nD) (t : Fin cfg0.N) (z : Fin 1) (p : Fin 512) (q : Fin 256) :
    ((dats m 0 c).after 14 t : Vec Ideal S1x512x256 .f32) (ix3 z p q) = lows m c (ix3 (batch t) (row t p) q) := by
  rw [after0_14]
  unfold out0_14
  rw [View.canon_cons_unit_lit _ _ _ (by decide), all_9 (iblk m c 9 t), block_9]
  refine (lows_at (wide m c t) _ z p q).trans ?_
  unfold lows TokenProjection.lows
  by_cases h : q.val < 192
  · rw [dif_pos (show ((ix3 (batch t) (row t p) q : S4x4096x256.Idx) 2).val < 192 from h)]
    exact shift_row m c t p _ ⟨768 + q.val, by omega⟩ rfl
  · rw [dif_neg (show ¬((ix3 (batch t) (row t p) q : S4x4096x256.Idx) 2).val < 192 from h)]
    exact shift_none m c t p _ (by dsimp only; omega)

theorem left_15 (c : Dev nD) (t : Fin cfg0.N) (z : Fin 1) (p : Fin 512) (q : Fin 512) :
    ((dats m 0 c).after 15 t : Vec Ideal S1x512x512 .bf16) (ix3 z p q) = query m c (ix3 (batch t) (row t p) q) := by
  rw [after0_15]
  unfold out0_15
  rw [View.canon_cons_unit_lit _ _ _ (by decide)]
  exact (query_at _ z p q).trans (congrArg (fun v : EReal => v * Ideal.ofBits FTy.f32 1040187392#32)
    (tile_at_column m c t p _ ⟨1472 + q.val, by omega⟩ fun k => columns_heads _ k _ _ (by dsimp only; omega) (by dsimp only; omega)))

theorem left_16 (c : Dev nD) (t : Fin cfg0.N) (z : Fin 1) (p : Fin 512) (q : Fin 512) :
    ((dats m 0 c).after 16 t : Vec Ideal S1x512x512 .bf16) (ix3 z p q) = key m c (ix3 (batch t) (row t p) q) := by
  rw [after0_16]
  unfold out0_16
  rw [View.canon_cons_unit_lit _ _ _ (by decide)]
  exact (key_at _ z p q).trans (tile_at_column m c t p _ ⟨1984 + q.val, by omega⟩ fun k => columns_heads _ k _ _ (by dsimp only; omega) (by dsimp only; omega))

theorem left_17 (c : Dev nD) (t : Fin cfg0.N) (z : Fin 1) (p : Fin 512) (q : Fin 512) :
    ((dats m 0 c).after 17 t : Vec Ideal S1x512x512 .bf16) (ix3 z p q) = value m c (ix3 (batch t) (row t p) q) := by
  rw [after0_17]
  unfold out0_17
  rw [View.canon_cons_unit_lit _ _ _ (by decide)]
  exact (value_at _ z p q).trans (tile_at_column m c t p _ ⟨2496 + q.val, by omega⟩ fun k => columns_heads _ k _ _ (by dsimp only; omega) (by dsimp only; omega))

/-! ## The arrays -/

theorem array_10 (c : Dev nD) : (dats m 0 c).arrAt 10 cfg0.N = forward m c :=
  (dats m 0 c).arrAt_eq_of_covers 10 (forward m c) (by decide +kernel)
    (fun t _ (y : S1x512x256.Idx) => (congrArg ((dats m 0 c).after 10 t : Vec Ideal S1x512x256 .f32) (spelt y)).trans
      ((left_10 m c t _ _ _).trans (congrArg (forward m c) (placed _ t (y 0) (y 1) (y 2) rfl rfl rfl)).symm))

theorem array_11 (c : Dev nD) : (dats m 0 c).arrAt 11 cfg0.N = backward m c :=
  (dats m 0 c).arrAt_eq_of_covers 11 (backward m c) (by decide +kernel)
    (fun t _ (y : S1x512x256.Idx) => (congrArg ((dats m 0 c).after 11 t : Vec Ideal S1x512x256 .f32) (spelt y)).trans
      ((left_11 m c t _ _ _).trans (congrArg (backward m c) (placed _ t (y 0) (y 1) (y 2) rfl rfl rfl)).symm))

theorem array_12 (c : Dev nD) : (dats m 0 c).arrAt 12 cfg0.N = gate m c :=
  (dats m 0 c).arrAt_eq_of_covers 12 (gate m c) (by decide +kernel)
    (fun t _ (y : S1x512x256.Idx) => (congrArg ((dats m 0 c).after 12 t : Vec Ideal S1x512x256 .f32) (spelt y)).trans
      ((left_12 m c t _ _ _).trans (congrArg (gate m c) (placed _ t (y 0) (y 1) (y 2) rfl rfl rfl)).symm))

theorem array_13 (c : Dev nD) : (dats m 0 c).arrAt 13 cfg0.N = rows m c :=
  (dats m 0 c).arrAt_eq_of_covers 13 (rows m c) (by decide +kernel)
    (fun t _ (y : S1x512x768.Idx) => (congrArg ((dats m 0 c).after 13 t : Vec Ideal S1x512x768 .f32) (spelt y)).trans
      ((left_13 m c t _ _ _).trans (congrArg (rows m c) (placed _ t (y 0) (y 1) (y 2) rfl rfl rfl)).symm))

theorem array_14 (c : Dev nD) : (dats m 0 c).arrAt 14 cfg0.N = lows m c :=
  (dats m 0 c).arrAt_eq_of_covers 14 (lows m c) (by decide +kernel)
    (fun t _ (y : S1x512x256.Idx) => (congrArg ((dats m 0 c).after 14 t : Vec Ideal S1x512x256 .f32) (spelt y)).trans
      ((left_14 m c t _ _ _).trans (congrArg (lows m c) (placed _ t (y 0) (y 1) (y 2) rfl rfl rfl)).symm))

theorem array_15 (c : Dev nD) : (dats m 0 c).arrAt 15 cfg0.N = query m c :=
  (dats m 0 c).arrAt_eq_of_covers 15 (query m c) (by decide +kernel)
    (fun t _ (y : S1x512x512.Idx) => (congrArg ((dats m 0 c).after 15 t : Vec Ideal S1x512x512 .bf16) (spelt y)).trans
      ((left_15 m c t _ _ _).trans (congrArg (query m c) (placed _ t (y 0) (y 1) (y 2) rfl rfl rfl)).symm))

theorem array_16 (c : Dev nD) : (dats m 0 c).arrAt 16 cfg0.N = key m c :=
  (dats m 0 c).arrAt_eq_of_covers 16 (key m c) (by decide +kernel)
    (fun t _ (y : S1x512x512.Idx) => (congrArg ((dats m 0 c).after 16 t : Vec Ideal S1x512x512 .bf16) (spelt y)).trans
      ((left_16 m c t _ _ _).trans (congrArg (key m c) (placed _ t (y 0) (y 1) (y 2) rfl rfl rfl)).symm))

theorem array_17 (c : Dev nD) : (dats m 0 c).arrAt 17 cfg0.N = value m c :=
  (dats m 0 c).arrAt_eq_of_covers 17 (value m c) (by decide +kernel)
    (fun t _ (y : S1x512x512.Idx) => (congrArg ((dats m 0 c).after 17 t : Vec Ideal S1x512x512 .bf16) (spelt y)).trans
      ((left_17 m c t _ _ _).trans (congrArg (value m c) (placed _ t (y 0) (y 1) (y 2) rfl rfl rfl)).symm))

/-- The run: the eight results, and the arguments kept. -/
theorem run_result (ρ : Dev nD → PrngReg) : θ_run (defs (F := Ideal)) (onTc (τ := τ) (main (F := Ideal))) ⟨m, fun _ => 0, ρ⟩ fun r => ∀ c : Dev nD,
      r.2.mem ((c : Thread nD τ).loc main_v15_0) = forward m c
      ∧ r.2.mem ((c : Thread nD τ).loc main_v15_1) = backward m c
      ∧ r.2.mem ((c : Thread nD τ).loc main_v15_2) = gate m c
      ∧ r.2.mem ((c : Thread nD τ).loc main_v15_3) = rows m c
      ∧ r.2.mem ((c : Thread nD τ).loc main_v15_4) = lows m c
      ∧ r.2.mem ((c : Thread nD τ).loc main_v15_5) = query m c
      ∧ r.2.mem ((c : Thread nD τ).loc main_v15_6) = key m c
      ∧ r.2.mem ((c : Thread nD τ).loc main_v15_7) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨h0, h1, h2, h3, h4, h5, h6, h7, hk⟩ := h c
    exact ⟨h0.trans (array_10 m c), h1.trans (array_11 m c), h2.trans (array_12 m c), h3.trans (array_13 m c), h4.trans (array_14 m c),
      h5.trans (array_15 m c), h6.trans (array_16 m c), h7.trans (array_17 m c), hk⟩) (Value.run_blocks m ρ)

end Cert.InprojIdeal.Blocks

end
-- ==== Proof.Dispatch.lean ====
/- The dispatch kernel's scatter of token rows, run once at symbolic operands. One point of the grid brings 4096
   destination words into scalar memory, starts 4096 copies (four per trip of a counted loop, each of one token row
   into the row its word names) on ONE semaphore, and waits for all of them by four descriptors of 1024 rows. -/
module

public import proofs.«01_k».proof.Proof.Gen.KernelIdeal
public import proofs.«01_k».proof.Proof.Gen.KernelIdeal.Skeleton
public import Idealize.ShloMosaic.Lib.Pipeline.Routed
public import Idealize.ShloMosaic.Lib.Batch
public import Idealize.ShloMosaic.Lib.Ring
public import Idealize.ShloMosaic.Lib.Tactic
public import Idealize.ShloMosaic.Lib.ValueLayout

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Idealize.ShloMosaic.ValueIdx (ix1)

variable {F : FTy → Type} [FloatOps F]

local notation "𝕄" => MT nD τ sig Unit (Elt F) ℕ (UC sig nD τ) ℕ

/-- What a memref's buffer holds on core `c`, and that buffer held whole. -/
abbrev Held (c : Dev nD) {sp : Space} {S : Shape} {e : EltTy} (M : Memref sig .tc sp S e) : Type := Buf (Elt F) (M.view.loc (c : Thread nD τ))
abbrev owns (c : Dev nD) {sp : Space} {S : Shape} {e : EltTy} (M : Memref sig .tc sp S e) (f : Held (F := F) c M) : sProp 𝕄 :=
  M.view.loc (c : Thread nD τ) ↦{fullShare} f

/-- The trips of the issuing loop. -/
abbrev Trip : Type := Fin k0_t1_loop.trips
theorem trips_eq : k0_t1_loop.trips = 1024 := by decide

abbrev firstWord : S1.Idx := Shape.Idx.first (s := S1) (numel1_S1.symm ▸ Nat.one_pos)

section Words

variable {c : Dev nD} (f5 : Held (F := F) c (Memref.whole cc0_scratch0))

/-- The four words trip `k` loads, as the body spells them. -/
abbrev wdA (k : Trip) : BitVec 32 := (Memref.whole cc0_scratch0).view.readAt (Elt F) (Rect.unit (s := S4096) (k0_off2 k) S1.size (k0_off2_inb k)).toLoadRect f5 firstWord
abbrev wdB (k : Trip) : BitVec 32 := (Memref.whole cc0_scratch0).view.readAt (Elt F) (Rect.unit (s := S4096) (k0_off5 k) S1.size (k0_off5_inb k)).toLoadRect f5 firstWord
abbrev wdC (k : Trip) : BitVec 32 := (Memref.whole cc0_scratch0).view.readAt (Elt F) (Rect.unit (s := S4096) (k0_off8 k) S1.size (k0_off8_inb k)).toLoadRect f5 firstWord
abbrev wdD (k : Trip) : BitVec 32 := (Memref.whole cc0_scratch0).view.readAt (Elt F) (Rect.unit (s := S4096) (k0_off11 k) S1.size (k0_off11_inb k)).toLoadRect f5 firstWord

/-- Word `t` of the scalar buffer. -/
def wd (t : Fin 4096) : BitVec 32 := (f5 : S4096.Idx → BitVec 32) (ix1 t)

omit [FloatOps F] in
theorem wdA_eq (k : Trip) (t : Fin 4096) (h : t.val = 4 * k.val) : wdA f5 k = wd f5 t := by
  have e : k0_off2 k 0 = 4 * k.val := (by decide +kernel : ∀ k : Trip, k0_off2 k 0 = 4 * k.val) k
  unfold wd
  refine congrArg (f5 : S4096.Idx → BitVec 32) (funext fun a => ?_)
  fin_cases a
  exact Fin.ext (by show k0_off2 k 0 + 1 * 0 = t.val; omega)
omit [FloatOps F] in
theorem wdB_eq (k : Trip) (t : Fin 4096) (h : t.val = 4 * k.val + 1) : wdB f5 k = wd f5 t := by
  have e : k0_off5 k 0 = 4 * k.val + 1 := (by decide +kernel : ∀ k : Trip, k0_off5 k 0 = 4 * k.val + 1) k
  unfold wd
  refine congrArg (f5 : S4096.Idx → BitVec 32) (funext fun a => ?_)
  fin_cases a
  exact Fin.ext (by show k0_off5 k 0 + 1 * 0 = t.val; omega)
omit [FloatOps F] in
theorem wdC_eq (k : Trip) (t : Fin 4096) (h : t.val = 4 * k.val + 2) : wdC f5 k = wd f5 t := by
  have e : k0_off8 k 0 = 4 * k.val + 2 := (by decide +kernel : ∀ k : Trip, k0_off8 k 0 = 4 * k.val + 2) k
  unfold wd
  refine congrArg (f5 : S4096.Idx → BitVec 32) (funext fun a => ?_)
  fin_cases a
  exact Fin.ext (by show k0_off8 k 0 + 1 * 0 = t.val; omega)
omit [FloatOps F] in
theorem wdD_eq (k : Trip) (t : Fin 4096) (h : t.val = 4 * k.val + 3) : wdD f5 k = wd f5 t := by
  have e : k0_off11 k 0 = 4 * k.val + 3 := (by decide +kernel : ∀ k : Trip, k0_off11 k 0 = 4 * k.val + 3) k
  unfold wd
  refine congrArg (f5 : S4096.Idx → BitVec 32) (funext fun a => ?_)
  fin_cases a
  exact Fin.ext (by show k0_off11 k 0 + 1 * 0 = t.val; omega)

/-- What one point asks of its words: each names a row of the result, no two the same. -/
structure WordsOK : Prop where
  inside : ∀ t, (wd f5 t).toNat < 77824
  apart : ∀ t t', t ≠ t' → (wd f5 t).toNat ≠ (wd f5 t').toNat

end Words

/-- The row of a word below 77824 lies in the result: what the body assumes of the word. -/
theorem row_inb (w : BitVec 32) (h : w.toNat < 77824) : k0_chk1 w := by
  intro a; fin_cases a
  · show w.toNat + 1 ≤ 77824; omega
  · show 0 + 8 ≤ 8; omega
  · show 0 + 128 ≤ 128; omega

/-- Row `w` of the result buffer, spelled as a copy's destination is. -/
def pgM (w : BitVec 32) (h : w.toNat < 77824) : Memref sig .tc .hbm S8x128 .f32 :=
  ((Memref.whole main_v0).slice (Rect.unit (s := S77824x8x128) (k0_off3 w) S1x8x128.size (k0_off3_inb w (row_inb w h))) (fun _ => rfl)).squeeze S8x128 squeezes_S1x8x128_S8x128
/-- Token row `k` of the staged block, spelled as a copy's source is. -/
def srcM (arg2 : Memref sig .tc .vmem S1024x8x128 .f32) (k : Trip) : Memref sig .tc .vmem S8x128 .f32 :=
  (arg2.slice (Rect.unit (s := S1024x8x128) (k0_off4 k) S1x8x128.size (k0_off4_inb k)) (fun _ => rfl)).squeeze S8x128 squeezes_S1x8x128_S8x128

section Deliveries

variable (c : Dev nD) (arg2 : Memref sig .tc .vmem S1024x8x128 .f32)
  (fv : Held (F := F) c (Memref.whole main_v0)) (fs : Held (F := F) c arg2)

/-- The contents at the location types of a row's memref, so that the points-tos below need no cast. -/
abbrev fvAt (w : BitVec 32) (h : w.toNat < 77824) : Buf (Elt F) ((pgM w h).view.loc (c : Thread nD τ)) := fv
abbrev fsAt (k : Trip) : Buf (Elt F) ((srcM arg2 k).view.loc (c : Thread nD τ)) := fs

/-- Row `w` of the result before its copy, and token row `k` at share `q`, each by its own elements. -/
abbrev pgPt (w : BitVec 32) (h : w.toNat < 77824) : sProp 𝕄 :=
  (pgM w h).view.loc (c : Thread nD τ) ↦[(pgM w h).view.set]{fullShare} fvAt c fv w h
abbrev srcPt (k : Trip) (q : PosShare TreeShare) : sProp 𝕄 :=
  (srcM arg2 k).view.loc (c : Thread nD τ) ↦[(srcM arg2 k).view.set]{q} fsAt c arg2 fs k

/-- Row `w` landed: token row `k` read, written over what the row held. -/
abbrev landed (w : BitVec 32) (h : w.toNat < 77824) (k : Trip) : Buf (Elt F) ((pgM w h).view.loc (c : Thread nD τ)) :=
  (pgM w h).view.writes (Elt F) (fvAt c fv w h) [⟨Rect.whole S8x128, ReadAs.same.apply ((srcM arg2 k).view.read (Elt F) (fsAt c arg2 fs k))⟩]

/-- What the copy of token row `k` into row `w` hands back: the row landed, and the source's share. -/
def handsBack (w : BitVec 32) (h : w.toNat < 77824) (k : Trip) (q : PosShare TreeShare) : sProp 𝕄 :=
  iprop(((pgM w h).view.loc (c : Thread nD τ) ↦[(pgM w h).view.set]{fullShare} landed c arg2 fv fs w h k)
    ∗ srcPt c arg2 fs k q)

instance handsBack_storable (w : BitVec 32) (h : w.toNat < 77824) (k : Trip) (q : PosShare TreeShare) :
    BI.Storable (upEmb : UEmb _ 𝕄) (handsBack c arg2 fv fs w h k q) := by
  unfold handsBack; infer_instance

omit [FloatOps F] in
theorem handsBack_congr {w w' : BitVec 32} (hw : w = w') (h : w.toNat < 77824) (h' : w'.toNat < 77824) {k k' : Trip} (hk : k = k')
    {q q' : PosShare TreeShare} (hq : q = q') : handsBack c arg2 fv fs w h k q = handsBack c arg2 fv fs w' h' k' q' := by
  subst hw hk hq; rfl

end Deliveries

/-- One copy's credit: a row of 4096 bytes in units of 32. -/
abbrev NN : ℕ := (pgM 0#32 (by decide)).view.amount (SemLoc.dma (sig := sig) (cc0_scratch2 : DmaSems sig S_).sem)

section Issue

variable (c : Dev nD) (arg2 : Memref sig .tc .vmem S1024x8x128 .f32) (f5 : Held (F := F) c (Memref.whole cc0_scratch0))
  (hok : WordsOK f5) (fv : Held (F := F) c (Memref.whole main_v0)) (fs : Held (F := F) c arg2) (q : Fin 4 → PosShare TreeShare)

/-- The trip that starts copy `t`. -/
abbrev tripOf (t : Fin 4096) : Trip := ⟨t.val / 4, by rw [trips_eq]; have := t.isLt; omega⟩

/-- Copy `t` (the `t % 4`-th of trip `t / 4`) moves token row `t / 4` into the row word `t` names. -/
def D (t : Fin 4096) : sProp 𝕄 :=
  handsBack c arg2 fv fs (wd f5 t) (hok.inside t) (tripOf t) (q ⟨t.val % 4, Nat.mod_lt _ (by decide)⟩)

instance D_storable (t : Fin 4096) : BI.Storable (upEmb : UEmb _ 𝕄) (D c arg2 f5 hok fv fs q t) := by
  unfold D; infer_instance

omit [FloatOps F] in
theorem D_eq (t : Fin 4096) (k : Trip) (j : Fin 4) (h : t.val = 4 * k.val + j.val) (w : BitVec 32) (hw : w = wd f5 t) (hlt : w.toNat < 77824) :
    handsBack c arg2 fv fs w hlt k (q j) = D c arg2 f5 hok fv fs q t := by
  have hj := j.isLt
  unfold D
  exact handsBack_congr c arg2 fv fs hw _ _ (Fin.ext (by show k.val = t.val / 4; omega)) (congrArg q (Fin.ext (by show j.val = t.val % 4; omega)))

/-- The batch on the copies' semaphore: `j` started, `u` units waited for. -/
abbrev batch (arg7 : DmaSems sig S_) (j u : ℕ) : sProp 𝕄 :=
  Transfers.Batch countersEmb (c : Thread nD τ) (.dma arg7.sem) () NN (D c arg2 f5 hok fv fs q) j u

include hok in
omit [FloatOps F] in
theorem ltA (k : Trip) : (wdA f5 k).toNat < 77824 := by
  have hk : k.val < 1024 := trips_eq ▸ k.isLt
  rw [wdA_eq f5 k ⟨4 * k.val, by omega⟩ rfl]; exact hok.inside _
include hok in
omit [FloatOps F] in
theorem ltB (k : Trip) : (wdB f5 k).toNat < 77824 := by
  have hk : k.val < 1024 := trips_eq ▸ k.isLt
  rw [wdB_eq f5 k ⟨4 * k.val + 1, by omega⟩ rfl]; exact hok.inside _
include hok in
omit [FloatOps F] in
theorem ltC (k : Trip) : (wdC f5 k).toNat < 77824 := by
  have hk : k.val < 1024 := trips_eq ▸ k.isLt
  rw [wdC_eq f5 k ⟨4 * k.val + 2, by omega⟩ rfl]; exact hok.inside _
include hok in
omit [FloatOps F] in
theorem ltD (k : Trip) : (wdD f5 k).toNat < 77824 := by
  have hk : k.val < 1024 := trips_eq ▸ k.isLt
  rw [wdD_eq f5 k ⟨4 * k.val + 3, by omega⟩ rfl]; exact hok.inside _

/-- The four destination rows of trip `k`, and its token row in four shares. -/
abbrev pages (k : Trip) : sProp 𝕄 :=
  iprop(pgPt c fv (wdA f5 k) (ltA c f5 hok k) ∗ pgPt c fv (wdB f5 k) (ltB c f5 hok k)
    ∗ pgPt c fv (wdC f5 k) (ltC c f5 hok k) ∗ pgPt c fv (wdD f5 k) (ltD c f5 hok k))
abbrev shares (k : Trip) : sProp 𝕄 :=
  iprop(srcPt c arg2 fs k (q 0) ∗ srcPt c arg2 fs k (q 1) ∗ srcPt c arg2 fs k (q 2) ∗ srcPt c arg2 fs k (q 3))

/-- Before trip `k`: four copies of each earlier trip started, the rows of the trips from `k` on still in hand. -/
def issueAt (arg7 : DmaSems sig S_) (k : ℕ) (_ : Unit) : sProp 𝕄 :=
  iprop(batch c arg2 f5 hok fv fs q arg7 (4 * k) 0
    ∗ bigSep (Ring.rangeSet k0_t1_loop.trips k 1024) (fun t => pages c f5 hok fv t)
    ∗ bigSep (Ring.rangeSet k0_t1_loop.trips k 1024) (fun t => shares c arg2 fs q t)
    ∗ owns c (Memref.whole cc0_scratch0) f5)

/-- One trip: the four rows and the four shares of its token row split off, four loads and four copies. -/
theorem issue_step [∀ e, Nonempty (Elt F e)] (i : grid0.Coords) (arg1 : Memref sig .tc .hbm S69632 .i32) (harg1 : arg1.IsWhole)
    (harg2 : arg2.IsWhole) (k : Trip) (acc : Unit) :
    issueAt c arg2 f5 hok fv fs q cc0_scratch2 k acc
      ⊢ wp frame (wpE (defs₀ (F := F)) Variants.none c none) Set.univ
          (k0_t1_body i arg1 harg1 arg2 harg2 (Memref.whole main_v0) (Memref.isWhole_whole _) (Memref.whole main_v0) (Memref.isWhole_whole _)
            (Memref.whole cc0_scratch0) (Memref.isWhole_whole _) cc0_scratch1 cc0_scratch2 k acc)
          (issueAt c arg2 f5 hok fv fs q cc0_scratch2 (k.val + 1)) := by
  have hk : k.val < 1024 := trips_eq ▸ k.isLt
  have c1 : k0_chk1 (wdA f5 k) := row_inb _ (ltA c f5 hok k)
  have c2 : k0_chk2 (wdB f5 k) := row_inb _ (ltB c f5 hok k)
  have c3 : k0_chk3 (wdC f5 k) := row_inb _ (ltC c f5 hok k)
  have c4 : k0_chk4 (wdD f5 k) := row_inb _ (ltD c f5 hok k)
  have d1 := D_eq c arg2 f5 hok fv fs q ⟨4 * k.val, by omega⟩ k 0 rfl _ (wdA_eq f5 k _ rfl) (ltA c f5 hok k)
  have d2 := D_eq c arg2 f5 hok fv fs q ⟨4 * k.val + 1, by omega⟩ k 1 rfl _ (wdB_eq f5 k _ rfl) (ltB c f5 hok k)
  have d3 := D_eq c arg2 f5 hok fv fs q ⟨4 * k.val + 2, by omega⟩ k 2 rfl _ (wdC_eq f5 k _ rfl) (ltC c f5 hok k)
  have d4 := D_eq c arg2 f5 hok fv fs q ⟨4 * k.val + 3, by omega⟩ k 3 rfl _ (wdD_eq f5 k _ rfl) (ltD c f5 hok k)
  unfold issueAt batch
  generalize D c arg2 f5 hok fv fs q = G at d1 d2 d3 d4 ⊢
  unfold handsBack at d1 d2 d3 d4
  rw [Ring.bigSep_rangeSet_head (Φ := fun t => pages c f5 hok fv t) hk k.isLt,
    Ring.bigSep_rangeSet_head (Φ := fun t => shares c arg2 fs q t) hk k.isLt]
  iintro ⟨HB, ⟨⟨P0, P1, P2, P3⟩, HPs⟩, ⟨⟨S0, S1, S2, S3⟩, HSs⟩, H0⟩
  dsimp only [k0_t1_body, k0_part1_eq_skeleton, k0_part1_skel]
  sl_exec (disch := first | sl_exact c1 | sl_exact c2 | sl_exact c3 | sl_exact c4 | (refine BIBase.Entails.trans ?_ (Entails.of_eq d1); exact Entails.of_eq rfl) | (refine BIBase.Entails.trans ?_ (Entails.of_eq d2); exact Entails.of_eq rfl) | (refine BIBase.Entails.trans ?_ (Entails.of_eq d3); exact Entails.of_eq rfl) | (refine BIBase.Entails.trans ?_ (Entails.of_eq d4); exact Entails.of_eq rfl))
  sl_step
  isplitl [HB]; · iexact HB
  isplitl [HPs]; · iexact HPs
  isplitl [HSs]; · iexact HSs
  iexact H0

end Issue

end Cert.KernelIdeal.Dispatch
-- ==== Proof.Rows.lean ====
/- The rows of the two arrays of the dispatch kernel: which elements a copy's destination and source hold, what a landed
   row holds, and the two arrays taken apart into the rows of 4096 copies and put together again. -/
module

public import proofs.«01_k».proof.Proof.Dispatch
public import Idealize.SL.BI.BigOpNat

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Idealize.ShloMosaic.ValueIdx (ix1 ix2 ix3)

variable {F : FTy → Type} [FloatOps F]

local notation "𝕄" => MT nD τ sig Unit (Elt F) ℕ (UC sig nD τ) ℕ

/-! ## Grouping a family of 4096 by fours -/

omit [FloatOps F] in
theorem regroup (P0 P1 P2 P3 R : sProp 𝕄) : iprop(P3 ∗ P2 ∗ P1 ∗ P0 ∗ R) = iprop((P0 ∗ P1 ∗ P2 ∗ P3) ∗ R) := by
  have h1 : iprop(P3 ∗ P2 ∗ P1 ∗ P0 ∗ R) ⊢ iprop((P0 ∗ P1 ∗ P2 ∗ P3) ∗ R) := by
    iintro ⟨H3, H2, H1, H0, H⟩
    isplitr [H]
    · isplitl [H0]; · iexact H0
      isplitl [H1]; · iexact H1
      isplitl [H2]; · iexact H2
      iexact H3
    · iexact H
  have h2 : iprop((P0 ∗ P1 ∗ P2 ∗ P3) ∗ R) ⊢ iprop(P3 ∗ P2 ∗ P1 ∗ P0 ∗ R) := by
    iintro ⟨⟨H0, H1, H2, H3⟩, H⟩
    isplitl [H3]; · iexact H3
    isplitl [H2]; · iexact H2
    isplitl [H1]; · iexact H1
    isplitl [H0]; · iexact H0
    iexact H
  exact BI.equiv_iff.mp ⟨h1, h2⟩

omit [FloatOps F] in
theorem bigSep_fours (A : ℕ → sProp 𝕄) : ∀ n : ℕ,
    bigSep (Finset.range (4 * n)) A
      = bigSep (Finset.range n) (fun k => iprop(A (4 * k) ∗ A (4 * k + 1) ∗ A (4 * k + 2) ∗ A (4 * k + 3)))
  | 0 => by simp
  | n + 1 => by
      rw [show 4 * (n + 1) = 4 * n + 1 + 1 + 1 + 1 from rfl, BI.bigSep_range_succ, BI.bigSep_range_succ, BI.bigSep_range_succ,
        BI.bigSep_range_succ, bigSep_fours A n, BI.bigSep_range_succ]
      exact regroup _ _ _ _ _

/-- Copy `4k + j`, by the trip that starts it. -/
abbrev copyOf (k : Trip) (j : ℕ) (hj : j < 4) : Fin 4096 := ⟨4 * k.val + j, by have h1 := k.isLt; have h2 := trips_eq; omega⟩

omit [FloatOps F] in
theorem bigSep_trips (Φ : Fin 4096 → sProp 𝕄) :
    bigSep Finset.univ Φ = bigSep (Ring.rangeSet k0_t1_loop.trips 0 1024) (fun k =>
      iprop(Φ (copyOf k 0 (by decide)) ∗ Φ (copyOf k 1 (by decide)) ∗ Φ (copyOf k 2 (by decide)) ∗ Φ (copyOf k 3 (by decide)))) := by
  have hΨ : ∀ (t : ℕ) (h : t < 4096), (fun t => if h : t < 4096 then Φ ⟨t, h⟩ else (BI.emp : sProp 𝕄)) t = Φ ⟨t, h⟩ :=
    fun t h => dif_pos h
  rw [Ring.bigSep_fin_eq_range 4096 Φ _ hΨ]
  refine (bigSep_fours _ 1024).trans ?_
  rw [Ring.bigSep_rangeSet_eq_range (NB := k0_t1_loop.trips) (lo := 0) (hi := 1024) (trips_eq ▸ le_rfl)
      (fun k => iprop((if h : 4 * k < 4096 then Φ ⟨4 * k, h⟩ else (BI.emp : sProp 𝕄)) ∗ (if h : 4 * k + 1 < 4096 then Φ ⟨4 * k + 1, h⟩ else (BI.emp : sProp 𝕄))
        ∗ (if h : 4 * k + 2 < 4096 then Φ ⟨4 * k + 2, h⟩ else (BI.emp : sProp 𝕄)) ∗ (if h : 4 * k + 3 < 4096 then Φ ⟨4 * k + 3, h⟩ else (BI.emp : sProp 𝕄))))
      (fun k h => by
        have hk : k < 1024 := by rw [trips_eq] at h; omega
        rw [dif_pos (by omega), dif_pos (by omega), dif_pos (by omega), dif_pos (by omega)]
        simp only [copyOf, Nat.zero_add, Nat.add_zero])]

/-! ## Which elements a row holds -/

omit [FloatOps F] in
theorem ix2_eta (x : S8x128.Idx) : x = ix2 (x 0) (x 1) := by funext a; fin_cases a <;> rfl

theorem pgM_emb (w : BitVec 32) (h : w.toNat < 77824) (a : Fin 8) (b : Fin 128) :
    (pgM w h).view.emb (ix2 a b) = (ix3 (⟨w.toNat, h⟩ : Fin 77824) a b : S77824x8x128.Idx) := by
  have e : (pgM w h).view.emb (ix2 a b)
      = (Rect.unit (s := S77824x8x128) (k0_off3 w) S1x8x128.size (k0_off3_inb w (row_inb w h))).emb
          (Shape.reshapeEquiv squeezes_S1x8x128_S8x128.numel_eq (ix2 a b)) := rfl
  rw [e, ValueIdx.reshapeEquiv_ix2_1ab]
  funext d; fin_cases d
  · exact Fin.ext (by show w.toNat + 1 * 0 = w.toNat; omega)
  · exact Fin.ext (by show 0 + 1 * a.val = a.val; omega)
  · exact Fin.ext (by show 0 + 1 * b.val = b.val; omega)

theorem srcM_emb (arg2 : Memref sig .tc .vmem S1024x8x128 .f32) (k : Trip) (a : Fin 8) (b : Fin 128) :
    (srcM arg2 k).view.emb (ix2 a b) = arg2.view.emb (ix3 (⟨k.val, trips_eq ▸ k.isLt⟩ : Fin 1024) a b) := by
  have e : (srcM arg2 k).view.emb (ix2 a b)
      = arg2.view.emb ((Rect.unit (s := S1024x8x128) (k0_off4 k) S1x8x128.size (k0_off4_inb k)).emb
          (Shape.reshapeEquiv squeezes_S1x8x128_S8x128.numel_eq (ix2 a b))) := rfl
  have e0 : k0_off4 k 0 = k.val := (by decide +kernel : ∀ k : Trip, k0_off4 k 0 = k.val) k
  rw [e, ValueIdx.reshapeEquiv_ix2_1ab]
  congr 1
  funext d; fin_cases d
  · exact Fin.ext (by show k0_off4 k 0 + 1 * 0 = k.val; omega)
  · exact Fin.ext (by show 0 + 1 * a.val = a.val; omega)
  · exact Fin.ext (by show 0 + 1 * b.val = b.val; omega)

theorem mem_pg (w : BitVec 32) (h : w.toNat < 77824) (y : S77824x8x128.Idx) :
    y ∈ (pgM w h).view.set ↔ (y 0).val = w.toNat := by
  constructor
  · intro hy
    obtain ⟨x, -, hx⟩ := Finset.mem_map.mp hy
    rw [ix2_eta x] at hx
    have hx' := (pgM_emb w h (x 0) (x 1)).symm.trans hx
    rw [← hx']
  · intro hy
    refine Finset.mem_map.mpr ⟨ix2 (y 1) (y 2), Finset.mem_univ _, (pgM_emb w h (y 1) (y 2)).trans ?_⟩
    funext d; fin_cases d
    · exact Fin.ext hy.symm
    · rfl
    · rfl

section Landed

variable (c : Dev nD) (arg2 : Memref sig .tc .vmem S1024x8x128 .f32)
  (fv : Held (F := F) c (Memref.whole main_v0)) (fs : Held (F := F) c arg2)

omit [FloatOps F] in
theorem src_read (k : Trip) (a : Fin 8) (b : Fin 128) :
    (srcM arg2 k).view.read (Elt F) (fsAt c arg2 fs k) (ix2 a b)
      = arg2.view.read (Elt F) fs (ix3 (⟨k.val, trips_eq ▸ k.isLt⟩ : Fin 1024) a b) := by
  rw [View.read_apply, View.read_apply, srcM_emb]
  rfl

omit [FloatOps F] in
/-- A landed row holds the token row copied into it. -/
theorem landed_at (w : BitVec 32) (h : w.toNat < 77824) (k : Trip) (y : S77824x8x128.Idx) (hy : (y 0).val = w.toNat) :
    (landed c arg2 fv fs w h k : S77824x8x128.Idx → Elt F .f32) y
      = arg2.view.read (Elt F) fs (ix3 (⟨k.val, trips_eq ▸ k.isLt⟩ : Fin 1024) (y 1) (y 2)) := by
  have e : (pgM w h).view.emb (ix2 (y 1) (y 2)) = y := by
    refine (pgM_emb w h (y 1) (y 2)).trans ?_
    funext d; fin_cases d
    · exact Fin.ext hy.symm
    · rfl
    · rfl
  have r := congrFun (View.read_writes_whole (pgM w h).view (fvAt c fv w h)
    (ReadAs.same.apply ((srcM arg2 k).view.read (Elt F) (fsAt c arg2 fs k)))) (ix2 (y 1) (y 2))
  have r1 : (landed c arg2 fv fs w h k) ((pgM w h).view.emb (ix2 (y 1) (y 2)))
      = (srcM arg2 k).view.read (Elt F) (fsAt c arg2 fs k) (ix2 (y 1) (y 2)) := r
  rw [e] at r1
  exact r1.trans (src_read c arg2 fs k (y 1) (y 2))

end Landed

/-! ## What a point leaves in the result -/

open Classical in
/-- The contents `x`, with token row `t / 4` of `s` in row `w t` for each copy `t`. -/
def put (w : Fin 4096 → ℕ) (s : S1024x8x128.Idx → Elt F .f32) (x : S77824x8x128.Idx → Elt F .f32) : S77824x8x128.Idx → Elt F .f32 :=
  fun y => if h : ∃ t, w t = (y 0).val then s (ix3 (⟨h.choose.val / 4, by have := h.choose.isLt; omega⟩ : Fin 1024) (y 1) (y 2)) else x y

omit [FloatOps F] in
theorem put_on (w : Fin 4096 → ℕ) (hw : ∀ t t', t ≠ t' → w t ≠ w t') (s : S1024x8x128.Idx → Elt F .f32) (x : S77824x8x128.Idx → Elt F .f32)
    (t : Fin 4096) (y : S77824x8x128.Idx) (h : w t = (y 0).val) :
    put w s x y = s (ix3 (⟨t.val / 4, by have := t.isLt; omega⟩ : Fin 1024) (y 1) (y 2)) := by
  have hex : ∃ t, w t = (y 0).val := ⟨t, h⟩
  have e : hex.choose = t := by
    by_contra hne
    exact hw _ _ hne (hex.choose_spec.trans h.symm)
  unfold put
  rw [dif_pos hex]
  exact congrArg (fun u : Fin 4096 => s (ix3 (⟨u.val / 4, by have := u.isLt; omega⟩ : Fin 1024) (y 1) (y 2))) e

omit [FloatOps F] in
theorem put_off (w : Fin 4096 → ℕ) (s : S1024x8x128.Idx → Elt F .f32) (x : S77824x8x128.Idx → Elt F .f32)
    (y : S77824x8x128.Idx) (h : ¬ ∃ t, w t = (y 0).val) : put w s x y = x y := dif_neg h

/-! ## The arrays by rows -/

/-- The elements outside every set of a family. -/
def restOf {ℓ : Loc nD τ sig} {T : Type} (S : Finset T) (K : T → Finset (Idx ℓ)) : Finset (Idx ℓ) := Finset.univ \ S.biUnion K

theorem not_covered {ℓ : Loc nD τ sig} {T : Type} (S : Finset T) (K : T → Finset (Idx ℓ)) (y : Idx ℓ)
    (hy : y ∈ restOf S K) (t : T) (ht : t ∈ S) : y ∉ K t :=
  fun h => (Finset.mem_sdiff.mp hy).2 (Finset.mem_biUnion.mpr ⟨t, ht, h⟩)

omit [FloatOps F] in
/-- A buffer held whole is disjoint families of its elements beside what is left of it. -/
theorem split_rows {ℓ : Loc nD τ sig} {T : Type} (S : Finset T) (K : T → Finset (Idx ℓ))
    (hd : ∀ t ∈ S, ∀ t' ∈ S, t ≠ t' → Disjoint (K t) (K t')) (g : Buf (Elt F) ℓ) :
    (ℓ ↦{fullShare} g : sProp 𝕄) = iprop((bigSep S fun t => ℓ ↦[K t]{fullShare} g) ∗ ℓ ↦[restOf S K]{fullShare} g) := by
  have hs : (ℓ ↦[Finset.univ]{fullShare} g : sProp 𝕄) ⊣⊢ iprop((ℓ ↦[S.biUnion K]{fullShare} g) ∗ ℓ ↦[Finset.univ \ S.biUnion K]{fullShare} g) :=
    pointsTo_split_subset (Finset.subset_univ (S.biUnion K))
  rw [show (ℓ ↦{fullShare} g : sProp 𝕄) = ℓ ↦[Finset.univ]{fullShare} g from rfl, BI.equiv_iff.mp ⟨hs.1, hs.2⟩, pointsTo_biUnion S K hd]
  rfl

omit [FloatOps F] in
theorem rest_congr {ℓ : Loc nD τ sig} {T : Type} (S : Finset T) (K : T → Finset (Idx ℓ)) (f g : Buf (Elt F) ℓ)
    (h : ∀ y, (∀ t ∈ S, y ∉ K t) → f y = g y) : (ℓ ↦[restOf S K]{fullShare} f : sProp 𝕄) = ℓ ↦[restOf S K]{fullShare} g :=
  pointsTo_congr fun y hy => h y fun t ht => not_covered S K y hy t ht

section Arrays

variable (c : Dev nD) (arg2 : Memref sig .tc .vmem S1024x8x128 .f32) (f5 : Held (F := F) c (Memref.whole cc0_scratch0))
  (hok : WordsOK f5) (fv : Held (F := F) c (Memref.whole main_v0)) (fs : Held (F := F) c arg2) (q : Fin 4 → PosShare TreeShare)

/-- The elements copy `t` writes, and those trip `k` reads. -/
abbrev pgSet (t : Fin 4096) : Finset (Idx ((Memref.whole main_v0 : Memref sig .tc .hbm S77824x8x128 .f32).view.loc (c : Thread nD τ))) :=
  (pgM (wd f5 t) (hok.inside t)).view.set
abbrev srcSet (k : Trip) : Finset (Idx (arg2.view.loc (c : Thread nD τ))) := (srcM arg2 k).view.set

/-- The rest of the result, that no copy of the point writes; the rest of the staged block. -/
abbrev pgRest (g : Held (F := F) c (Memref.whole main_v0)) : sProp 𝕄 :=
  (Memref.whole main_v0 : Memref sig .tc .hbm S77824x8x128 .f32).view.loc (c : Thread nD τ) ↦[restOf Finset.univ (pgSet c f5 hok)]{fullShare} g
abbrev srcRest : sProp 𝕄 :=
  arg2.view.loc (c : Thread nD τ) ↦[restOf (Ring.rangeSet k0_t1_loop.trips 0 1024) (srcSet c arg2)]{fullShare} fs

omit [FloatOps F] in
theorem pg_split (g : Held (F := F) c (Memref.whole main_v0)) :
    (owns c (Memref.whole main_v0) g : sProp 𝕄)
      = iprop((bigSep Finset.univ fun t => pgPt c g (wd f5 t) (hok.inside t)) ∗ pgRest c f5 hok g) :=
  split_rows Finset.univ (pgSet c f5 hok) (fun t _ t' _ hne => by
    rw [Finset.disjoint_left]; intro y hy hy'
    exact hok.apart t t' hne (((mem_pg _ _ y).mp hy).symm.trans ((mem_pg _ _ y).mp hy'))) g

omit [FloatOps F] in
theorem pages_eq : (bigSep Finset.univ fun t => pgPt c fv (wd f5 t) (hok.inside t) : sProp 𝕄)
    = bigSep (Ring.rangeSet k0_t1_loop.trips 0 1024) (fun k => pages c f5 hok fv k) := by
  have hc : ∀ {w w' : BitVec 32} (_ : w = w') (h : w.toNat < 77824) (h' : w'.toNat < 77824),
      (pgPt c fv w h : sProp 𝕄) = pgPt c fv w' h' := by intro w w' e h h'; subst e; rfl
  rw [bigSep_trips]
  refine BI.bigSep_congr fun k _ => ?_
  rw [hc (wdA_eq f5 k (copyOf k 0 (by decide)) rfl).symm _ (ltA c f5 hok k), hc (wdB_eq f5 k (copyOf k 1 (by decide)) rfl).symm _ (ltB c f5 hok k),
    hc (wdC_eq f5 k (copyOf k 2 (by decide)) rfl).symm _ (ltC c f5 hok k), hc (wdD_eq f5 k (copyOf k 3 (by decide)) rfl).symm _ (ltD c f5 hok k)]

/-- The full share in four. -/
def quarters : Fin 4 → PosShare TreeShare := fun
  | 0 => Transfers.shareTokN fullShare 0
  | 1 => Transfers.shareTokN fullShare 1
  | 2 => Transfers.shareTokN fullShare 2
  | 3 => Transfers.shareDrop fullShare 3

omit [FloatOps F] in
theorem row_shares (k : Trip) : (srcPt c arg2 fs k fullShare : sProp 𝕄) = shares c arg2 fs quarters k := by
  have h := Transfers.pointsTo_toks_range (ℓ := (srcM arg2 k).view.loc (c : Thread nD τ)) (S := (srcM arg2 k).view.set)
    (f := fsAt c arg2 fs k) (Ix := Unit) (Name := ℕ) (U := UC sig nD τ) (Lvl := ℕ) fullShare 3
  have h' := BI.equiv_iff.mp ⟨h.1, h.2⟩
  refine h'.trans ?_
  rw [BI.bigSep_range_succ, BI.bigSep_range_succ, BI.bigSep_range_succ, Finset.range_zero, BI.bigSep_empty]
  have h1 : iprop(srcPt c arg2 fs k (quarters 3) ∗ srcPt c arg2 fs k (quarters 2) ∗ srcPt c arg2 fs k (quarters 1) ∗ srcPt c arg2 fs k (quarters 0) ∗ BI.emp)
      ⊢ (shares c arg2 fs quarters k : sProp 𝕄) := by
    iintro ⟨H3, H2, H1, H0, -⟩
    isplitl [H0]; · iexact H0
    isplitl [H1]; · iexact H1
    isplitl [H2]; · iexact H2
    iexact H3
  have h2 : (shares c arg2 fs quarters k : sProp 𝕄)
      ⊢ iprop(srcPt c arg2 fs k (quarters 3) ∗ srcPt c arg2 fs k (quarters 2) ∗ srcPt c arg2 fs k (quarters 1) ∗ srcPt c arg2 fs k (quarters 0) ∗ BI.emp) := by
    iintro ⟨H0, H1, H2, H3⟩
    isplitl [H3]; · iexact H3
    isplitl [H2]; · iexact H2
    isplitl [H1]; · iexact H1
    isplitl [H0]; · iexact H0
    iempintro
  exact BI.equiv_iff.mp ⟨h1, h2⟩

omit [FloatOps F] in
theorem src_split : (owns c arg2 fs : sProp 𝕄)
    = iprop((bigSep (Ring.rangeSet k0_t1_loop.trips 0 1024) fun k => shares c arg2 fs quarters k) ∗ srcRest c arg2 fs) := by
  refine (split_rows (Ring.rangeSet k0_t1_loop.trips 0 1024) (srcSet c arg2) (fun t _ t' _ hne => ?_) fs).trans ?_
  · rw [Finset.disjoint_left]; intro y hy hy'
    obtain ⟨x, -, hx⟩ := Finset.mem_map.mp hy
    obtain ⟨x', -, hx'⟩ := Finset.mem_map.mp hy'
    have e := hx.trans hx'.symm
    rw [ix2_eta x, ix2_eta x'] at e
    have e' := arg2.view.emb.injective ((srcM_emb arg2 t _ _).symm.trans (e.trans (srcM_emb arg2 t' _ _)))
    exact hne (Fin.ext (congrArg (fun z : S1024x8x128.Idx => (z 0).val) e'))
  · congr 1
    exact BI.bigSep_congr fun k _ => row_shares c arg2 fs k

omit [FloatOps F] in
theorem shares_eq : (bigSep Finset.univ fun t : Fin 4096 => srcPt c arg2 fs (tripOf t) (q ⟨t.val % 4, Nat.mod_lt _ (by decide)⟩) : sProp 𝕄)
    = bigSep (Ring.rangeSet k0_t1_loop.trips 0 1024) (fun k => shares c arg2 fs q k) := by
  have hc : ∀ {k k' : Trip} (_ : k = k') {a a' : PosShare TreeShare} (_ : a = a'),
      (srcPt c arg2 fs k a : sProp 𝕄) = srcPt c arg2 fs k' a' := by intro k k' e a a' e'; subst e e'; rfl
  rw [bigSep_trips]
  refine BI.bigSep_congr fun k _ => ?_
  have hq : ∀ (j : ℕ) (hj : j < 4), (srcPt c arg2 fs (tripOf (copyOf k j hj)) (q ⟨(copyOf k j hj).val % 4, Nat.mod_lt _ (by decide)⟩) : sProp 𝕄)
      = srcPt c arg2 fs k (q ⟨j, hj⟩) := fun j hj => hc (Fin.ext (by show (4 * k.val + j) / 4 = k.val; omega))
        (congrArg q (Fin.ext (by show (4 * k.val + j) % 4 = j; omega)))
  rw [hq 0, hq 1, hq 2, hq 3]
  rfl

/-- The result after a point's copies, whole, is the landed rows beside what no copy writes. -/
abbrev after (g : Held (F := F) c (Memref.whole main_v0)) : Held (F := F) c (Memref.whole main_v0) :=
  put (fun t => (wd f5 t).toNat) (arg2.view.read (Elt F) fs) g

set_option maxRecDepth 16384 in
omit [FloatOps F] in
theorem collect : iprop((bigSep Finset.univ fun t => D c arg2 f5 hok fv fs quarters t) ∗ pgRest c f5 hok fv ∗ srcRest c arg2 fs)
    = (iprop(owns c (Memref.whole main_v0) (after c arg2 f5 fs fv) ∗ owns c arg2 fs) : sProp 𝕄) := by
  have h1 : ∀ t ∈ (Finset.univ : Finset (Fin 4096)), (D c arg2 f5 hok fv fs quarters t : sProp 𝕄)
      = iprop(pgPt c (after c arg2 f5 fs fv) (wd f5 t) (hok.inside t) ∗ srcPt c arg2 fs (tripOf t) (quarters ⟨t.val % 4, Nat.mod_lt _ (by decide)⟩)) := by
    intro t _
    unfold D handsBack
    congr 1
    refine pointsTo_congr fun y hy => ?_
    have hy' := (mem_pg _ _ y).mp hy
    exact (landed_at c arg2 fv fs _ _ _ y hy').trans (put_on _ hok.apart _ _ t y hy'.symm).symm
  have h2 : (pgRest c f5 hok (after c arg2 f5 fs fv) : sProp 𝕄) = pgRest c f5 hok fv :=
    rest_congr Finset.univ (pgSet c f5 hok) _ _ fun y hn => put_off _ _ _ y fun ⟨t, ht⟩ =>
      hn t (Finset.mem_univ t) ((mem_pg (wd f5 t) (hok.inside t) y).mpr ht.symm)
  rw [BI.bigSep_congr h1, show ∀ A B : Fin 4096 → sProp 𝕄, bigSep Finset.univ (fun t => iprop(A t ∗ B t)) = iprop(bigSep Finset.univ A ∗ bigSep Finset.univ B) from fun A B => BI.bigSep_sep _ A B, shares_eq, pg_split c f5 hok, h2, src_split]
  generalize (bigSep _ _ : sProp 𝕄) = A
  generalize (bigSep _ _ : sProp 𝕄) = B
  have e1 : iprop((A ∗ B) ∗ pgRest c f5 hok fv ∗ srcRest c arg2 fs) ⊢ (iprop((A ∗ pgRest c f5 hok fv) ∗ B ∗ srcRest c arg2 fs) : sProp 𝕄) := by
    iintro ⟨⟨HA, HB⟩, HP, HS⟩
    isplitl [HA HP]
    · isplitl [HA]; · iexact HA
      iexact HP
    · isplitl [HB]; · iexact HB
      iexact HS
  have e2 : iprop((A ∗ pgRest c f5 hok fv) ∗ B ∗ srcRest c arg2 fs) ⊢ (iprop((A ∗ B) ∗ pgRest c f5 hok fv ∗ srcRest c arg2 fs) : sProp 𝕄) := by
    iintro ⟨⟨HA, HP⟩, HB, HS⟩
    isplitl [HA HB]
    · isplitl [HA]; · iexact HA
      iexact HB
    · isplitl [HP]; · iexact HP
      iexact HS
  exact BI.equiv_iff.mp ⟨e1, e2⟩

end Arrays

end Cert.KernelIdeal.Dispatch
-- ==== Proof.Run.lean ====
/- One point of the dispatch kernel run whole: the words fetched, the 4096 copies started and waited for, the result
   buffer put together again. -/
module

public import proofs.«01_k».proof.Proof.Rows

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Idealize.ShloMosaic.ValueIdx (ix1 ix2 ix3)

variable {F : FTy → Type} [FloatOps F]

local notation "𝕄" => MT nD τ sig Unit (Elt F) ℕ (UC sig nD τ) ℕ

/-- The words point `i` fetches: the 4096 from `4096 i` on. -/
def fetched (c : Dev nD) (i : grid0.Coords) (f1 : Held (F := F) c (Memref.whole main_arg0)) : Held (F := F) c (Memref.whole cc0_scratch0) :=
  fun y : S4096.Idx => (f1 : S69632.Idx → BitVec 32) ((Rect.unit (s := S69632) (k0_off1 i) S4096.size (k0_off1_inb i)).emb y)

/-- The amount of each of the four waits: 1024 copies'. -/
theorem wait_amount : ((Memref.whole main_v0).slice (Rect.unit (s := S77824x8x128) ![0, 0, 0] S1024x8x128.size inb_S77824x8x128_S1024x8x128_0_0_0)
    (fun _ => rfl) : Memref sig .tc .hbm S1024x8x128 .f32).view.dmaCredit = 1024 * NN := by decide +kernel

/-- A resource set aside while the run steps on. -/
def aside (P : sProp 𝕄) : sProp 𝕄 := P

section Run

variable (c : Dev nD) (arg2 : Memref sig .tc .vmem S1024x8x128 .f32) (i : grid0.Coords)
  (f1 : Held (F := F) c (Memref.whole main_arg0)) (hok : WordsOK (fetched c i f1))
  (fv : Held (F := F) c (Memref.whole main_v0)) (fs : Held (F := F) c arg2) (f5 : Held (F := F) c (Memref.whole cc0_scratch0))

include hok in
theorem kernelRun [∀ e, Nonempty (Elt F e)] (harg2 : arg2.IsWhole) (W : Waits sig Unit) (Q : PUnit → sProp 𝕄) :
    iprop(owns c (Memref.whole main_arg0) f1 ∗ owns c arg2 fs ∗ owns c (Memref.whole main_v0) fv ∗ owns c (Memref.whole cc0_scratch0) f5
      ∗ semVal ((c : Thread nD τ), SemLoc.dma (cc0_scratch1 : DmaSems sig S_).sem) 0 ∗ semVal ((c : Thread nD τ), SemLoc.dma (cc0_scratch2 : DmaSems sig S_).sem) 0
      ∗ owes (c : Thread nD τ) 0 W
      ∗ (iprop(owns c (Memref.whole main_arg0) f1 ∗ owns c arg2 fs ∗ owns c (Memref.whole main_v0) (after c arg2 (fetched c i f1) fs fv)
            ∗ owns c (Memref.whole cc0_scratch0) (fetched c i f1)
            ∗ semVal ((c : Thread nD τ), SemLoc.dma (cc0_scratch1 : DmaSems sig S_).sem) 0 ∗ semVal ((c : Thread nD τ), SemLoc.dma (cc0_scratch2 : DmaSems sig S_).sem) 0
            ∗ ∃ W, owes (c : Thread nD τ) 0 W) -∗ Q ⟨⟩))
      ⊢ wp frame (wpE (defs₀ (F := F)) Variants.none c none) Set.univ
        (cc0_dispatch i (Memref.whole main_arg0) (Memref.isWhole_whole _) arg2 harg2 (Memref.whole main_v0) (Memref.isWhole_whole _) (Memref.whole main_v0) (Memref.isWhole_whole _)
            (Memref.whole cc0_scratch0) (Memref.isWhole_whole _) cc0_scratch1 cc0_scratch2) Q := by
  iintro ⟨H1, H2, Hv, H5, Hc1, Hc2, HO, Hk⟩
  simp only [cc0_dispatch_eq_skeleton]; unfold cc0_dispatch_skel
  sl_exec
  have hw : ∀ g : S4096.Idx → BitVec 32, (g = fetched c i f1) →
      (Memref.whole cc0_scratch0).view.write (Elt F) f5 g Finset.univ = fetched c i f1 := fun g hg => by
    funext y
    exact (View.write_emb_of_mem (v := (Memref.whole cc0_scratch0).view) (Val := Elt F) f5 g (M := Finset.univ) (x := y) (Finset.mem_univ _)).trans (congrFun hg y)
  rw [hw (kernelRun.sl.dma0 c i f1) rfl]
  ihave Hv' := (show owns c (Memref.whole main_v0) fv ⊢ _ from Entails.of_eq (pg_split c (fetched c i f1) hok fv)) $$ Hv
  ihave H2' := (show owns c arg2 fs ⊢ _ from Entails.of_eq (src_split c arg2 fs)) $$ H2
  icases Hv' with ⟨Hp, HpR⟩
  ihave Hp := (Entails.of_eq (pages_eq c (fetched c i f1) hok fv)) $$ Hp
  icases H2' with ⟨Hs, HsR⟩
  imod (Transfers.batch_alloc' (Lvl := ℕ) countersEmb (c : Thread nD τ) () NN (D c arg2 (fetched c i f1) hok fv fs quarters)
    (sm := .dma (cc0_scratch2 : DmaSems sig S_).sem) (E := Set.univ)) $$ Hc2 with HB
  sl_for (issueAt c arg2 (fetched c i f1) hok fv fs quarters cc0_scratch2) $$ [HB Hp Hs H5]
  · intro k acc; exact issue_step c arg2 (fetched c i f1) hok fv fs quarters i _ _ harg2 k acc
  · unfold issueAt
    isplitl [HB]; · iexact HB
    isplitl [Hp]; · iexact Hp
    isplitl [Hs]; · iexact Hs
    iexact H5
  iintro %acc HL
  ihave HL' := (show issueAt c arg2 (fetched c i f1) hok fv fs quarters cc0_scratch2 k0_t1_loop.trips acc
      ⊢ iprop(Transfers.Batch countersEmb (c : Thread nD τ) (.dma (cc0_scratch2 : DmaSems sig S_).sem) () NN (D c arg2 (fetched c i f1) hok fv fs quarters) 4096 0 ∗ owns c (Memref.whole cc0_scratch0) (fetched c i f1)) from by
    unfold issueAt
    rw [show 4 * k0_t1_loop.trips = 4096 from by decide]
    iintro ⟨A, -, -, B⟩; isplitl [A] <;> iassumption) $$ HL
  icases HL' with ⟨HB, H5⟩
  sl_exec
  iapply (Transfers.wp_waitBatchMul countersEmb Variants.none (c : Thread nD τ) none () 1024 wait_amount (D := D c arg2 (fetched c i f1) hok fv fs quarters)
    (j := 4096) (u := 0) (by decide)) $$ [HB HO]
  · isplitl [HB]; · iexact HB
    iexact HO
  iintro ⟨HB, HO⟩
  ihave HB := (show Transfers.Batch countersEmb (c : Thread nD τ) (.dma (cc0_scratch2 : DmaSems sig S_).sem) () NN (D c arg2 (fetched c i f1) hok fv fs quarters) 4096 (0 + 1024 * NN)
      ⊢ aside _ from .rfl) $$ HB
  sl_exec
  ihave HB := (show aside _ ⊢ Transfers.Batch countersEmb (c : Thread nD τ) (.dma (cc0_scratch2 : DmaSems sig S_).sem) () NN (D c arg2 (fetched c i f1) hok fv fs quarters) 4096 (0 + 1024 * NN)
      from .rfl) $$ HB
  iapply (Transfers.wp_waitBatchMul countersEmb Variants.none (c : Thread nD τ) none () 1024 wait_amount (D := D c arg2 (fetched c i f1) hok fv fs quarters)
    (j := 4096) (u := 0 + 1024 * NN) (by decide)) $$ [HB HO]
  · isplitl [HB]; · iexact HB
    iexact HO
  iintro ⟨HB, HO⟩
  ihave HB := (show Transfers.Batch countersEmb (c : Thread nD τ) (.dma (cc0_scratch2 : DmaSems sig S_).sem) () NN (D c arg2 (fetched c i f1) hok fv fs quarters) 4096 (0 + 1024 * NN + 1024 * NN)
      ⊢ aside _ from .rfl) $$ HB
  sl_exec
  ihave HB := (show aside _ ⊢ Transfers.Batch countersEmb (c : Thread nD τ) (.dma (cc0_scratch2 : DmaSems sig S_).sem) () NN (D c arg2 (fetched c i f1) hok fv fs quarters) 4096 (0 + 1024 * NN + 1024 * NN)
      from .rfl) $$ HB
  iapply (Transfers.wp_waitBatchMul countersEmb Variants.none (c : Thread nD τ) none () 1024 wait_amount (D := D c arg2 (fetched c i f1) hok fv fs quarters)
    (j := 4096) (u := 0 + 1024 * NN + 1024 * NN) (by decide)) $$ [HB HO]
  · isplitl [HB]; · iexact HB
    iexact HO
  iintro ⟨HB, HO⟩
  ihave HB := (show Transfers.Batch countersEmb (c : Thread nD τ) (.dma (cc0_scratch2 : DmaSems sig S_).sem) () NN (D c arg2 (fetched c i f1) hok fv fs quarters) 4096 (0 + 1024 * NN + 1024 * NN + 1024 * NN)
      ⊢ aside _ from .rfl) $$ HB
  sl_exec
  ihave HB := (show aside _ ⊢ Transfers.Batch countersEmb (c : Thread nD τ) (.dma (cc0_scratch2 : DmaSems sig S_).sem) () NN (D c arg2 (fetched c i f1) hok fv fs quarters) 4096 (0 + 1024 * NN + 1024 * NN + 1024 * NN)
      from .rfl) $$ HB
  iapply (Transfers.wp_waitBatchAll countersEmb Variants.none (c : Thread nD τ) none () wait_amount (D := D c arg2 (fetched c i f1) hok fv fs quarters)
    (u := 0 + 1024 * NN + 1024 * NN + 1024 * NN) (show 0 < NN by decide) (show 0 + 1024 * NN + 1024 * NN + 1024 * NN + 1024 * NN = NN * 4096 by decide)) $$ [HB HO]
  · isplitl [HB]; · iexact HB
    iexact HO
  iintro ⟨HD, Hc2, HO⟩
  ihave HA := (Entails.of_eq (collect c arg2 (fetched c i f1) hok fv fs)) $$ [HD HpR HsR]
  · isplitl [HD]; · iexact HD
    isplitl [HpR]; · iexact HpR
    iexact HsR
  icases HA with ⟨Hv, H2⟩
  sl_step
  iapply Hk
  isplitl [H1]; · iexact H1
  isplitl [H2]; · iexact H2
  isplitl [Hv]; · iexact Hv
  isplitl [H5]; · iexact H5
  isplitl [Hc1]; · iexact Hc1
  isplitl [Hc2]; · iexact Hc2
  iexists _; iexact HO

end Run

end Cert.KernelIdeal.Dispatch
-- ==== Proof.Launch.lean ====
/- The dispatch kernel's launch: the result buffer and the destination words are carried from point to point of the grid
   by the body's invariant, and what a point leaves in the result buffer is the closed form `put` of its words and of
   its block of token rows. -/
module

public import proofs.«01_k».proof.Proof.Run
public import proofs.«01_k».proof.Proof.Gen.KernelIdeal.Frame

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-- The words point `t` works on. -/
def wordsAt (c : Dev nD) (t : Fin cfg0.N) : Held (F := F) c (Memref.whole cc0_scratch0) := fetched c (grid0.coords t) (V m c main_arg0)

/-- What is asked of the words: every point's inside the result and pairwise distinct. -/
def AllWords : Prop := ∀ c t, WordsOK (wordsAt m c t)

/-- What point `t` makes of the result buffer's contents `g`. -/
def stepped (c : Dev nD) (t : Fin cfg0.N) (g : Held (F := F) c (Memref.whole main_v0)) : Held (F := F) c (Memref.whole main_v0) :=
  put (fun k => (wd (wordsAt m c t) k).toNat) (iblk m c 0 t) g

/-- The result buffer after the first `n` points. -/
def state (c : Dev nD) : ℕ → Held (F := F) c (Memref.whole main_v0)
  | 0 => V m c main_v0
  | n + 1 => if h : n < cfg0.N then stepped m c ⟨n, h⟩ (state c n) else state c n

omit [FloatOps F] in
theorem state_succ (c : Dev nD) (t : Fin cfg0.N) : state m c (t.val + 1) = stepped m c t (state m c t.val) := by
  rw [state, dif_pos t.isLt]

/-- The routed buffers' contents before point `n`. -/
def carried (c : Dev nD) (n : ℕ) : (b : Ref sig .tc) → Buf (Elt F) ((c : Thread nD τ).loc b) :=
  Function.update (V m c) main_v0 (state m c n)

omit [FloatOps F] in
theorem carried_v0 (c : Dev nD) (n : ℕ) : carried m c n main_v0 = state m c n := Function.update_self ..
omit [FloatOps F] in
theorem carried_arg0 (c : Dev nD) (n : ℕ) : carried m c n main_arg0 = V m c main_arg0 := Function.update_of_ne (by decide) ..
omit [FloatOps F] in
theorem carried_zero (c : Dev nD) : carried m c 0 = V m c := Function.update_eq_self ..

abbrev osem : Fin 2 → SemLoc sig := fun | 0 => .dma (cc0_scratch1 : DmaSems sig S_).sem | 1 => .dma (cc0_scratch2 : DmaSems sig S_).sem
abbrev routedRefs : Finset (Ref sig .tc) := {main_arg0, main_v0}

/-- The invariant before point `n`. -/
def inv (c : Dev nD) (n : ℕ) : sProp 𝕄 := Ends spec0 osem routedRefs c (carried m c n)

theorem inv_eq (c : Dev nD) (n : ℕ) : (inv m c n : sProp 𝕄)
    = iprop((owns c (Memref.whole main_arg0) (V m c main_arg0) ∗ owns c (Memref.whole main_v0) (state m c n))
        ∗ (semVal ((c : Thread nD τ), SemLoc.dma (cc0_scratch1 : DmaSems sig S_).sem) 0 ∗ semVal ((c : Thread nD τ), SemLoc.dma (cc0_scratch2 : DmaSems sig S_).sem) 0)
        ∗ (∃ f : Held (F := F) c (Memref.whole cc0_scratch0), owns c (Memref.whole cc0_scratch0) f) ∗ ∃ r, prngReg c r) := by
  unfold inv Ends Pipeline.routed
  rw [bigSep_insert (by decide), BI.bigSep_singleton, carried_v0, carried_arg0, scopedRest0_eq,
    Pipeline.ownSems0_eq_of_list c osem [0, 1] (by decide) (by decide)]
  rfl

def dats (_ : Fin 1) (c : Dev nD) : Dat τ (Elt F) Unit ℕ (UC sig nD τ) ℕ cfg0 c where
  A w := V m c (Pipeline.arrRef spec0 w)
  after w t := match w with
    | ⟨0, _⟩ => iblk m c 0 t
  Φ t := inv m c t.val
  q _ := fullShare
  owed _ := 0

abbrev 𝒱₀ : Variants := Variants.none

theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl

theorem Phi_castSucc (c : Dev nD) (t : Fin cfg0.N) : (dats m 0 c).Φ t.castSucc = inv m c t.val := by
  dsimp only [dats]; exact congrArg (inv m c) rfl
theorem Phi_succ (c : Dev nD) (t : Fin cfg0.N) : (dats m 0 c).Φ t.succ = inv m c (t.val + 1) := by
  dsimp only [dats]; exact congrArg (inv m c) rfl

/-- A whole staging buffer owned at a value is its points-to at contents that read so. -/
theorem stage_held (c : Dev nD) {sp : Space} {S : Shape} {e : EltTy} (M : Memref sig .tc sp S e) (h : M.IsWhole) (X : S.Idx → Elt F e) :
    (Idealize.ShloMosaic.owns (c : Thread nD τ) M fullShare X : sProp 𝕄) = iprop(∃ f, ⌜M.view.read (Elt F) f = X⌝ ∗ owns c M f) := by
  unfold Idealize.ShloMosaic.owns
  rw [h.set_eq_univ]

set_option maxRecDepth 16384 in
theorem body_obligation [∀ e, Nonempty (Elt F e)] (hok : AllWords m) (c : Dev nD) :
    BodyObligation (dats m 0 c) (defs₀ (F := F)) 𝒱₀ () Set.univ := fun t => by
  rw [bigSep_W0, bigSep_W0, Phi_castSucc, Phi_succ, inv_eq, inv_eq, state_succ]
  unfold Dat.owesAt Pipeline.owesWithin
  rw [show (dats m 0 c).owed t.castSucc = 0 from rfl, show (dats m 0 c).owed t.succ = 0 from rfl]
  dsimp only
  have hwh := hstage0_0 ((cfg0.slots t 0).cast nbuf0_0)
  iintro ⟨⟨⟨Ha, Hv⟩, ⟨Hs1, Hs2⟩, ⟨%f5, H5⟩, Hp⟩, ⟨%W, %hW, HO⟩, ⟨%d0, H0⟩⟩
  rw [before_0]
  ihave H0 := (Entails.of_eq (stage_held c (win0_0.stage (cfg0.slots t 0)) hwh (iblk m c 0 t))) $$ H0
  icases H0 with ⟨%f0, %hf0, H0⟩
  iapply (kernelRun c (win0_0.stage (cfg0.slots t 0)) (grid0.coords t) (V m c main_arg0) (hok c t) (state m c t.val) f0 f5 hwh W)
  isplitl [Ha]; · iexact Ha
  isplitl [H0]; · iexact H0
  isplitl [Hv]; · iexact Hv
  isplitl [H5]; · iexact H5
  isplitl [Hs1]; · iexact Hs1
  isplitl [Hs2]; · iexact Hs2
  isplitl [HO]; · iexact HO
  iintro ⟨Ha, H0, Hv, H5, Hs1, Hs2, ⟨%W', HO⟩⟩
  isplitl [Ha Hv H5 Hs1 Hs2 Hp]
  · isplitl [Ha Hv]
    · isplitl [Ha]; · iexact Ha
      unfold stepped; rw [← hf0]; iexact Hv
    isplitl [Hs1 Hs2]
    · isplitl [Hs1]; · iexact Hs1
      iexact Hs2
    isplitl [H5]; · iexists _; iexact H5
    iexact Hp
  isplitl [HO]
  · iexists W'; isplitr; · ipureintro; exact fun _ _ => Or.inl trivial
    iexact HO
  iapply (Entails.of_eq (stage_held c (win0_0.stage (cfg0.slots t 0)) hwh (iblk m c 0 t)).symm)
  iexists f0; isplitr; · ipureintro; exact hf0
  iexact H0

/-! ## The launch -/

theorem ownSemFacts : Pipeline.OwnSemFacts spec0 osem := by decide

/-- Every execution of @main terminates: the arrays as the library computes them, the result buffer after all points'
    steps, every semaphore counter zero. -/
theorem run_main [∀ e, Nonempty (Elt F e)] (hok : AllWords m) :
    θ_run defs (onTc (τ := τ) (main (F := F))) (s₀ m ρ)
      (fun r => RoutedPost cfgs (dats m) 0 routedRefs (V m) (fun c => carried m c cfg0.N) r ∧ r.2.sem = fun _ => 0) :=
  Pipeline.θ_run_frame_routed cfgs (dats m) 0 launch0 ownSemFacts defs₀ 𝒱₀ m ρ main
    (hbody := fun c => (body_obligation m hok c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := routedRefs) (hR := by decide) (Y := fun c => carried m c cfg0.N)
    (hin := fun c => Entails.of_eq (by show _ = inv m c 0; unfold inv; rw [carried_zero]))
    (hout := fun c => .rfl) (Q' := _)

omit [FloatOps F] in
/-- The result buffer enters the region at the aliased argument's contents. -/
theorem V_main_v0 (c : Dev nD) : V m c main_v0 = m ((c : Thread nD τ).loc main_arg2) := by
  unfold V; after_results; rfl

/-- The run read at the arguments and at the result. -/
theorem run_read [∀ e, Nonempty (Elt F e)] (hok : AllWords m) :
    θ_run defs (onTc (τ := τ) (main (F := F))) ⟨m, fun _ => 0, ρ⟩ (fun r => (∀ c : Dev nD,
      r.2.mem ((c.tc : Thread nD τ).loc main_v0) = state m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r ⟨h, hz⟩ => ⟨fun c =>
    ⟨((h c).2.1 main_v0 (by decide)).trans (carried_v0 m c _),
     ((h c).2.1 main_arg0 (by decide)).trans ((carried_arg0 m c _).trans (V_main_arg0 m c)),
     ((h c).1 0).trans (((dats m 0 c).arrAt_in 0 rfl _).trans (V_main_arg1 m c)),
     ((h c).2.2 main_arg2 (by decide)).trans (V_main_arg2 m c)⟩, hz⟩) (run_main m ρ hok)

end Cert.KernelIdeal.Dispatch
-- ==== Proof.Scatter.lean ====
/- What the whole grid leaves in the result: row `d a` holds the token row `a / 4` for every destination `d a`, every
   other row what it held before. -/
module

public import proofs.«01_k».proof.Proof.Launch
public import Idealize.ShloMosaic.Lib.Pipeline.Value
public import Idealize.ShloMosaic.Lib.Pipeline.ValueKit.Geometry

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.Sem
open Idealize.ShloMosaic.ValueIdx (ix1 ix2 ix3)

variable {F : FTy → Type} [FloatOps F]

/-- The destinations are a placement: rows of the result, no two the same. -/
structure Placement (d : S69632.Idx → BitVec 32) : Prop where
  inside : ∀ a : Fin 69632, (d (ix1 a)).toNat < 77824
  apart : ∀ a b : Fin 69632, (d (ix1 a)).toNat = (d (ix1 b)).toNat → a = b

/-- The result after the first `n` destinations. -/
def scattered {E : Type} (d : S69632.Idx → BitVec 32) (h : S17408x8x128.Idx → E) (x : S77824x8x128.Idx → E) (n : ℕ) : S77824x8x128.Idx → E :=
  fun y => if p : ∃ a : Fin 69632, a.val < n ∧ (d (ix1 a)).toNat = (y 0).val
    then h (ix3 (⟨p.choose.val / 4, by have := p.choose.isLt; omega⟩ : Fin 17408) (y 1) (y 2)) else x y

theorem scattered_on {E : Type} {d : S69632.Idx → BitVec 32} (hd : Placement d) (h : S17408x8x128.Idx → E) (x : S77824x8x128.Idx → E) (n : ℕ)
    (y : S77824x8x128.Idx) (a : Fin 69632) (ha : a.val < n) (e : (d (ix1 a)).toNat = (y 0).val) :
    scattered d h x n y = h (ix3 (⟨a.val / 4, by have := a.isLt; omega⟩ : Fin 17408) (y 1) (y 2)) := by
  have p : ∃ a : Fin 69632, a.val < n ∧ (d (ix1 a)).toNat = (y 0).val := ⟨a, ha, e⟩
  have q : p.choose = a := hd.apart _ _ (p.choose_spec.2.trans e.symm)
  unfold scattered
  rw [dif_pos p]
  congr 2
  exact Fin.ext (by show p.choose.val / 4 = a.val / 4; rw [q])

theorem scattered_off {E : Type} (d : S69632.Idx → BitVec 32) (h : S17408x8x128.Idx → E) (x : S77824x8x128.Idx → E) (n : ℕ)
    (y : S77824x8x128.Idx) (p : ¬ ∃ a : Fin 69632, a.val < n ∧ (d (ix1 a)).toNat = (y 0).val) : scattered d h x n y = x y := dif_neg p

variable (m : (ℓ : Loc nD τ sig) → Buf (Elt F) ℓ)

/-- The three arguments at their shapes. -/
abbrev dests (c : Dev nD) : S69632.Idx → BitVec 32 := m ((c.tc : Thread nD τ).loc main_arg0)
abbrev tokens (c : Dev nD) : S17408x8x128.Idx → Elt F .f32 := m ((c.tc : Thread nD τ).loc main_arg1)
abbrev rows (c : Dev nD) : S77824x8x128.Idx → Elt F .f32 := m ((c.tc : Thread nD τ).loc main_arg2)

theorem point_lt (t : Fin cfg0.N) : t.val < 17 := lt_of_lt_of_eq t.isLt N_0

theorem off1_eq : ∀ t : Fin cfg0.N, k0_off1 (grid0.coords t) 0 = 4096 * t.val := by decide +kernel

theorem word_at (c : Dev nD) (t : Fin cfg0.N) (k : Fin 4096) :
    wd (wordsAt m c t) k = dests m c (ix1 (⟨4096 * t.val + k.val, by have := point_lt t; have := k.isLt; omega⟩ : Fin 69632)) := by
  unfold wd wordsAt fetched
  rw [V_main_arg0]
  refine congrArg (dests m c) ?_
  funext d; fin_cases d
  refine Fin.ext ?_
  refine (ValueKit.rect_emb_unit_val _ _ _ _ _).trans ?_
  exact congrArg (· + k.val) (off1_eq t)

theorem block_at (c : Dev nD) (t : Fin cfg0.N) (j : Fin 1024) (y1 : Fin 8) (y2 : Fin 128) :
    (iblk m c 0 t : S1024x8x128.Idx → Elt F .f32) (ix3 j y1 y2)
      = tokens m c (ix3 (⟨1024 * t.val + j.val, by have := point_lt t; have := j.isLt; omega⟩ : Fin 17408) y1 y2) := by
  refine (congrFun (V_main_arg1 m c) (((cfg0.win 0).rect t).emb (ix3 j y1 y2))).trans ?_
  refine congrArg (tokens m c) ?_
  have e0 : ∀ t : Fin cfg0.N, cc0_transform_1 (grid0.coords t) 0 = t.val := by decide +kernel
  funext d; refine Fin.ext ?_
  refine ((cfg0.win 0).rect_emb_val t _ _).trans ?_
  fin_cases d
  · show cc0_transform_1 (grid0.coords t) 0 * 1024 + j.val = 1024 * t.val + j.val
    rw [e0]; omega
  · show 0 * 8 + y1.val = y1.val
    omega
  · show 0 * 128 + y2.val = y2.val
    omega

theorem words_ok (c : Dev nD) (hd : Placement (dests m c)) (t : Fin cfg0.N) : WordsOK (wordsAt m c t) where
  inside k := by rw [word_at]; exact hd.inside _
  apart k k' hne e := by
    rw [word_at, word_at] at e
    have := congrArg Fin.val (hd.apart _ _ e)
    simp only at this
    exact hne (Fin.ext (by omega))

theorem state_eq (c : Dev nD) (hd : Placement (dests m c)) (n : ℕ) (hn : n ≤ 17) :
    (state m c n : S77824x8x128.Idx → Elt F .f32) = scattered (dests m c) (tokens m c) (rows m c) (4096 * n) := by
  induction n with
  | zero =>
    funext y
    rw [scattered_off _ _ _ _ _ (fun ⟨a, h, _⟩ => absurd h (by omega))]
    exact congrFun (V_main_v0 m c) y
  | succ n ih =>
    have hN : n < cfg0.N := lt_of_lt_of_eq (by omega : n < 17) N_0.symm
    refine (state_succ m c ⟨n, hN⟩).trans ?_
    unfold stepped
    rw [show (state m c n : S77824x8x128.Idx → Elt F .f32) = _ from ih (by omega)]
    funext y
    by_cases h : ∃ k : Fin 4096, (wd (wordsAt m c ⟨n, hN⟩) k).toNat = (y 0).val
    · obtain ⟨k, hk⟩ := h
      rw [put_on _ (fun t t' => (words_ok m c hd ⟨n, hN⟩).apart t t') _ _ k y hk]
      rw [word_at] at hk
      have hk4 := k.isLt
      rw [scattered_on hd _ _ _ _ _ (by show 4096 * n + k.val < 4096 * (n + 1); omega) hk]
      refine (block_at m c ⟨n, hN⟩ _ (y 1) (y 2)).trans ?_
      congr 2
      exact Fin.ext (by show 1024 * n + k.val / 4 = (4096 * n + k.val) / 4; omega)
    · rw [put_off _ _ _ _ h]
      by_cases h' : ∃ a : Fin 69632, a.val < 4096 * n ∧ (dests m c (ix1 a)).toNat = (y 0).val
      · obtain ⟨a, ha, e⟩ := h'
        rw [scattered_on hd _ _ _ _ a ha e, scattered_on hd _ _ _ _ a (by omega) e]
      · rw [scattered_off _ _ _ _ _ h', scattered_off]
        rintro ⟨a, ha, e⟩
        by_cases hl : a.val < 4096 * n
        · exact h' ⟨a, hl, e⟩
        · refine h ⟨⟨a.val - 4096 * n, by omega⟩, ?_⟩
          rw [word_at, ← e]
          congr 4
          show 4096 * n + (a.val - 4096 * n) = a.val
          omega

/-- The whole run at the arguments: the result is every destination's row, the arguments as they were. -/
theorem run_scattered [∀ e, Nonempty (Elt F e)] (ρ : Dev nD → PrngReg) (hd : ∀ c, Placement (dests m c)) :
    θ_run defs (onTc (τ := τ) (main (F := F))) ⟨m, fun _ => 0, ρ⟩ (fun r => (∀ c : Dev nD,
      r.2.mem ((c.tc : Thread nD τ).loc main_v0) = scattered (dests m c) (tokens m c) (rows m c) 69632
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r ⟨h, hz⟩ => ⟨fun c => ⟨(h c).1.trans (by
      rw [show cfg0.N = 17 from N_0]; exact state_eq m c (hd c) 17 le_rfl), (h c).2⟩, hz⟩)
    (run_read m ρ (fun c t => words_ok m c (hd c) t))

end Cert.KernelIdeal.Dispatch
-- ==== Proof.Reference.lean ====
/- What the reference's result holds: its table of the token that each row takes, read row by row, and the rows gathered
   through it. Of destinations that are a placement this is the array the kernel's grid leaves. -/
module

public import proofs.«01_k».proof.Proof.Scatter
public import proofs.«01_k».proof.Proof.Gen.ReferenceIdeal.Run
public import proofs.«01_k».proof.Pre_dest_is_placement
public import Idealize.ShloMosaic.Lib.Routing.Ops
public import Idealize.ShloMosaic.Lib.Routing.OpsSet
public import Idealize.ShloMosaic.Lib.Routing.OpsPair
public import Idealize.ShloMosaic.Lib.Routing.Words
public import Idealize.ShloMosaic.Lib.Pointwise.SelectCore

@[expose] public section

noncomputable section

namespace Cert.ReferenceIdeal.Slots

open Cert.ReferenceIdeal Cert.ReferenceIdeal.Gen
open Idealize.ShloMosaic hiding ix1 ix2 ix3
open Idealize.ShloMosaic.TcCoe
open Idealize.SL.Sem
open Idealize.ShloMosaic.ValueIdx (ix1 ix2 ix3)
open Cert.KernelIdeal.Dispatch (Placement scattered scattered_on scattered_off)

variable {F : FTy → Type} [FloatOps F]

/-- The token of each (token, expert) pair: the pair's number divided by four, as the program divides. -/
def pairToken : IVec S69632 32 :=
  select (andi (cmpi .ne (signi (iotaInDim S69632 32 0)) (broadcastInDim S69632 ![] bcast_S_S69632 (signi (constantI S_ 32 4#32))))
      (cmpi .ne (Host.remsi (iotaInDim S69632 32 0) (broadcastInDim S69632 ![] bcast_S_S69632 (constantI S_ 32 4#32)))
        (broadcastInDim S69632 ![] bcast_S_S69632 (constantI S_ 32 0#32))))
    (subi (Host.divsi (iotaInDim S69632 32 0) (broadcastInDim S69632 ![] bcast_S_S69632 (constantI S_ 32 4#32)))
      (broadcastInDim S69632 ![] bcast_S_S69632 (constantI S_ 32 1#32)))
    (Host.divsi (iotaInDim S69632 32 0) (broadcastInDim S69632 ![] bcast_S_S69632 (constantI S_ 32 4#32)))

/-- The destinations as the scatter's indices: a negative one counted from the end. -/
def pairRow (d : IVec S69632 32) : IVec S69632x1 32 :=
  broadcastInDim S69632x1 ![0] bcast_S69632_S69632x1_0
    (select (cmpi .slt d (broadcastInDim S69632 ![] bcast_S_S69632 (constantI S_ 32 0#32)))
      (addi d (broadcastInDim S69632 ![] bcast_S_S69632 (constantI S_ 32 77824#32))) d)

/-- The token that each row takes, 17408 where it takes none. -/
def slotToken (d : IVec S69632 32) : IVec S77824 32 :=
  Host.scatter scatter_S77824_S69632x1_S69632_n_0_0_1 (fun _ b => b) (broadcastInDim S77824 ![] bcast_S_S77824 (constantI S_ 32 17408#32)) (pairRow d) pairToken

/-- The token numbers as the gather's indices. -/
def rowToken (d : IVec S69632 32) : IVec S77824x1 32 :=
  broadcastInDim S77824x1 ![0] bcast_S77824_S77824x1_0
    (select (cmpi .slt (slotToken d) (broadcastInDim S77824 ![] bcast_S_S77824 (constantI S_ 32 0#32)))
      (addi (slotToken d) (broadcastInDim S77824 ![] bcast_S_S77824 (constantI S_ 32 17409#32))) (slotToken d))

/-- The reference's result, in these names. -/
def dispatched (d : IVec S69632 32) (h : FVec F S17408x8x128 .f32) (x : FVec F S77824x8x128 .f32) : FVec F S77824x8x128 .f32 :=
  select (broadcastInDim S77824x8x128 ![0, 1, 2] bcast_S77824x1x1_S77824x8x128_0_1_2 (broadcastInDim S77824x1x1 ![0] bcast_S77824_S77824x1x1_0
      (cmpi .slt (slotToken d) (broadcastInDim S77824 ![] bcast_S_S77824 (constantI S_ 32 17408#32)))))
    (Host.gather gather_S17409x8x128_S77824x1_S77824x8x128_12_0_n_n_0_1_18128
      (concatenate S17409x8x128 0 [⟨S17408x8x128, h⟩, ⟨S1x8x128, broadcastInDim S1x8x128 ![] bcast_S_S1x8x128 (constant S_ .f32 0x00000000#32)⟩]
        concatenates_S17408x8x128_S1x8x128_S17409x8x128_d0) (rowToken d)) x

theorem result_eq (m : (ℓ : Loc nD τ sig) → Buf (Elt F) ℓ) (c : Dev nD) :
    Value.res_main_v22 m c = dispatched (m ((c.tc : Thread nD τ).loc main_arg0)) (m ((c.tc : Thread nD τ).loc main_arg1)) (m ((c.tc : Thread nD τ).loc main_arg2)) := rfl

/-! ## The words -/

theorem select_of_neg {b a : BitVec 32} (h : b.toNat < 2 ^ 31) : Scalar.select (IntOp.cmpi .slt b 0#32) a b = b := by
  have hb : b.slt 0#32 = false := by
    rw [BitVec.slt_eq_decide, decide_eq_false_iff_not, BitVec.toInt_eq_toNat_of_lt (by omega)]
    simp
  unfold Scalar.select IntOp.cmpi
  simp [hb]

theorem pairToken_at (a : Fin 69632) : pairToken (ix1 a) = BitVec.ofNat 32 (a.val / 4) := by
  have ha := a.isLt
  have hdiv : IntOp.divsi .host (BitVec.ofNat 32 a.val) 4#32 = BitVec.ofNat 32 (a.val / 4) :=
    Routing.divsi_word .host (by omega) (by norm_num) (by norm_num)
  have hsame : IntOp.andi (IntOp.cmpi .ne (if BitVec.ofNat 32 a.val = 0 then 0 else if (BitVec.ofNat 32 a.val).msb then -1 else 1 : BitVec 32) (if (4#32 : BitVec 32) = 0 then 0 else if (4#32 : BitVec 32).msb then -1 else 1 : BitVec 32))
      (IntOp.cmpi .ne (IntOp.remsi .host (BitVec.ofNat 32 a.val) 4#32) 0#32) = 0#1 := by
    by_cases h0 : a.val = 0
    · rw [h0]; decide
    · have hne : BitVec.ofNat 32 a.val ≠ 0 := fun e => by
        have := congrArg BitVec.toNat e
        rw [BitVec.toNat_ofNat] at this
        simp at this; omega
      have hmsb : (BitVec.ofNat 32 a.val).msb = false := by
        rw [BitVec.msb_eq_false_iff_two_mul_lt, BitVec.toNat_ofNat]; omega
      have h4 : (4#32 : BitVec 32).msb = false := by decide
      rw [if_neg hne, hmsb, h4]
      unfold IntOp.andi IntOp.cmpi
      simp
  show Scalar.select (IntOp.andi (IntOp.cmpi .ne (if BitVec.ofNat 32 a.val = 0 then 0 else if (BitVec.ofNat 32 a.val).msb then -1 else 1 : BitVec 32) (if (4#32 : BitVec 32) = 0 then 0 else if (4#32 : BitVec 32).msb then -1 else 1 : BitVec 32))
      (IntOp.cmpi .ne (IntOp.remsi .host (BitVec.ofNat 32 a.val) 4#32) 0#32)) _ (IntOp.divsi .host (BitVec.ofNat 32 a.val) 4#32) = _
  rw [hsame, hdiv]
  rfl

theorem pairRow_at {d : IVec S69632 32} (hd : Placement d) (a : Fin 69632) : pairRow d (ix2 a (0 : Fin 1)) = d (ix1 a) := by
  have h := hd.inside a
  have e : pairRow d (ix2 a (0 : Fin 1)) = Scalar.select (IntOp.cmpi .slt (d (ix1 a)) 0#32) (d (ix1 a) + 77824#32) (d (ix1 a)) := by
    have q : ∀ g : IVec S69632 32, broadcastInDim S69632x1 ![0] bcast_S69632_S69632x1_0 g (ix2 a (0 : Fin 1)) = g (ix1 a) := fun g => by
      unfold broadcastInDim
      refine congrArg g (funext fun k => ?_)
      fin_cases k
      rfl
    exact q _
  rw [e, select_of_neg (by omega)]

/-- Pair `k` writes row `p` exactly when `p` is its destination. -/
theorem lands {d : IVec S69632 32} (hd : Placement d) (a : Fin 69632) (p : Fin 77824) :
    scatter_S77824_S69632x1_S69632_n_0_0_1.resultIdx? (ix1 a) (pairRow d) = some (ix1 p) ↔ (d (ix1 a)).toNat = p.val := by
  have h := hd.inside a
  have hwin : scatter_S77824_S69632x1_S69632_n_0_0_1.window (ix1 a) 0 = 0 := rfl
  have hstart : scatter_S77824_S69632x1_S69632_n_0_0_1.start (ix1 a) (pairRow d) 0 = (pairRow d (ix2 a (0 : Fin 1))).toInt := by
    unfold ScatterDims.start
    rw [dif_pos (show (0 : Fin 1) ∈ scatter_S77824_S69632x1_S69632_n_0_0_1.scatterDimsToOperandDims from List.mem_singleton.2 rfl)]
    refine congrArg (fun i => (pairRow d i).toInt) (funext fun b => Fin.ext ?_)
    match b with
    | ⟨0, _⟩ => rfl
    | ⟨1, _⟩ => rfl
  rw [Routing.resultIdx?_ix1, hwin, hstart, pairRow_at hd, BitVec.toInt_eq_toNat_of_lt (by omega)]
  omega

theorem idx_eq (k : S69632.Idx) : ∃ a : Fin 69632, k = ix1 a :=
  ⟨k 0, by funext b; fin_cases b; rfl⟩

theorem slotToken_on {d : IVec S69632 32} (hd : Placement d) (p : Fin 77824) (a : Fin 69632) (e : (d (ix1 a)).toNat = p.val) :
    slotToken d (ix1 p) = BitVec.ofNat 32 (a.val / 4) := by
  refine Routing.scatter_set_hit _ _ _ _ _ _ (fun k hk => ?_) (ix1 a) ((lands hd a p).2 e)
  obtain ⟨k, rfl⟩ := idx_eq k
  rw [pairToken_at, hd.apart _ _ (((lands hd _ p).1 hk).trans e.symm)]

theorem slotToken_off {d : IVec S69632 32} (hd : Placement d) (p : Fin 77824) (h : ¬ ∃ a : Fin 69632, (d (ix1 a)).toNat = p.val) :
    slotToken d (ix1 p) = 17408#32 := by
  refine (Routing.scatter_set_miss _ _ _ _ _ fun k hk => ?_).trans rfl
  obtain ⟨k, rfl⟩ := idx_eq k
  exact h ⟨k, (lands hd _ p).1 hk⟩

/-! ## The rows -/

/-- A row gathered through an index word that is a token's number is that token's row. -/
theorem gathered {E : Type} (t : S17409x8x128.Idx → E) (i : IVec S77824x1 32) (p : Fin 77824) (y1 : Fin 8) (y2 : Fin 128) (b : Fin 17409)
    (hb : i (ix2 p (0 : Fin 1)) = BitVec.ofNat 32 b.val) :
    Host.gather gather_S17409x8x128_S77824x1_S77824x8x128_12_0_n_n_0_1_18128 t i (ix3 p y1 y2) = t (ix3 b y1 y2) := by
  have hlt := b.isLt
  unfold Host.gather
  refine congrArg t (funext fun k => Fin.ext ?_)
  have hstart : gather_S17409x8x128_S77824x1_S77824x8x128_12_0_n_n_0_1_18128.start (ix3 p y1 y2) i 0 = b.val := by
    unfold GatherDims.start
    rw [dif_pos (show (0 : Fin 3) ∈ gather_S17409x8x128_S77824x1_S77824x8x128_12_0_n_n_0_1_18128.startIndexMap from List.mem_singleton.2 rfl)]
    have e : gather_S17409x8x128_S77824x1_S77824x8x128_12_0_n_n_0_1_18128.siIdx (ix3 p y1 y2)
        ⟨List.idxOf (0 : Fin 3) gather_S17409x8x128_S77824x1_S77824x8x128_12_0_n_n_0_1_18128.startIndexMap,
          List.idxOf_lt_length_iff.2 (List.mem_singleton.2 rfl)⟩ = ix2 p (0 : Fin 1) := by
      funext q
      match q with
      | ⟨0, _⟩ => rfl
      | ⟨1, _⟩ => rfl
    rw [e, hb, StableHlo.Predicate.toInt_ofNat_small _ (by omega)]
    show min b.val (17409 - 1) = b.val
    omega
  match k with
  | ⟨0, _⟩ => exact congrArg (· + 0 + 0) hstart
  | ⟨1, _⟩ => exact Nat.zero_add _
  | ⟨2, _⟩ => exact Nat.zero_add _

theorem padded {E : Type} (h : S17408x8x128.Idx → E) (z : S1x8x128.Idx → E) (b : Fin 17408) (y1 : Fin 8) (y2 : Fin 128) :
    concatenate S17409x8x128 0 [⟨S17408x8x128, h⟩, ⟨S1x8x128, z⟩] concatenates_S17408x8x128_S1x8x128_S17409x8x128_d0
      (ix3 (⟨b.val, by omega⟩ : Fin 17409) y1 y2) = h (ix3 b y1 y2) := by
  refine concatenate_pair_apply_left (t := S17409x8x128) 0 h z _ _ rfl _ fun k => ?_
  match k with
  | ⟨0, _⟩ => rfl
  | ⟨1, _⟩ => rfl
  | ⟨2, _⟩ => rfl

theorem rowToken_at (d : IVec S69632 32) (p : Fin 77824) (h : (slotToken d (ix1 p)).toNat < 2 ^ 31) : rowToken d (ix2 p (0 : Fin 1)) = slotToken d (ix1 p) := by
  have q : ∀ g : IVec S77824 32, broadcastInDim S77824x1 ![0] bcast_S77824_S77824x1_0 g (ix2 p (0 : Fin 1)) = g (ix1 p) := fun g => by
    unfold broadcastInDim
    refine congrArg g (funext fun k => ?_)
    fin_cases k
    rfl
  exact (q _).trans (select_of_neg h)

theorem taken_at (g : IVec S77824 1) (p : Fin 77824) (y1 : Fin 8) (y2 : Fin 128) :
    broadcastInDim S77824x8x128 ![0, 1, 2] bcast_S77824x1x1_S77824x8x128_0_1_2 (broadcastInDim S77824x1x1 ![0] bcast_S77824_S77824x1x1_0 g) (ix3 p y1 y2) = g (ix1 p) := by
  unfold broadcastInDim
  refine congrArg g (funext fun k => ?_)
  fin_cases k
  rfl

theorem select_at {E : Type} (g : IVec S77824x8x128 1) (u v : S77824x8x128.Idx → E) (y : S77824x8x128.Idx) : select g u v y = Scalar.select (g y) (u y) (v y) := rfl

theorem below_at (g : IVec S77824 32) (p : S77824.Idx) :
    cmpi .slt g (broadcastInDim S77824 ![] bcast_S_S77824 (constantI S_ 32 17408#32)) p = IntOp.cmpi .slt (g p) 17408#32 := rfl

/-- Of destinations that are a placement the reference's result is the array that every pair's token row was written into. -/
theorem dispatched_eq {d : IVec S69632 32} (hd : Placement d) (h : FVec F S17408x8x128 .f32) (x : FVec F S77824x8x128 .f32) :
    dispatched d h x = scattered d h x 69632 := by
  funext y
  obtain ⟨p, y1, y2, rfl⟩ : ∃ (p : Fin 77824) (y1 : Fin 8) (y2 : Fin 128), y = ix3 p y1 y2 :=
    ⟨y 0, y 1, y 2, by funext k; fin_cases k <;> rfl⟩
  unfold dispatched
  rw [select_at, taken_at, below_at]
  by_cases q : ∃ a : Fin 69632, (d (ix1 a)).toNat = p.val
  · obtain ⟨a, e⟩ := q
    have ha := a.isLt
    have hs := slotToken_on hd p a e
    have hlt : (BitVec.ofNat 32 (a.val / 4)).slt 17408#32 = true := by
      rw [BitVec.slt_eq_decide, decide_eq_true_iff, StableHlo.Predicate.toInt_ofNat_small _ (by omega)]
      show ((a.val / 4 : ℕ) : ℤ) < 17408
      omega
    have hw : (slotToken d (ix1 p)).toNat < 2 ^ 31 := by
      rw [hs, BitVec.toNat_ofNat]; omega
    rw [gathered _ _ p y1 y2 ⟨a.val / 4, by omega⟩ ((rowToken_at d p hw).trans hs), padded h _ ⟨a.val / 4, by omega⟩ y1 y2, hs]
    refine Eq.trans ?_ (scattered_on hd h x 69632 (ix3 p y1 y2) a ha e).symm
    unfold Scalar.select IntOp.cmpi
    simp only [hlt]
    rfl
  · have hs := slotToken_off hd p q
    refine Eq.trans ?_ (scattered_off d h x 69632 (ix3 p y1 y2) (fun ⟨a, _, e⟩ => q ⟨a, e⟩)).symm
    rw [hs]
    rfl

end Cert.ReferenceIdeal.Slots

namespace Cert.Pre_dest_is_placement

open Idealize.ShloMosaic hiding ix1 ix2 ix3
open Idealize.ShloMosaic.ValueIdx (ix1 ix2 ix3)
open Cert.KernelIdeal.Dispatch (Placement)

theorem facts : Facts where
  bcast_S69632_S69632x1_0 := by decide
  bcast_S69632_S1x69632_1 := by decide
  bcast_S69632x1_S69632x69632_0_1 := by decide
  bcast_S1x69632_S69632x69632_0_1 := by decide
  bcast_S_S69632 := by decide

/-- The precondition says that the destinations are a placement. -/
theorem placement [Facts] {F : FTy → Type} [FloatOps F] (d : IVec S69632 32) (h : FVec F S17408x8x128 .f32) (x : FVec F S77824x8x128 .f32)
    (e : fn (F := F) d h x = fun _ => 1#1) : Placement d := by
  have col : ∀ {w : ℕ} (g : IVec S69632 w) (a b : Fin 69632), broadcastInDim S69632x69632 ![0, 1] Facts.bcast_S69632x1_S69632x69632_0_1
      (broadcastInDim S69632x1 ![0] Facts.bcast_S69632_S69632x1_0 g) (ix2 a b) = g (ix1 a) := fun g a b => by
    unfold broadcastInDim
    refine congrArg g (funext fun k => ?_)
    fin_cases k
    rfl
  have row : ∀ {w : ℕ} (g : IVec S69632 w) (a b : Fin 69632), broadcastInDim S69632x69632 ![0, 1] Facts.bcast_S1x69632_S69632x69632_0_1
      (broadcastInDim S1x69632 ![1] Facts.bcast_S69632_S1x69632_1 g) (ix2 a b) = g (ix1 b) := fun g a b => by
    unfold broadcastInDim
    refine congrArg g (funext fun k => ?_)
    fin_cases k
    rfl
  have at_ : ∀ a b : Fin 69632, IntOp.andi (IntOp.ori (IntOp.cmpi .ne (d (ix1 a)) (d (ix1 b))) (IntOp.cmpi .eq (BitVec.ofNat 32 a.val) (BitVec.ofNat 32 b.val)))
      (IntOp.andi (IntOp.cmpi .sge (d (ix1 a)) 0#32) (IntOp.cmpi .slt (d (ix1 a)) 77824#32)) = 1#1 := fun a b => by
    have q := congrFun e (ix2 a b)
    unfold fn at q
    simp only at q
    change IntOp.andi (IntOp.ori (IntOp.cmpi .ne (broadcastInDim _ _ _ _ _) (broadcastInDim _ _ _ _ _)) (IntOp.cmpi .eq (broadcastInDim _ _ _ _ _) (broadcastInDim _ _ _ _ _)))
      (broadcastInDim _ _ _ _ _) = 1#1 at q
    rw [col, col, row, row, col] at q
    exact q
  have bit : ∀ b : Bool, BitVec.ofBool b = 1#1 ↔ b = true := by decide
  constructor
  · intro a
    have q := ((IntOp.andi_eq_one).1 ((IntOp.andi_eq_one).1 (at_ a a)).2)
    unfold IntOp.cmpi at q
    simp only [bit, BitVec.sle_eq_decide, BitVec.slt_eq_decide, decide_eq_true_eq] at q
    have h0 : (0#32 : BitVec 32).toInt = 0 := by decide
    have h1 : (77824#32 : BitVec 32).toInt = 77824 := by decide
    rw [h0, h1, BitVec.toInt_eq_toNat_cond] at q
    have := (d (ix1 a)).isLt
    split at q <;> omega
  · intro a b ed
    have q := (IntOp.ori_eq_one).1 ((IntOp.andi_eq_one).1 (at_ a b)).1
    have ed' : d (ix1 a) = d (ix1 b) := BitVec.eq_of_toNat_eq ed
    unfold IntOp.cmpi at q
    simp only [bit, ed', bne_self_eq_false, Bool.false_eq_true, false_or, beq_iff_eq] at q
    have := congrArg BitVec.toNat q
    have ha := a.isLt
    have hb := b.isLt
    rw [BitVec.toNat_ofNat, BitVec.toNat_ofNat] at this
    exact Fin.ext (by omega)

end Cert.Pre_dest_is_placement

end
-- ==== Proof.ExpertsReference.lean ====
/- The experts' reference, over the extended reals: its operations in a few named pieces, each read at an element. -/
module

public import proofs.«01_k».proof.Proof.Gen.ExpertsReferenceIdeal.Run
public import proofs.«01_k».proof.Proof.ExpertsNetwork
public import proofs.«01_k».proof.Pre_blocks_have_experts
public import Idealize.ShloMosaic.Lib.StableHlo.Predicate
public import Idealize.ShloMosaic.Lib.ValueIdxCore

@[expose] public section

set_option maxRecDepth 16384

noncomputable section

namespace Cert.ExpertsReferenceIdeal.Blocks

open Cert.ExpertsReferenceIdeal Cert.ExpertsReferenceIdeal.Gen
open Idealize.ShloMosaic hiding ix1 ix2 ix3 ix4
open Idealize.ShloMosaic.TcCoe
open Idealize.SL.Sem
open Idealize.ShloMosaic.ValueIdx (ix1 ix2 ix3 ix4)

/-! ## The pieces -/

/-- Every block's expert, an index below zero counted from the end. -/
def chosen (A0 : IVec S304 32) : IVec S304x1 32 :=
  broadcastInDim S304x1 ![0] bcast_S304_S304x1_0
    (select (cmpi .slt A0 (broadcastInDim S304 ![] bcast_S_S304 (constantI S_ 32 0#32))) (addi A0 (broadcastInDim S304 ![] bcast_S_S304 (constantI S_ 32 32#32))) A0)

/-- The rows, in blocks. -/
def blocks (A2 : FVec Ideal S77824x8x128 .f32) : FVec Ideal S304x256x1024 .f32 := shapeCast S304x256x1024 A2 shapeCasts_S77824x8x128_S304x256x1024

/-- Every block's expert's weights and biases. -/
def first (e : IVec S304x1 32) (A3 : FVec Ideal S2x32x1024x2048 .f32) : FVec Ideal S304x1024x2048 .f32 :=
  Host.gather gather_S32x1024x2048_S304x1_S304x1024x2048_12_0_n_n_0_1_110242048
    (shapeCast S32x1024x2048 (extractStridedSlice S1x32x1024x2048 ![1,0,0,0] A3 slices_S2x32x1024x2048_S1x32x1024x2048_1_0_0_0) shapeCasts_S1x32x1024x2048_S32x1024x2048) e
def firstBias (e : IVec S304x1 32) (A4 : FVec Ideal S2x32x2048 .f32) : FVec Ideal S304x2048 .f32 :=
  Host.gather gather_S32x2048_S304x1_S304x2048_1_0_n_n_0_1_12048
    (shapeCast S32x2048 (extractStridedSlice S1x32x2048 ![1,0,0] A4 slices_S2x32x2048_S1x32x2048_1_0_0) shapeCasts_S1x32x2048_S32x2048) e
def second (e : IVec S304x1 32) (A5 : FVec Ideal S2x32x1024x1024 .f32) : FVec Ideal S304x1024x1024 .f32 :=
  Host.gather gather_S32x1024x1024_S304x1_S304x1024x1024_12_0_n_n_0_1_110241024
    (shapeCast S32x1024x1024 (extractStridedSlice S1x32x1024x1024 ![1,0,0,0] A5 slices_S2x32x1024x1024_S1x32x1024x1024_1_0_0_0) shapeCasts_S1x32x1024x1024_S32x1024x1024) e
def secondBias (e : IVec S304x1 32) (A6 : FVec Ideal S2x32x1024 .f32) : FVec Ideal S304x1024 .f32 :=
  Host.gather gather_S32x1024_S304x1_S304x1024_1_0_n_n_0_1_11024
    (shapeCast S32x1024 (extractStridedSlice S1x32x1024 ![1,0,0] A6 slices_S2x32x1024_S1x32x1024_1_0_0) shapeCasts_S1x32x1024_S32x1024) e

def hidden (x : FVec Ideal S304x256x1024 .f32) (w : FVec Ideal S304x1024x2048 .f32) (b : FVec Ideal S304x2048 .f32) : FVec Ideal S304x256x2048 .f32 :=
  addf (Host.dotGeneral dot_S304x256x1024_S304x1024x2048_S304x256x2048_2_1_1_2_0_0 none x w)
    (broadcastInDim S304x256x2048 ![0,1,2] bcast_S304x1x2048_S304x256x2048_0_1_2 (broadcastInDim S304x1x2048 ![0,2] bcast_S304x2048_S304x1x2048_0_2 b))

/-- A scalar everywhere. -/
abbrev every (z : FVec Ideal S_ .f32) : FVec Ideal S304x256x1024 .f32 := broadcastInDim S304x256x1024 ![] bcast_S_S304x256x1024 z

def gate (h : FVec Ideal S304x256x2048 .f32) : FVec Ideal S304x256x1024 .f32 :=
  minimumf (extractStridedSlice S304x256x1024 ![0,0,0] h slices_S304x256x2048_S304x256x1024_0_0_0) (every (constant S_ .f32 0x40E00000#32))

def up (h : FVec Ideal S304x256x2048 .f32) : FVec Ideal S304x256x1024 .f32 :=
  minimumf (every (id (constant S_ .f32 0x40E00000#32))) (maximumf (every (id (constant S_ .f32 0xC0E00000#32)))
    (extractStridedSlice S304x256x1024 ![0,0,1024] h slices_S304x256x2048_S304x256x1024_0_0_1024))

def active (g u : FVec Ideal S304x256x1024 .f32) : FVec Ideal S304x256x1024 .f32 :=
  mulf (addf u (every (constant S_ .f32 0x3F800000#32)))
    (mulf g (Host.divf (every (constant S_ .f32 0x3F800000#32)) (addf (every (constant S_ .f32 0x3F800000#32)) (Host.exp (Host.negf (mulf (every (constant S_ .f32 0x3FD9DB23#32)) g))))))

def projected (a : FVec Ideal S304x256x1024 .f32) (d : FVec Ideal S304x1024x1024 .f32) (o : FVec Ideal S304x1024 .f32) : FVec Ideal S304x256x1024 .f32 :=
  addf (Host.dotGeneral dot_S304x256x1024_S304x1024x1024_S304x256x1024_2_1_1_2_0_0 none a d)
    (broadcastInDim S304x256x1024 ![0,1,2] bcast_S304x1x1024_S304x256x1024_0_1_2 (broadcastInDim S304x1x1024 ![0,2] bcast_S304x1024_S304x1x1024_0_2 o))

/-- Which blocks are in use. -/
def inUse (A1 : IVec S1 32) : IVec S304 1 := cmpi .slt (iotaInDim S304 32 0) (broadcastInDim S304 ![] bcast_S_S304 (shapeCast S_ A1 shapeCasts_S1_S_))

/-- The blocks in use, zeros for the others, as rows. -/
def masked (u : IVec S304 1) (p : FVec Ideal S304x256x1024 .f32) : FVec Ideal S77824x8x128 .f32 :=
  shapeCast S77824x8x128 (select (broadcastInDim S304x256x1024 ![0,1,2] bcast_S304x1x1_S304x256x1024_0_1_2 (broadcastInDim S304x1x1 ![0] bcast_S304_S304x1x1_0 u)) p
    (every (id (constant S_ .f32 0x00000000#32)))) shapeCasts_S304x256x1024_S77824x8x128

theorem result_eq (m : (ℓ : Loc nD τ sig) → Buf (Elt Ideal) ℓ) (c : Dev nD) :
    Value.res_main_v68 m c = masked (inUse (m ((c.tc : Thread nD τ).loc main_arg1)))
      (projected (active (gate (hidden (blocks (m ((c.tc : Thread nD τ).loc main_arg2))) (first (chosen (m ((c.tc : Thread nD τ).loc main_arg0))) (m ((c.tc : Thread nD τ).loc main_arg3)))
              (firstBias (chosen (m ((c.tc : Thread nD τ).loc main_arg0))) (m ((c.tc : Thread nD τ).loc main_arg4)))))
            (up (hidden (blocks (m ((c.tc : Thread nD τ).loc main_arg2))) (first (chosen (m ((c.tc : Thread nD τ).loc main_arg0))) (m ((c.tc : Thread nD τ).loc main_arg3)))
              (firstBias (chosen (m ((c.tc : Thread nD τ).loc main_arg0))) (m ((c.tc : Thread nD τ).loc main_arg4))))))
        (second (chosen (m ((c.tc : Thread nD τ).loc main_arg0))) (m ((c.tc : Thread nD τ).loc main_arg5)))
        (secondBias (chosen (m ((c.tc : Thread nD τ).loc main_arg0))) (m ((c.tc : Thread nD τ).loc main_arg6)))) := rfl

/-! ## Read at an element -/

theorem blocks_at (A2 : FVec Ideal S77824x8x128 .f32) (t : Fin 304) (p : Fin 256) (k : Fin 1024) :
    blocks A2 (ix3 t p k) = A2 (ix3 (⟨t.val * 256 + p.val, by omega⟩ : Fin 77824) (⟨k.val / 128, by omega⟩ : Fin 8) (⟨k.val % 128, by omega⟩ : Fin 128)) := by
  pointwise [blocks]
  rfl

theorem hidden_at (x : FVec Ideal S304x256x1024 .f32) (w : FVec Ideal S304x1024x2048 .f32) (b : FVec Ideal S304x2048 .f32) (t : Fin 304) (p : Fin 256) (f : Fin 2048) :
    hidden x w b (ix3 t p f) = ExpertNetwork.hidden (fun k => x (ix3 t p k)) (fun k f => w (ix3 t k f)) (fun f => b (ix2 t f)) f := by
  pointwise [hidden]
  rfl

theorem gate_at (h : FVec Ideal S304x256x2048 .f32) (t : Fin 304) (p : Fin 256) (g : Fin 1024) :
    gate h (ix3 t p g) = ExpertNetwork.gate (fun f => h (ix3 t p f)) g := by
  pointwise [gate]
  rfl

theorem up_at (h : FVec Ideal S304x256x2048 .f32) (t : Fin 304) (p : Fin 256) (g : Fin 1024) :
    up h (ix3 t p g) = ExpertNetwork.up (fun f => h (ix3 t p f)) g := by
  pointwise [up]
  rfl

theorem active_at (h : FVec Ideal S304x256x2048 .f32) (t : Fin 304) (p : Fin 256) (g : Fin 1024) :
    active (gate h) (up h) (ix3 t p g) = ExpertNetwork.active (fun f => h (ix3 t p f)) g := by
  have e : ∀ a b : FVec Ideal S304x256x1024 .f32, active a b (ix3 t p g)
      = (b (ix3 t p g) + 1) * (a (ix3 t p g) * Ideal.logistic (Ideal.ofBits FTy.f32 1071242019#32 * a (ix3 t p g))) := fun a b => by
    pointwise [active]
    rfl
  rw [e, gate_at, up_at]
  rfl

theorem projected_at (a : FVec Ideal S304x256x1024 .f32) (d : FVec Ideal S304x1024x1024 .f32) (o : FVec Ideal S304x1024 .f32) (t : Fin 304) (p : Fin 256) (q : Fin 1024) :
    projected a d o (ix3 t p q) = ∑ g : Fin 1024, a (ix3 t p g) * d (ix3 t g q) + o (ix2 t q) := by
  pointwise [projected]
  rfl

theorem inUse_at (A1 : IVec S1 32) (t : Fin 304) : inUse A1 (ix1 t) = IntOp.cmpi .slt (BitVec.ofNat 32 t.val) (A1 (ix1 (0 : Fin 1))) := by
  unfold inUse
  show IntOp.cmpi .slt (BitVec.ofNat 32 t.val) (shapeCast S_ A1 shapeCasts_S1_S_ _) = _
  congr 1
  refine congrArg A1 (funext fun k => ?_)
  match k with
  | ⟨0, _⟩ => exact Subsingleton.elim (α := Fin 1) _ _

theorem masked_at (u : IVec S304 1) (p : FVec Ideal S304x256x1024 .f32) (r : Fin 77824) (y1 : Fin 8) (y2 : Fin 128) :
    masked u p (ix3 r y1 y2) = if u (ix1 (⟨r.val / 256, by omega⟩ : Fin 304)) = 1#1 then
      p (ix3 (⟨r.val / 256, by omega⟩ : Fin 304) (⟨r.val % 256, by omega⟩ : Fin 256) (⟨y1.val * 128 + y2.val, by omega⟩ : Fin 1024)) else 0 := by
  pointwise [masked]
  show Scalar.select (u _) (p _) (Ideal.ofBits FTy.f32 0#32) = _
  rw [Ideal.ofBits_zero_f32]
  rfl

/-! ## The gathered weights -/

theorem select_of_neg {b a : BitVec 32} (h : b.toNat < 2 ^ 31) : Scalar.select (IntOp.cmpi .slt b 0#32) a b = b := by
  have hb : b.slt 0#32 = false := by
    rw [BitVec.slt_eq_decide, decide_eq_false_iff_not, BitVec.toInt_eq_toNat_of_lt (by omega)]
    simp
  unfold Scalar.select IntOp.cmpi
  simp [hb]

theorem chosen_at (A0 : IVec S304 32) (t : Fin 304) (h : (A0 (ix1 t)).toNat < 32) : chosen A0 (ix2 t (0 : Fin 1)) = A0 (ix1 t) := by
  have e : chosen A0 (ix2 t (0 : Fin 1)) = Scalar.select (IntOp.cmpi .slt (A0 (ix1 t)) 0#32) (IntOp.addi (A0 (ix1 t)) 32#32) (A0 (ix1 t)) := by
    unfold chosen broadcastInDim
    refine congrArg (fun i : S304.Idx => Scalar.select (IntOp.cmpi .slt (A0 i) 0#32) (IntOp.addi (A0 i) 32#32) (A0 i)) (funext fun k => ?_)
    fin_cases k
    rfl
  rw [e, select_of_neg (by omega)]

theorem gathered_1 {E : Type} (T : S32x1024x2048.Idx → E) (i : IVec S304x1 32) (t : Fin 304) (p : Fin 1024) (q : Fin 2048) (b : Fin 32)
    (hb : i (ix2 t (0 : Fin 1)) = BitVec.ofNat 32 b.val) :
    Host.gather gather_S32x1024x2048_S304x1_S304x1024x2048_12_0_n_n_0_1_110242048 T i (ix3 t p q) = T (ix3 b p q) := by
  have hlt := b.isLt
  unfold Host.gather
  refine congrArg T (funext fun k => Fin.ext ?_)
  have hstart : gather_S32x1024x2048_S304x1_S304x1024x2048_12_0_n_n_0_1_110242048.start (ix3 t p q) i 0 = b.val := by
    unfold GatherDims.start
    rw [dif_pos (show (0 : Fin 3) ∈ gather_S32x1024x2048_S304x1_S304x1024x2048_12_0_n_n_0_1_110242048.startIndexMap from List.mem_singleton.2 rfl)]
    have e : gather_S32x1024x2048_S304x1_S304x1024x2048_12_0_n_n_0_1_110242048.siIdx (ix3 t p q)
        ⟨List.idxOf (0 : Fin 3) gather_S32x1024x2048_S304x1_S304x1024x2048_12_0_n_n_0_1_110242048.startIndexMap,
          List.idxOf_lt_length_iff.2 (List.mem_singleton.2 rfl)⟩ = ix2 t (0 : Fin 1) := by
      funext q
      match q with
      | ⟨0, _⟩ => rfl
      | ⟨1, _⟩ => rfl
    rw [e, hb, StableHlo.Predicate.toInt_ofNat_small _ (by omega)]
    show min b.val (32 - 1) = b.val
    omega
  match k with
  | ⟨0, _⟩ => exact congrArg (· + 0 + 0) hstart
  | ⟨1, _⟩ => exact Nat.zero_add _
  | ⟨2, _⟩ => exact Nat.zero_add _

theorem gathered_2 {E : Type} (T : S32x2048.Idx → E) (i : IVec S304x1 32) (t : Fin 304) (q : Fin 2048) (b : Fin 32)
    (hb : i (ix2 t (0 : Fin 1)) = BitVec.ofNat 32 b.val) :
    Host.gather gather_S32x2048_S304x1_S304x2048_1_0_n_n_0_1_12048 T i (ix2 t q) = T (ix2 b q) := by
  have hlt := b.isLt
  unfold Host.gather
  refine congrArg T (funext fun k => Fin.ext ?_)
  have hstart : gather_S32x2048_S304x1_S304x2048_1_0_n_n_0_1_12048.start (ix2 t q) i 0 = b.val := by
    unfold GatherDims.start
    rw [dif_pos (show (0 : Fin 2) ∈ gather_S32x2048_S304x1_S304x2048_1_0_n_n_0_1_12048.startIndexMap from List.mem_singleton.2 rfl)]
    have e : gather_S32x2048_S304x1_S304x2048_1_0_n_n_0_1_12048.siIdx (ix2 t q)
        ⟨List.idxOf (0 : Fin 2) gather_S32x2048_S304x1_S304x2048_1_0_n_n_0_1_12048.startIndexMap,
          List.idxOf_lt_length_iff.2 (List.mem_singleton.2 rfl)⟩ = ix2 t (0 : Fin 1) := by
      funext q
      match q with
      | ⟨0, _⟩ => rfl
      | ⟨1, _⟩ => rfl
    rw [e, hb, StableHlo.Predicate.toInt_ofNat_small _ (by omega)]
    show min b.val (32 - 1) = b.val
    omega
  match k with
  | ⟨0, _⟩ => exact congrArg (· + 0 + 0) hstart
  | ⟨1, _⟩ => exact Nat.zero_add _

theorem gathered_3 {E : Type} (T : S32x1024x1024.Idx → E) (i : IVec S304x1 32) (t : Fin 304) (p : Fin 1024) (q : Fin 1024) (b : Fin 32)
    (hb : i (ix2 t (0 : Fin 1)) = BitVec.ofNat 32 b.val) :
    Host.gather gather_S32x1024x1024_S304x1_S304x1024x1024_12_0_n_n_0_1_110241024 T i (ix3 t p q) = T (ix3 b p q) := by
  have hlt := b.isLt
  unfold Host.gather
  refine congrArg T (funext fun k => Fin.ext ?_)
  have hstart : gather_S32x1024x1024_S304x1_S304x1024x1024_12_0_n_n_0_1_110241024.start (ix3 t p q) i 0 = b.val := by
    unfold GatherDims.start
    rw [dif_pos (show (0 : Fin 3) ∈ gather_S32x1024x1024_S304x1_S304x1024x1024_12_0_n_n_0_1_110241024.startIndexMap from List.mem_singleton.2 rfl)]
    have e : gather_S32x1024x1024_S304x1_S304x1024x1024_12_0_n_n_0_1_110241024.siIdx (ix3 t p q)
        ⟨List.idxOf (0 : Fin 3) gather_S32x1024x1024_S304x1_S304x1024x1024_12_0_n_n_0_1_110241024.startIndexMap,
          List.idxOf_lt_length_iff.2 (List.mem_singleton.2 rfl)⟩ = ix2 t (0 : Fin 1) := by
      funext q
      match q with
      | ⟨0, _⟩ => rfl
      | ⟨1, _⟩ => rfl
    rw [e, hb, StableHlo.Predicate.toInt_ofNat_small _ (by omega)]
    show min b.val (32 - 1) = b.val
    omega
  match k with
  | ⟨0, _⟩ => exact congrArg (· + 0 + 0) hstart
  | ⟨1, _⟩ => exact Nat.zero_add _
  | ⟨2, _⟩ => exact Nat.zero_add _

theorem gathered_4 {E : Type} (T : S32x1024.Idx → E) (i : IVec S304x1 32) (t : Fin 304) (q : Fin 1024) (b : Fin 32)
    (hb : i (ix2 t (0 : Fin 1)) = BitVec.ofNat 32 b.val) :
    Host.gather gather_S32x1024_S304x1_S304x1024_1_0_n_n_0_1_11024 T i (ix2 t q) = T (ix2 b q) := by
  have hlt := b.isLt
  unfold Host.gather
  refine congrArg T (funext fun k => Fin.ext ?_)
  have hstart : gather_S32x1024_S304x1_S304x1024_1_0_n_n_0_1_11024.start (ix2 t q) i 0 = b.val := by
    unfold GatherDims.start
    rw [dif_pos (show (0 : Fin 2) ∈ gather_S32x1024_S304x1_S304x1024_1_0_n_n_0_1_11024.startIndexMap from List.mem_singleton.2 rfl)]
    have e : gather_S32x1024_S304x1_S304x1024_1_0_n_n_0_1_11024.siIdx (ix2 t q)
        ⟨List.idxOf (0 : Fin 2) gather_S32x1024_S304x1_S304x1024_1_0_n_n_0_1_11024.startIndexMap,
          List.idxOf_lt_length_iff.2 (List.mem_singleton.2 rfl)⟩ = ix2 t (0 : Fin 1) := by
      funext q
      match q with
      | ⟨0, _⟩ => rfl
      | ⟨1, _⟩ => rfl
    rw [e, hb, StableHlo.Predicate.toInt_ofNat_small _ (by omega)]
    show min b.val (32 - 1) = b.val
    omega
  match k with
  | ⟨0, _⟩ => exact congrArg (· + 0 + 0) hstart
  | ⟨1, _⟩ => exact Nat.zero_add _

theorem first_at (e : IVec S304x1 32) (A : FVec Ideal S2x32x1024x2048 .f32) (t : Fin 304) (p : Fin 1024) (q : Fin 2048) (b : Fin 32) (hb : e (ix2 t (0 : Fin 1)) = BitVec.ofNat 32 b.val) :
    first e A (ix3 t p q) = A (ix4 (1 : Fin 2) b p q) := by
  unfold first
  rw [gathered_1 _ _ _ _ _ b hb]
  pointwise
  rfl

theorem firstBias_at (e : IVec S304x1 32) (A : FVec Ideal S2x32x2048 .f32) (t : Fin 304) (q : Fin 2048) (b : Fin 32) (hb : e (ix2 t (0 : Fin 1)) = BitVec.ofNat 32 b.val) :
    firstBias e A (ix2 t q) = A (ix3 (1 : Fin 2) b q) := by
  unfold firstBias
  rw [gathered_2 _ _ _ _ b hb]
  pointwise
  rfl

theorem second_at (e : IVec S304x1 32) (A : FVec Ideal S2x32x1024x1024 .f32) (t : Fin 304) (p : Fin 1024) (q : Fin 1024) (b : Fin 32) (hb : e (ix2 t (0 : Fin 1)) = BitVec.ofNat 32 b.val) :
    second e A (ix3 t p q) = A (ix4 (1 : Fin 2) b p q) := by
  unfold second
  rw [gathered_3 _ _ _ _ _ b hb]
  pointwise
  rfl

theorem secondBias_at (e : IVec S304x1 32) (A : FVec Ideal S2x32x1024 .f32) (t : Fin 304) (q : Fin 1024) (b : Fin 32) (hb : e (ix2 t (0 : Fin 1)) = BitVec.ofNat 32 b.val) :
    secondBias e A (ix2 t q) = A (ix3 (1 : Fin 2) b q) := by
  unfold secondBias
  rw [gathered_4 _ _ _ _ b hb]
  pointwise
  rfl

/-! ## The result -/

/-- The reference's result, at an element. -/
theorem result_layered (m : (ℓ : Loc nD τ sig) → Buf (Elt Ideal) ℓ) (c : Dev nD)
    (he : ∀ t : Fin 304, ((m ((c.tc : Thread nD τ).loc main_arg0) : IVec S304 32) (ix1 t)).toNat < 32) (r : Fin 77824) (y1 : Fin 8) (y2 : Fin 128) :
    (Value.res_main_v68 m c : S77824x8x128.Idx → EReal) (ix3 r y1 y2)
      = ExpertNetwork.layered (m ((c.tc : Thread nD τ).loc main_arg0)) ((m ((c.tc : Thread nD τ).loc main_arg1) : IVec S1 32) (ix1 (0 : Fin 1)))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) r y1 y2 := by
  have ht : r.val / 256 < 304 := by omega
  have hb : chosen (m ((c.tc : Thread nD τ).loc main_arg0)) (ix2 (⟨r.val / 256, ht⟩ : Fin 304) (0 : Fin 1))
      = BitVec.ofNat 32 (⟨((m ((c.tc : Thread nD τ).loc main_arg0) : IVec S304 32) (ix1 ⟨r.val / 256, ht⟩)).toNat % 32, Nat.mod_lt _ (by decide)⟩ : Fin 32).val := by
    rw [chosen_at _ _ (he _)]
    show _ = BitVec.ofNat 32 (_ % 32)
    rw [Nat.mod_eq_of_lt (he _), BitVec.ofNat_toNat, BitVec.setWidth_eq]
  have bit : ∀ b : Bool, BitVec.ofBool b = 1#1 ↔ b = true := by decide
  refine (congrFun (result_eq m c) (ix3 r y1 y2)).trans ?_
  rw [masked_at, inUse_at]
  unfold ExpertNetwork.layered
  refine if_congr (bit _) ?_ rfl
  rw [projected_at]
  unfold ExpertNetwork.row
  refine congrArg₂ (· + ·) (Finset.sum_congr rfl fun g _ => ?_) (secondBias_at _ _ _ _ _ hb)
  rw [active_at]
  refine congrArg₂ (· * ·) ?_ (second_at _ _ _ _ _ _ hb)
  refine congrArg (fun h => ExpertNetwork.active h g) (funext fun f => ?_)
  rw [hidden_at]
  congr 1
  · funext k
    rw [blocks_at]
    refine congrArg (m ((c.tc : Thread nD τ).loc main_arg2) : S77824x8x128.Idx → EReal) ?_
    exact congrArg (fun a : Fin 77824 => ix3 a _ _) (Fin.ext (by show r.val / 256 * 256 + r.val % 256 = r.val; omega))
  · funext k f
    exact first_at _ _ _ _ _ _ hb
  · funext f
    exact firstBias_at _ _ _ _ _ hb

end Cert.ExpertsReferenceIdeal.Blocks

namespace Cert.Pre_blocks_have_experts

open Idealize.ShloMosaic hiding ix1 ix2 ix3 ix4
open Idealize.ShloMosaic.ValueIdx (ix1 ix2 ix3 ix4)

theorem facts : Facts where
  bcast_S_S304 := by decide

/-- The precondition says that every block's expert is one of the 32. -/
theorem experts [Facts] {F : FTy → Type} [FloatOps F] (A0 : IVec S304 32) (A1 : IVec S1 32) (A2 : FVec F S77824x8x128 .f32) (A3 : FVec F S2x32x1024x2048 .f32)
    (A4 : FVec F S2x32x2048 .f32) (A5 : FVec F S2x32x1024x1024 .f32) (A6 : FVec F S2x32x1024 .f32)
    (e : fn (F := F) A0 A1 A2 A3 A4 A5 A6 = fun _ => 1#1) (t : Fin 304) : (A0 (ix1 t)).toNat < 32 := by
  have q : IntOp.andi (IntOp.cmpi .sge (A0 (ix1 t)) 0#32) (IntOp.cmpi .slt (A0 (ix1 t)) 32#32) = 1#1 := congrFun e (ix1 t)
  have bit : ∀ b : Bool, BitVec.ofBool b = 1#1 ↔ b = true := by decide
  have q := (IntOp.andi_eq_one).1 q
  unfold IntOp.cmpi at q
  simp only [bit, BitVec.sle_eq_decide, BitVec.slt_eq_decide, decide_eq_true_eq] at q
  have h0 : (0#32 : BitVec 32).toInt = 0 := by decide
  have h1 : (32#32 : BitVec 32).toInt = 32 := by decide
  rw [h0, h1, BitVec.toInt_eq_toNat_cond] at q
  have := (A0 (ix1 t)).isLt
  split at q <;> omega

end Cert.Pre_blocks_have_experts

end
-- ==== Proof.InprojReference.lean ====
/- The tokens' projections' reference, over the extended reals: its operations in a few named pieces, each read at an element. -/
module

public import proofs.«01_k».proof.Proof.Gen.InprojReferenceIdeal.Run
public import proofs.«01_k».proof.Proof.InprojSpec
public import Idealize.ShloMosaic.Lib.ValueIdxCore

@[expose] public section

set_option maxRecDepth 16384

noncomputable section

namespace Cert.InprojReferenceIdeal.Blocks

open Cert.InprojReferenceIdeal Cert.InprojReferenceIdeal.Gen
open Idealize.ShloMosaic hiding ix1 ix2 ix3 ix4
open Idealize.ShloMosaic.TcCoe
open Idealize.SL.Sem
open Idealize.ShloMosaic.ValueIdx (ix1 ix2 ix3 ix4)

/-! ## The pieces -/

/-- Every token's modulated row. -/
def modulated (A0 : FVec Ideal S4x4096x1024 .f32) (A1 : FVec Ideal S1024 .f32) (A2 A3 : FVec Ideal S4x1024 .f32) : FVec Ideal S4x4096x1024 .f32 :=
  addf (mulf (mulf (mulf A0 (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf A0 A0) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 A1)))
      (broadcastInDim S4x4096x1024 ![0, 1, 2] bcast_S4x1x1024_S4x4096x1024_0_1_2 (addf (broadcastInDim S4x1x1024 ![] bcast_S_S4x1x1024 (constant S_ .f32 0x3F800000#32))
        (broadcastInDim S4x1x1024 ![0, 2] bcast_S4x1024_S4x1x1024_0_2 A3))))
    (broadcastInDim S4x4096x1024 ![0, 1, 2] bcast_S4x1x1024_S4x4096x1024_0_1_2 (broadcastInDim S4x1x1024 ![0, 2] bcast_S4x1024_S4x1x1024_0_2 A2))

/-- The projection onto all the columns. -/
def projected (A0 : FVec Ideal S4x4096x1024 .f32) (A1 : FVec Ideal S1024 .f32) (A2 A3 : FVec Ideal S4x1024 .f32) (A4 : FVec Ideal S1024x3008 .f32) : FVec Ideal S4x4096x3008 .f32 :=
  Host.dotGeneral dot_S4x4096x1024_S1024x3008_S4x4096x3008_2_0_01_1_n_n none (modulated A0 A1 A2 A3) A4

/-- The convolutions' columns, the first half convolved and the second half the gate. -/
def first (P : FVec Ideal S4x4096x3008 .f32) : FVec Ideal S4x4096x256 .f32 :=
  extractStridedSlice S4x4096x256 ![0, 0, 0] (extractStridedSlice S4x4096x512 ![0, 0, 0] P slices_S4x4096x3008_S4x4096x512_0_0_0) slices_S4x4096x512_S4x4096x256_0_0_0
def second (P : FVec Ideal S4x4096x3008 .f32) : FVec Ideal S4x4096x256 .f32 :=
  extractStridedSlice S4x4096x256 ![0, 0, 256] (extractStridedSlice S4x4096x512 ![0, 0, 0] P slices_S4x4096x3008_S4x4096x512_0_0_0) slices_S4x4096x512_S4x4096x256_0_0_256

/-- Three rows of zeros before the sequence, and after it. -/
def past (f : FVec Ideal S4x4096x256 .f32) : FVec Ideal S4x4099x256 .f32 :=
  pad S4x4099x256 ![0, 3, 0] ![0, 0, 0] ![0, 0, 0] f (sitofp .f32 (constantI S_ 32 0#32)) pads_S4x4096x256_S4x4099x256_000_300_000 h_S_
def future (f : FVec Ideal S4x4096x256 .f32) : FVec Ideal S4x4099x256 .f32 :=
  pad S4x4099x256 ![0, 0, 0] ![0, 3, 0] ![0, 0, 0] f (sitofp .f32 (constantI S_ 32 0#32)) pads_S4x4096x256_S4x4099x256_000_030_000 h_S_

/-- A weighted sum of four shifted sequences, and a bias. -/
def tap (w : FVec Ideal S1x1x256 .f32) (f : FVec Ideal S4x4096x256 .f32) : FVec Ideal S4x4096x256 .f32 :=
  mulf (broadcastInDim S4x4096x256 ![0, 1, 2] bcast_S1x1x256_S4x4096x256_0_1_2 (broadcastInDim S1x1x256 ![2] bcast_S256_S1x1x256_2 (shapeCast _ w shapeCasts_S1x1x256_S256))) f
def convolved (t0 t1 t2 t3 : FVec Ideal S4x4096x256 .f32) (b : FVec Ideal S1x256 .f32) : FVec Ideal S4x4096x256 .f32 :=
  addf (addf (addf (addf (addf (broadcastInDim S4x4096x256 ![] bcast_S_S4x4096x256 (constant S_ .f32 0x00000000#32)) t0) t1) t2) t3)
    (broadcastInDim S4x4096x256 ![0, 1, 2] bcast_S1x1x256_S4x4096x256_0_1_2 (broadcastInDim S1x1x256 ![2] bcast_S256_S1x1x256_2 (shapeCast _ b shapeCasts_S1x256_S256)))

def forwards (f : FVec Ideal S4x4096x256 .f32) (A5 : FVec Ideal S2x4x256 .f32) (A6 : FVec Ideal S2x256 .f32) : FVec Ideal S4x4096x256 .f32 :=
  convolved
    (tap (extractStridedSlice S1x1x256 ![0, 0, 0] A5 slices_S2x4x256_S1x1x256_0_0_0) (extractStridedSlice S4x4096x256 ![0, 3, 0] (past f) slices_S4x4099x256_S4x4096x256_0_3_0))
    (tap (extractStridedSlice S1x1x256 ![0, 1, 0] A5 slices_S2x4x256_S1x1x256_0_1_0) (extractStridedSlice S4x4096x256 ![0, 2, 0] (past f) slices_S4x4099x256_S4x4096x256_0_2_0))
    (tap (extractStridedSlice S1x1x256 ![0, 2, 0] A5 slices_S2x4x256_S1x1x256_0_2_0) (extractStridedSlice S4x4096x256 ![0, 1, 0] (past f) slices_S4x4099x256_S4x4096x256_0_1_0))
    (tap (extractStridedSlice S1x1x256 ![0, 3, 0] A5 slices_S2x4x256_S1x1x256_0_3_0) (extractStridedSlice S4x4096x256 ![0, 0, 0] (past f) slices_S4x4099x256_S4x4096x256_0_0_0))
    (extractStridedSlice S1x256 ![0, 0] A6 slices_S2x256_S1x256_0_0)
def backwards (f : FVec Ideal S4x4096x256 .f32) (A5 : FVec Ideal S2x4x256 .f32) (A6 : FVec Ideal S2x256 .f32) : FVec Ideal S4x4096x256 .f32 :=
  convolved
    (tap (extractStridedSlice S1x1x256 ![1, 0, 0] A5 slices_S2x4x256_S1x1x256_1_0_0) (extractStridedSlice S4x4096x256 ![0, 0, 0] (future f) slices_S4x4099x256_S4x4096x256_0_0_0))
    (tap (extractStridedSlice S1x1x256 ![1, 1, 0] A5 slices_S2x4x256_S1x1x256_1_1_0) (extractStridedSlice S4x4096x256 ![0, 1, 0] (future f) slices_S4x4099x256_S4x4096x256_0_1_0))
    (tap (extractStridedSlice S1x1x256 ![1, 2, 0] A5 slices_S2x4x256_S1x1x256_1_2_0) (extractStridedSlice S4x4096x256 ![0, 2, 0] (future f) slices_S4x4099x256_S4x4096x256_0_2_0))
    (tap (extractStridedSlice S1x1x256 ![1, 3, 0] A5 slices_S2x4x256_S1x1x256_1_3_0) (extractStridedSlice S4x4096x256 ![0, 3, 0] (future f) slices_S4x4099x256_S4x4096x256_0_3_0))
    (extractStridedSlice S1x256 ![1, 0] A6 slices_S2x256_S1x256_1_0)

/-- The token shift's columns, the sequence moved by one row either way, and the shift. -/
def middle (P : FVec Ideal S4x4096x3008 .f32) : FVec Ideal S4x4096x960 .f32 :=
  extractStridedSlice S4x4096x960 ![0, 0, 512] P slices_S4x4096x3008_S4x4096x960_0_0_512
def previous (f : FVec Ideal S4x4096x960 .f32) : FVec Ideal S4x4096x960 .f32 :=
  pad S4x4096x960 ![0, 1, 0] ![0, 0, 0] ![0, 0, 0] (extractStridedSlice S4x4095x960 ![0, 0, 0] f slices_S4x4096x960_S4x4095x960_0_0_0) (sitofp .f32 (constantI S_ 32 0#32))
    pads_S4x4095x960_S4x4096x960_000_100_000 h_S_
def next (f : FVec Ideal S4x4096x960 .f32) : FVec Ideal S4x4096x960 .f32 :=
  pad S4x4096x960 ![0, 0, 0] ![0, 1, 0] ![0, 0, 0] (extractStridedSlice S4x4095x960 ![0, 1, 0] f slices_S4x4096x960_S4x4095x960_0_1_0) (sitofp .f32 (constantI S_ 32 0#32))
    pads_S4x4095x960_S4x4096x960_000_010_000 h_S_
def shifted (f p n : FVec Ideal S4x4096x960 .f32) (A7 : FVec Ideal S2x960 .f32) : FVec Ideal S4x4096x960 .f32 :=
  addf (addf f (mulf (broadcastInDim S4x4096x960 ![0, 1, 2] bcast_S1x1x960_S4x4096x960_0_1_2 (broadcastInDim S1x1x960 ![2] bcast_S960_S1x1x960_2
      (shapeCast _ (extractStridedSlice S1x960 ![0, 0] A7 slices_S2x960_S1x960_0_0) shapeCasts_S1x960_S960))) (subf p f)))
    (mulf (broadcastInDim S4x4096x960 ![0, 1, 2] bcast_S1x1x960_S4x4096x960_0_1_2 (broadcastInDim S1x1x960 ![2] bcast_S960_S1x1x960_2
      (shapeCast _ (extractStridedSlice S1x960 ![1, 0] A7 slices_S2x960_S1x960_1_0) shapeCasts_S1x960_S960))) (subf n f))

/-- The shift's first columns, and its last with zeros after them. -/
def rows (f : FVec Ideal S4x4096x960 .f32) : FVec Ideal S4x4096x768 .f32 := extractStridedSlice S4x4096x768 ![0, 0, 0] f slices_S4x4096x960_S4x4096x768_0_0_0
def lows (f : FVec Ideal S4x4096x960 .f32) : FVec Ideal S4x4096x256 .f32 :=
  pad S4x4096x256 ![0, 0, 0] ![0, 0, 64] ![0, 0, 0] (extractStridedSlice S4x4096x192 ![0, 0, 768] f slices_S4x4096x960_S4x4096x192_0_0_768) (sitofp .f32 (constantI S_ 32 0#32))
    pads_S4x4096x192_S4x4096x256_000_000_0640 h_S_

/-- The attention's three parts of the last columns. -/
def query (P : FVec Ideal S4x4096x3008 .f32) : FVec Ideal S4x4096x512 .bf16 :=
  truncf .bf16 (mulf (extractStridedSlice S4x4096x512 ![0, 0, 0] (extractStridedSlice S4x4096x1536 ![0, 0, 1472] P slices_S4x4096x3008_S4x4096x1536_0_0_1472)
    slices_S4x4096x1536_S4x4096x512_0_0_0) (broadcastInDim S4x4096x512 ![] bcast_S_S4x4096x512 (constant S_ .f32 0x3E000000#32)))
def key (P : FVec Ideal S4x4096x3008 .f32) : FVec Ideal S4x4096x512 .bf16 :=
  truncf .bf16 (extractStridedSlice S4x4096x512 ![0, 0, 512] (extractStridedSlice S4x4096x1536 ![0, 0, 1472] P slices_S4x4096x3008_S4x4096x1536_0_0_1472)
    slices_S4x4096x1536_S4x4096x512_0_0_512)
def value (P : FVec Ideal S4x4096x3008 .f32) : FVec Ideal S4x4096x512 .bf16 :=
  truncf .bf16 (extractStridedSlice S4x4096x512 ![0, 0, 1024] (extractStridedSlice S4x4096x1536 ![0, 0, 1472] P slices_S4x4096x3008_S4x4096x1536_0_0_1472)
    slices_S4x4096x1536_S4x4096x512_0_0_1024)

/-! ## Each at an element -/

theorem modulated_at (A0 : FVec Ideal S4x4096x1024 .f32) (A1 : FVec Ideal S1024 .f32) (A2 A3 : FVec Ideal S4x1024 .f32) (b : Fin 4) (r : Fin 4096) (k : Fin 1024) :
    modulated A0 A1 A2 A3 (ix3 b r k)
      = TokenProjection.modulated (fun k => A0 (ix3 b r k)) (fun k => A1 (ix1 k)) (fun k => A2 (ix2 b k)) (fun k => A3 (ix2 b k)) k := by
  pointwise [modulated]
  rfl

theorem projected_at (A0 : FVec Ideal S4x4096x1024 .f32) (A1 : FVec Ideal S1024 .f32) (A2 A3 : FVec Ideal S4x1024 .f32) (A4 : FVec Ideal S1024x3008 .f32)
    (b : Fin 4) (r : Fin 4096) (q : Fin 3008) : projected A0 A1 A2 A3 A4 (ix3 b r q) = TokenProjection.along A0 A1 A2 A3 A4 q b r := by
  have h : projected A0 A1 A2 A3 A4 (ix3 b r q) = ∑ k : Fin 1024, (modulated A0 A1 A2 A3 (ix3 b r k) : EReal) * A4 (ix2 k q) := by
    pointwise [projected]
    rfl
  rw [h]
  exact Finset.sum_congr rfl fun k _ => congrArg (fun v : EReal => v * A4 (ix2 k q)) (modulated_at A0 A1 A2 A3 b r k)

theorem tap_at (w : FVec Ideal S1x1x256 .f32) (f : FVec Ideal S4x4096x256 .f32) (b : Fin 4) (r : Fin 4096) (q : Fin 256) :
    tap w f (ix3 b r q) = (w (ix3 (0 : Fin 1) (0 : Fin 1) q) : EReal) * f (ix3 b r q) := by
  pointwise [tap]
  rfl

theorem convolved_at (t0 t1 t2 t3 : FVec Ideal S4x4096x256 .f32) (v : FVec Ideal S1x256 .f32) (b : Fin 4) (r : Fin 4096) (q : Fin 256) :
    convolved t0 t1 t2 t3 v (ix3 b r q)
      = (v (ix2 (0 : Fin 1) q) : EReal) + t0 (ix3 b r q) + t1 (ix3 b r q) + t2 (ix3 b r q) + t3 (ix3 b r q) := by
  have h : convolved t0 t1 t2 t3 v (ix3 b r q)
      = (0 + (t0 (ix3 b r q) : EReal) + t1 (ix3 b r q) + t2 (ix3 b r q) + t3 (ix3 b r q)) + v (ix2 (0 : Fin 1) q) := by
    pointwise [convolved]
    rfl
  rw [h, zero_add, add_comm]
  simp only [add_assoc]

theorem nothing : FloatOps.sitofp (F := Ideal) FTy.f32 (0#32 : BitVec 32) = (0 : EReal) := by
  show (((0#32 : BitVec 32).toInt : ℝ) : EReal) = 0
  simp

theorem past_at (f : FVec Ideal S4x4096x256 .f32) (b : Fin 4) (s : Fin 4099) (q : Fin 256) :
    past f (ix3 b s q) = TokenProjection.around (fun r => (f (ix3 b r q) : EReal)) (5 + s.val) := by
  have h : past f (ix3 b s q) = if h : 3 ≤ s.val ∧ s.val - 3 < 4096 then (f (ix3 b (⟨s.val - 3, h.2⟩ : Fin 4096) q) : EReal) else FloatOps.sitofp (F := Ideal) FTy.f32 (0#32 : BitVec 32) := by
    pointwise [past]
    rfl
  rw [h, nothing]
  split
  next h => exact (TokenProjection.around_of (f := fun r => (f (ix3 b r q) : EReal)) ⟨s.val - 3, h.2⟩ (by dsimp only; omega)).symm
  next h => exact (TokenProjection.around_zero (by omega)).symm

theorem future_at (f : FVec Ideal S4x4096x256 .f32) (b : Fin 4) (s : Fin 4099) (q : Fin 256) :
    future f (ix3 b s q) = TokenProjection.around (fun r => (f (ix3 b r q) : EReal)) (8 + s.val) := by
  have h : future f (ix3 b s q) = if h : s.val < 4096 then (f (ix3 b (⟨s.val, h⟩ : Fin 4096) q) : EReal) else FloatOps.sitofp (F := Ideal) FTy.f32 (0#32 : BitVec 32) := by
    pointwise [future]
    rfl
  rw [h, nothing]
  split
  next h => exact (TokenProjection.around_of (f := fun r => (f (ix3 b r q) : EReal)) ⟨s.val, h⟩ (by dsimp only; omega)).symm
  next h => exact (TokenProjection.around_zero (by omega)).symm

theorem previous_at (f : FVec Ideal S4x4096x960 .f32) (b : Fin 4) (s : Fin 4096) (q : Fin 960) :
    previous f (ix3 b s q) = TokenProjection.around (fun r => (f (ix3 b r q) : EReal)) (7 + s.val) := by
  have h : previous f (ix3 b s q) = if h : 1 ≤ s.val ∧ s.val - 1 < 4095 then (f (ix3 b (⟨s.val - 1, by omega⟩ : Fin 4096) q) : EReal) else FloatOps.sitofp (F := Ideal) FTy.f32 (0#32 : BitVec 32) := by
    pointwise [previous]
    rfl
  rw [h, nothing]
  split
  next h => exact (TokenProjection.around_of (f := fun r => (f (ix3 b r q) : EReal)) ⟨s.val - 1, by omega⟩ (by dsimp only; omega)).symm
  next h => exact (TokenProjection.around_zero (by omega)).symm

theorem next_at (f : FVec Ideal S4x4096x960 .f32) (b : Fin 4) (s : Fin 4096) (q : Fin 960) :
    next f (ix3 b s q) = TokenProjection.around (fun r => (f (ix3 b r q) : EReal)) (9 + s.val) := by
  have h : next f (ix3 b s q) = if h : s.val < 4095 then (f (ix3 b (⟨1 + s.val, by omega⟩ : Fin 4096) q) : EReal) else FloatOps.sitofp (F := Ideal) FTy.f32 (0#32 : BitVec 32) := by
    pointwise [next]
    rfl
  rw [h, nothing]
  split
  next h => exact (TokenProjection.around_of (f := fun r => (f (ix3 b r q) : EReal)) ⟨1 + s.val, by omega⟩ (by dsimp only; omega)).symm
  next h => exact (TokenProjection.around_zero (by omega)).symm

theorem forwards_at (f : FVec Ideal S4x4096x256 .f32) (A5 : FVec Ideal S2x4x256 .f32) (A6 : FVec Ideal S2x256 .f32) (b : Fin 4) (r : Fin 4096) (q : Fin 256) :
    forwards f A5 A6 (ix3 b r q)
      = TokenProjection.before (fun j => A5 (ix3 (0 : Fin 2) j q)) (A6 (ix2 (0 : Fin 2) q)) (fun s => (f (ix3 b s q) : EReal)) r := by
  unfold forwards
  rw [convolved_at, tap_at, tap_at, tap_at, tap_at]
  generalize hp : past f = P
  have hP := fun s => (congrArg (fun g : FVec Ideal S4x4099x256 .f32 => g (ix3 b s q)) hp).symm.trans (past_at f b s q)
  refine Eq.trans (b := (A6 (ix2 (0 : Fin 2) q) : EReal) + A5 (ix3 (0 : Fin 2) (0 : Fin 4) q) * P (ix3 b (⟨3 + r.val, by omega⟩ : Fin 4099) q)
    + A5 (ix3 (0 : Fin 2) (1 : Fin 4) q) * P (ix3 b (⟨2 + r.val, by omega⟩ : Fin 4099) q) + A5 (ix3 (0 : Fin 2) (2 : Fin 4) q) * P (ix3 b (⟨1 + r.val, by omega⟩ : Fin 4099) q)
    + A5 (ix3 (0 : Fin 2) (3 : Fin 4) q) * P (ix3 b (⟨r.val, by omega⟩ : Fin 4099) q)) ?_ ?_
  · pointwise
    rfl
  · rw [hP, hP, hP, hP]
    unfold TokenProjection.before
    simp only [← Nat.add_assoc, Nat.reduceAdd]

theorem backwards_at (f : FVec Ideal S4x4096x256 .f32) (A5 : FVec Ideal S2x4x256 .f32) (A6 : FVec Ideal S2x256 .f32) (b : Fin 4) (r : Fin 4096) (q : Fin 256) :
    backwards f A5 A6 (ix3 b r q)
      = TokenProjection.after (fun j => A5 (ix3 (1 : Fin 2) j q)) (A6 (ix2 (1 : Fin 2) q)) (fun s => (f (ix3 b s q) : EReal)) r := by
  unfold backwards
  rw [convolved_at, tap_at, tap_at, tap_at, tap_at]
  generalize hp : future f = P
  have hP := fun s => (congrArg (fun g : FVec Ideal S4x4099x256 .f32 => g (ix3 b s q)) hp).symm.trans (future_at f b s q)
  refine Eq.trans (b := (A6 (ix2 (1 : Fin 2) q) : EReal) + A5 (ix3 (1 : Fin 2) (0 : Fin 4) q) * P (ix3 b (⟨r.val, by omega⟩ : Fin 4099) q)
    + A5 (ix3 (1 : Fin 2) (1 : Fin 4) q) * P (ix3 b (⟨1 + r.val, by omega⟩ : Fin 4099) q) + A5 (ix3 (1 : Fin 2) (2 : Fin 4) q) * P (ix3 b (⟨2 + r.val, by omega⟩ : Fin 4099) q)
    + A5 (ix3 (1 : Fin 2) (3 : Fin 4) q) * P (ix3 b (⟨3 + r.val, by omega⟩ : Fin 4099) q)) ?_ ?_
  · pointwise
    rfl
  · rw [hP, hP, hP, hP]
    unfold TokenProjection.after
    simp only [← Nat.add_assoc, Nat.reduceAdd]

theorem shifted_at (f : FVec Ideal S4x4096x960 .f32) (A7 : FVec Ideal S2x960 .f32) (b : Fin 4) (r : Fin 4096) (q : Fin 960) :
    shifted f (previous f) (next f) A7 (ix3 b r q)
      = TokenProjection.shifted (A7 (ix2 (0 : Fin 2) q)) (A7 (ix2 (1 : Fin 2) q)) (fun s => (f (ix3 b s q) : EReal)) r := by
  have h : ∀ p n : FVec Ideal S4x4096x960 .f32, shifted f p n A7 (ix3 b r q)
      = (f (ix3 b r q) : EReal) + A7 (ix2 (0 : Fin 2) q) * ((p (ix3 b r q) : EReal) - f (ix3 b r q)) + A7 (ix2 (1 : Fin 2) q) * ((n (ix3 b r q) : EReal) - f (ix3 b r q)) := fun p n => by
    pointwise [shifted]
    rfl
  rw [h, previous_at, next_at]
  unfold TokenProjection.shifted
  rw [TokenProjection.around_of r (Nat.add_comm 8 r.val)]

/-! ## The eight results -/

variable (A0 : FVec Ideal S4x4096x1024 .f32) (A1 : FVec Ideal S1024 .f32) (A2 A3 : FVec Ideal S4x1024 .f32) (A4 : FVec Ideal S1024x3008 .f32)
  (A5 : FVec Ideal S2x4x256 .f32) (A6 : FVec Ideal S2x256 .f32) (A7 : FVec Ideal S2x960 .f32)

theorem first_at (P : FVec Ideal S4x4096x3008 .f32) (b : Fin 4) (r : Fin 4096) (q : Fin 256) : first P (ix3 b r q) = P (ix3 b r (⟨q.val, by omega⟩ : Fin 3008)) := by
  pointwise [first]
  rfl

theorem second_at (P : FVec Ideal S4x4096x3008 .f32) (b : Fin 4) (r : Fin 4096) (q : Fin 256) : second P (ix3 b r q) = P (ix3 b r (⟨256 + q.val, by omega⟩ : Fin 3008)) := by
  pointwise [second]
  rfl

theorem middle_at (P : FVec Ideal S4x4096x3008 .f32) (b : Fin 4) (r : Fin 4096) (q : Fin 960) : middle P (ix3 b r q) = P (ix3 b r (⟨512 + q.val, by omega⟩ : Fin 3008)) := by
  pointwise [middle]
  rfl

theorem query_at (P : FVec Ideal S4x4096x3008 .f32) (b : Fin 4) (r : Fin 4096) (q : Fin 512) :
    query P (ix3 b r q) = (P (ix3 b r (⟨1472 + q.val, by omega⟩ : Fin 3008)) : EReal) * Ideal.ofBits FTy.f32 1040187392#32 := by
  pointwise [query]
  rfl

theorem key_at (P : FVec Ideal S4x4096x3008 .f32) (b : Fin 4) (r : Fin 4096) (q : Fin 512) : key P (ix3 b r q) = (P (ix3 b r (⟨1984 + q.val, by omega⟩ : Fin 3008)) : EReal) := by
  refine Eq.trans (b := (P (ix3 b r (⟨1472 + (512 + q.val), by omega⟩ : Fin 3008)) : EReal)) ?_ (congrArg (fun j => (P (ix3 b r j) : EReal)) (Fin.ext (by dsimp only; omega)))
  pointwise [key]
  rfl

theorem value_at (P : FVec Ideal S4x4096x3008 .f32) (b : Fin 4) (r : Fin 4096) (q : Fin 512) : value P (ix3 b r q) = (P (ix3 b r (⟨2496 + q.val, by omega⟩ : Fin 3008)) : EReal) := by
  refine Eq.trans (b := (P (ix3 b r (⟨1472 + (1024 + q.val), by omega⟩ : Fin 3008)) : EReal)) ?_ (congrArg (fun j => (P (ix3 b r j) : EReal)) (Fin.ext (by dsimp only; omega)))
  pointwise [value]
  rfl

theorem rows_at (f : FVec Ideal S4x4096x960 .f32) (b : Fin 4) (r : Fin 4096) (q : Fin 768) : rows f (ix3 b r q) = f (ix3 b r (⟨q.val, by omega⟩ : Fin 960)) := by
  pointwise [rows]
  rfl

theorem lows_at (f : FVec Ideal S4x4096x960 .f32) (b : Fin 4) (r : Fin 4096) (q : Fin 256) :
    lows f (ix3 b r q) = if h : q.val < 192 then (f (ix3 b r (⟨768 + q.val, by omega⟩ : Fin 960)) : EReal) else 0 := by
  rw [← nothing]
  pointwise [lows]
  rfl

/-- A sequence's shift, at one of its columns. -/
theorem mixed_at (b : Fin 4) (r : Fin 4096) (q : Fin 960) :
    shifted (middle (projected A0 A1 A2 A3 A4)) (previous (middle (projected A0 A1 A2 A3 A4))) (next (middle (projected A0 A1 A2 A3 A4))) A7 (ix3 b r q)
      = TokenProjection.mixed A0 A1 A2 A3 A4 A7 q b r :=
  (shifted_at _ A7 b r q).trans (congrArg (fun f => TokenProjection.shifted (A7 (ix2 (0 : Fin 2) q)) (A7 (ix2 (1 : Fin 2) q)) f r)
    (funext fun s => (middle_at _ b s q).trans (projected_at A0 A1 A2 A3 A4 b s _)))

theorem forwards_eq : forwards (first (projected A0 A1 A2 A3 A4)) A5 A6 = TokenProjection.forward A0 A1 A2 A3 A4 A5 A6 := by
  funext y
  rw [ValueIdx.eq_ix3 y]
  exact (forwards_at _ A5 A6 (y 0) (y 1) (y 2)).trans (congrArg (fun f => TokenProjection.before (fun j => A5 (ix3 (0 : Fin 2) j (y 2))) (A6 (ix2 (0 : Fin 2) (y 2))) f (y 1))
    (funext fun s => (first_at _ (y 0) s (y 2)).trans (projected_at A0 A1 A2 A3 A4 (y 0) s _)))

theorem backwards_eq : backwards (first (projected A0 A1 A2 A3 A4)) A5 A6 = TokenProjection.backward A0 A1 A2 A3 A4 A5 A6 := by
  funext y
  rw [ValueIdx.eq_ix3 y]
  exact (backwards_at _ A5 A6 (y 0) (y 1) (y 2)).trans (congrArg (fun f => TokenProjection.after (fun j => A5 (ix3 (1 : Fin 2) j (y 2))) (A6 (ix2 (1 : Fin 2) (y 2))) f (y 1))
    (funext fun s => (first_at _ (y 0) s (y 2)).trans (projected_at A0 A1 A2 A3 A4 (y 0) s _)))

theorem second_eq : second (projected A0 A1 A2 A3 A4) = TokenProjection.gate A0 A1 A2 A3 A4 := by
  funext y
  rw [ValueIdx.eq_ix3 y]
  exact (second_at _ (y 0) (y 1) (y 2)).trans (projected_at A0 A1 A2 A3 A4 (y 0) (y 1) _)

theorem rows_eq : rows (shifted (middle (projected A0 A1 A2 A3 A4)) (previous (middle (projected A0 A1 A2 A3 A4))) (next (middle (projected A0 A1 A2 A3 A4))) A7)
    = TokenProjection.rows A0 A1 A2 A3 A4 A7 := by
  funext y
  rw [ValueIdx.eq_ix3 y]
  exact (rows_at _ (y 0) (y 1) (y 2)).trans (mixed_at A0 A1 A2 A3 A4 A7 (y 0) (y 1) _)

theorem lows_eq : lows (shifted (middle (projected A0 A1 A2 A3 A4)) (previous (middle (projected A0 A1 A2 A3 A4))) (next (middle (projected A0 A1 A2 A3 A4))) A7)
    = TokenProjection.lows A0 A1 A2 A3 A4 A7 := by
  funext y
  refine (congrArg (lows _) (ValueIdx.eq_ix3 y)).trans ((lows_at _ (y 0) (y 1) (y 2)).trans ?_)
  unfold TokenProjection.lows
  split
  · exact mixed_at A0 A1 A2 A3 A4 A7 (y 0) (y 1) _
  · rfl

theorem query_eq : query (projected A0 A1 A2 A3 A4) = TokenProjection.query A0 A1 A2 A3 A4 := by
  funext y
  rw [ValueIdx.eq_ix3 y]
  exact (query_at _ (y 0) (y 1) (y 2)).trans (congrArg (fun v : EReal => v * Ideal.ofBits FTy.f32 1040187392#32) (projected_at A0 A1 A2 A3 A4 (y 0) (y 1) _))

theorem key_eq : key (projected A0 A1 A2 A3 A4) = TokenProjection.key A0 A1 A2 A3 A4 := by
  funext y
  rw [ValueIdx.eq_ix3 y]
  exact (key_at _ (y 0) (y 1) (y 2)).trans (projected_at A0 A1 A2 A3 A4 (y 0) (y 1) _)

theorem value_eq : value (projected A0 A1 A2 A3 A4) = TokenProjection.value A0 A1 A2 A3 A4 := by
  funext y
  rw [ValueIdx.eq_ix3 y]
  exact (value_at _ (y 0) (y 1) (y 2)).trans (projected_at A0 A1 A2 A3 A4 (y 0) (y 1) _)

/-! ## The program's results -/

variable (m : (ℓ : Loc nD τ sig) → Buf (Elt Ideal) ℓ)

/-- The columns of a run's arguments. -/
abbrev columns (c : Dev nD) : FVec Ideal S4x4096x3008 .f32 :=
  projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem result_62 (c : Dev nD) : Value.res_main_v62 m c = forwards (first (columns m c)) (m ((c.tc : Thread nD τ).loc main_arg5)) (m ((c.tc : Thread nD τ).loc main_arg6)) := rfl

theorem result_96 (c : Dev nD) : Value.res_main_v96 m c = backwards (first (columns m c)) (m ((c.tc : Thread nD τ).loc main_arg5)) (m ((c.tc : Thread nD τ).loc main_arg6)) := rfl

theorem result_115 (c : Dev nD) : Value.res_main_v115 m c
    = rows (shifted (middle (columns m c)) (previous (middle (columns m c))) (next (middle (columns m c))) (m ((c.tc : Thread nD τ).loc main_arg7))) := rfl

theorem result_117 (c : Dev nD) : Value.res_main_v117 m c
    = lows (shifted (middle (columns m c)) (previous (middle (columns m c))) (next (middle (columns m c))) (m ((c.tc : Thread nD τ).loc main_arg7))) := rfl

/-- The run: the eight results, and the arguments kept. -/
theorem run_result (ρ : Dev nD → PrngReg) : θ_run (defs (F := Ideal)) (onTc (τ := τ) (main (F := Ideal))) ⟨m, fun _ => 0, ρ⟩ fun r => ∀ c : Dev nD,
      r.2.mem ((c.tc : Thread nD τ).loc main_v62)
        = TokenProjection.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v96)
        = TokenProjection.backward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v26)
        = TokenProjection.gate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v115)
        = TokenProjection.rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v117)
        = TokenProjection.lows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v123)
        = TokenProjection.query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v124)
        = TokenProjection.key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v125)
        = TokenProjection.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨h0, h1, h2, h3, h4, h5, h6, h7, hk⟩ := h c
    exact ⟨h0.trans ((result_62 m c).trans (forwards_eq _ _ _ _ _ _ _)), h1.trans ((result_96 m c).trans (backwards_eq _ _ _ _ _ _ _)),
      h2.trans (second_eq _ _ _ _ _), h3.trans ((result_115 m c).trans (rows_eq _ _ _ _ _ _)), h4.trans ((result_117 m c).trans (lows_eq _ _ _ _ _ _)),
      h5.trans (query_eq _ _ _ _ _), h6.trans (key_eq _ _ _ _ _), h7.trans (value_eq _ _ _ _ _), hk⟩) (Value.run m ρ)

end Cert.InprojReferenceIdeal.Blocks

end
-- ==== Proof.OutprojSpec.lean ====
/- The mixers' outputs' projection, its norm and the experts' scores as plain formulas over the extended reals, of one token's rows. -/
module

public import Idealize.ShloMosaic.PureOps.Ideal
public import Idealize.ShloMosaic.Lib.Pointwise
public import Idealize.ShloMosaic.Lib.Pipeline.ValueKit.Acc

@[expose] public section

noncomputable section

namespace Cert.TokenOutput

open Idealize.ShloMosaic hiding ix1 ix2 ix3 ix4
open Idealize.ShloMosaic.ValueIdx (ix1 ix2 ix3 ix4)

/-- What the projection reads of a token. -/
structure Token where
  x : Fin 1024 → EReal
  hf : Fin 256 → EReal
  hb : Fin 256 → EReal
  ga : Fin 256 → EReal
  yf : Fin 256 → EReal
  yb : Fin 256 → EReal
  bvf : Fin 256 → EReal
  bvb : Fin 256 → EReal
  lo : Fin 256 → EReal
  yc : Fin 512 → EReal
  gate : Fin 1024 → EReal
  shift : Fin 1024 → EReal
  scale : Fin 1024 → EReal

/-- What every token is multiplied by. -/
structure Weights where
  wo : Fin 1024 → Fin 1024 → EReal
  g2 : Fin 64 → Fin 256 → EReal
  lng : Fin 256 → EReal
  lnb : Fin 256 → EReal
  g : Fin 1024 → EReal
  router : Fin 1024 → Fin 32 → EReal
  bias : Fin 32 → EReal

/-- The first mixer's output, gated. -/
def first (s : Token) (q : Fin 256) : EReal :=
  s.ga q * (Ideal.ofBits FTy.f32 0x3F000000#32 * (1 + Ideal.tanh (Ideal.ofBits FTy.f32 0x3F4C422A#32
    * (s.ga q + Ideal.ofBits FTy.f32 0x3D372713#32 * (s.ga q * (s.ga q * s.ga q)))))) * (s.hf q + s.hb q)

/-- The mean over the 64 channels of a channel's head, a row less its means, and that over its standard deviation. -/
def mean (y : Fin 256 → EReal) (q : Fin 256) : EReal :=
  Ideal.div (∑ j : Fin 64, y ⟨64 * (q.val / 64) + j.val, by omega⟩) (Ideal.ofBits FTy.f32 0x42800000#32)
def centred (y : Fin 256 → EReal) (q : Fin 256) : EReal := y q - mean y q
def normed (y : Fin 256 → EReal) (q : Fin 256) : EReal :=
  centred y q * Ideal.rsqrt (mean (fun k => centred y k * centred y k) q + Ideal.ofBits FTy.f32 0x3A27C5AC#32)

/-- The second mixer's gate, and its output normed and gated. -/
def gating (s : Token) (w : Weights) (q : Fin 256) : EReal := ∑ k : Fin 64, Ideal.logistic (s.lo ⟨128 + k.val, by omega⟩) * w.g2 k q
def second (s : Token) (w : Weights) (q : Fin 256) : EReal :=
  (normed (fun k => s.yf k + s.yb k) q * w.lng q + w.lnb q + s.bvf q + s.bvb q) * gating s w q

/-- The three mixers' outputs side by side. -/
def joined (s : Token) (w : Weights) (k : Fin 1024) : EReal :=
  if h : k.val < 256 then first s ⟨k.val, h⟩
  else if h' : k.val - 256 < 256 then second s w ⟨k.val - 256, h'⟩
  else s.yc ⟨k.val - 256 - 256, by omega⟩

/-- The token the projection leaves, the token modulated for the experts, and its scores of them. -/
def left (s : Token) (w : Weights) (n : Fin 1024) : EReal := s.x n + s.gate n * ∑ k, joined s w k * w.wo k n
def ready (s : Token) (w : Weights) (n : Fin 1024) : EReal :=
  left s w n * Ideal.rsqrt (Ideal.div (∑ j, left s w j * left s w j) (Ideal.ofBits FTy.f32 0x44800000#32) + Ideal.ofBits FTy.f32 0x358637BD#32) * w.g n
    * (1 + s.scale n) + s.shift n
def score (s : Token) (w : Weights) (e : Fin 32) : EReal := ∑ k, ready s w k * w.router k e + w.bias e

/-! ## Finite values -/

def Finite (x : EReal) : Prop := ∃ r : ℝ, x = r

theorem Finite.add {x y : EReal} (hx : Finite x) (hy : Finite y) : Finite (x + y) := by
  obtain ⟨a, rfl⟩ := hx
  obtain ⟨b, rfl⟩ := hy
  exact ⟨a + b, by norm_cast⟩

theorem Finite.sub {x y : EReal} (hx : Finite x) (hy : Finite y) : Finite (x - y) := by
  obtain ⟨a, rfl⟩ := hx
  obtain ⟨b, rfl⟩ := hy
  exact ⟨a - b, by norm_cast⟩

theorem Finite.mul {x y : EReal} (hx : Finite x) (hy : Finite y) : Finite (x * y) := by
  obtain ⟨a, rfl⟩ := hx
  obtain ⟨b, rfl⟩ := hy
  exact ⟨a * b, by norm_cast⟩

theorem coe_sum {ι : Type} (s : Finset ι) (f : ι → ℝ) : ((∑ i ∈ s, f i : ℝ) : EReal) = ∑ i ∈ s, (f i : EReal) := by
  classical
  induction s using Finset.induction_on with
  | empty => simp
  | insert a s ha h => rw [Finset.sum_insert ha, Finset.sum_insert ha, EReal.coe_add, h]

theorem Finite.sum {ι : Type} {s : Finset ι} {f : ι → EReal} (h : ∀ i, Finite (f i)) : Finite (∑ i ∈ s, f i) := by
  choose g hg using h
  exact ⟨∑ i ∈ s, g i, by rw [coe_sum]; exact Finset.sum_congr rfl fun i _ => hg i⟩

/-- A finite value less itself is nothing. -/
theorem Finite.less {x : EReal} (h : Finite x) : x - x = 0 := by
  obtain ⟨a, rfl⟩ := h
  rw [← EReal.coe_sub, sub_self, EReal.coe_zero]

theorem Finite.one : Finite 1 := ⟨1, by norm_cast⟩

theorem Finite.tanh {x : EReal} (h : Finite x) : Finite (Ideal.tanh x) := by
  obtain ⟨a, rfl⟩ := h
  exact ⟨Real.tanh a, rfl⟩

theorem bits_64 : Ideal.ofBits FTy.f32 0x42800000#32 = ((64 : ℝ) : EReal) := by
  simp [Ideal.ofBits, Ideal.ieee, -EReal.coe_mul]; norm_num
theorem bits_1024 : Ideal.ofBits FTy.f32 0x44800000#32 = ((1024 : ℝ) : EReal) := by
  simp [Ideal.ofBits, Ideal.ieee, -EReal.coe_mul]; norm_num
theorem bits_part : Ideal.ofBits FTy.f32 0x3C800000#32 = ((1 / 64 : ℝ) : EReal) := by
  simp [Ideal.ofBits, Ideal.ieee, -EReal.coe_mul]; norm_num
theorem bits_half : Finite (Ideal.ofBits FTy.f32 0x3F000000#32) := by
  simp only [Ideal.ofBits, Ideal.ieee]; exact ⟨_, by norm_num; rfl⟩

theorem bits_cube : Finite (Ideal.ofBits FTy.f32 0x3D372713#32) := by
  simp only [Ideal.ofBits, Ideal.ieee]; exact ⟨_, by norm_num; rfl⟩
theorem bits_slope : Finite (Ideal.ofBits FTy.f32 0x3F4C422A#32) := by
  simp only [Ideal.ofBits, Ideal.ieee]; exact ⟨_, by norm_num; rfl⟩

/-- A finite value at least zero, and one above it. -/
def AtLeast (x : EReal) : Prop := ∃ r : ℝ, 0 ≤ r ∧ x = r
def Above (x : EReal) : Prop := ∃ r : ℝ, 0 < r ∧ x = r

theorem AtLeast.square {x : EReal} (h : Finite x) : AtLeast (x * x) := by
  obtain ⟨a, rfl⟩ := h
  exact ⟨a * a, mul_self_nonneg a, by norm_cast⟩

theorem AtLeast.sum {ι : Type} {s : Finset ι} {f : ι → EReal} (h : ∀ i, AtLeast (f i)) : AtLeast (∑ i ∈ s, f i) := by
  choose g hg using h
  exact ⟨∑ i ∈ s, g i, Finset.sum_nonneg fun i _ => (hg i).1, by rw [coe_sum]; exact Finset.sum_congr rfl fun i _ => (hg i).2⟩

theorem AtLeast.add_above {x y : EReal} (hx : AtLeast x) (hy : Above y) : Above (x + y) := by
  obtain ⟨a, ha, rfl⟩ := hx
  obtain ⟨b, hb, rfl⟩ := hy
  exact ⟨a + b, by positivity, by norm_cast⟩

theorem Above.rsqrt {x : EReal} (h : Above x) : Finite (Ideal.rsqrt x) := by
  obtain ⟨a, ha, rfl⟩ := h
  refine ⟨(Real.sqrt a)⁻¹, ?_⟩
  show (if a < 0 then (⊥ : EReal) else if a = 0 then ⊤ else ((Real.sqrt a)⁻¹ : ℝ)) = _
  rw [if_neg ha.not_gt, if_neg ha.ne']

theorem bits_eps : Above (Ideal.ofBits FTy.f32 0x358637BD#32) := by
  refine ⟨8796093 * 2 ^ (-43 : ℤ), by positivity, ?_⟩
  simp [Ideal.ofBits, Ideal.ieee, -EReal.coe_mul]
theorem bits_eps' : Above (Ideal.ofBits FTy.f32 0x3A27C5AC#32) := by
  refine ⟨10995116 * 2 ^ (-34 : ℤ), by positivity, ?_⟩
  simp [Ideal.ofBits, Ideal.ieee, -EReal.coe_mul]

theorem Finite.div {x : EReal} (h : Finite x) {n : ℝ} (hn : n ≠ 0) : Finite (Ideal.div x n) := by
  rw [Ideal.div_coe hn]
  exact h.mul ⟨_, rfl⟩

theorem AtLeast.div {x : EReal} (h : AtLeast x) {n : ℝ} (hn : 0 < n) : AtLeast (Ideal.div x n) := by
  obtain ⟨a, ha, rfl⟩ := h
  rw [Ideal.div_coe hn.ne']
  exact ⟨a * (1 / n), by positivity, by norm_cast⟩

theorem logistic_finite (x : EReal) : Finite (Ideal.logistic x) := by
  induction x with
  | bot => exact ⟨0, by simp⟩
  | top => exact ⟨1, by simp⟩
  | coe r =>
    have e : Ideal.logistic r = Ideal.div 1 ((1 + Real.exp (-r) : ℝ) : EReal) := by
      rw [EReal.coe_add]; rfl
    rw [e]
    exact Finite.one.div (by positivity)

/-! ## The kernel's sums -/

/-- A row times a table, the row split into terms of which all but the first are nothing. -/
theorem split_two {ι : Type} [Fintype ι] (v a : ι → EReal) (h : ∀ k, Finite (v k)) :
    ∑ k, v k * a k + ∑ k, (v k - v k) * a k = ∑ k, v k * a k := by
  simp only [fun k => (h k).less, zero_mul, Finset.sum_const_zero, add_zero]

theorem split_three {ι : Type} [Fintype ι] (v a : ι → EReal) (h : ∀ k, Finite (v k)) :
    ∑ k, v k * a k + ∑ k, (v k - v k) * a k + ∑ k, (v k - v k - (v k - v k)) * a k = ∑ k, v k * a k := by
  simp only [fun k => (h k).less, sub_zero, zero_mul, Finset.sum_const_zero, add_zero]

/-- Both a row and a table split so. -/
theorem split_both {ι : Type} [Fintype ι] (v a : ι → EReal) (h : ∀ k, Finite (v k)) (h' : ∀ k, Finite (a k)) :
    ∑ k, v k * a k + ∑ k, v k * (a k - a k) + ∑ k, (v k - v k) * a k = ∑ k, v k * a k := by
  simp only [fun k => (h k).less, fun k => (h' k).less, mul_zero, zero_mul, Finset.sum_const_zero, add_zero]

/-- A row times the table that averages over each head is the row's means. -/
theorem averaged (y : Fin 256 → EReal) (q : Fin 256) (h : ∀ k, Finite (y k)) :
    ∑ k : Fin 256, y k * (if k.val / 64 = q.val / 64 then Ideal.ofBits FTy.f32 0x3C800000#32 else 0) = mean y q := by
  choose f hf using h
  unfold mean
  rw [bits_64, Ideal.div_coe (by norm_num), bits_part]
  have e : ∀ k : Fin 256, y k * (if k.val / 64 = q.val / 64 then ((1 / 64 : ℝ) : EReal) else 0)
      = ((f k * (if k.val / 64 = q.val / 64 then 1 / 64 else 0) : ℝ) : EReal) := fun k => by
    rw [hf k]
    split <;> norm_cast
  simp only [e]
  rw [← coe_sum, Finset.sum_congr rfl fun j _ => hf _, ← coe_sum, ← EReal.coe_mul]
  congr 1
  rw [← Fin.sum_mul_add_fin (L := 256) 4 64 _, Finset.sum_mul, Finset.sum_eq_single (⟨q.val / 64, by omega⟩ : Fin 4)]
  · refine Finset.sum_congr rfl fun j _ => ?_
    rw [if_pos (by dsimp only; omega)]
    exact congrArg (fun k : Fin 256 => f k * (1 / 64)) (Fin.ext (by dsimp only; omega))
  · intro i _ hi
    refine Finset.sum_eq_zero fun j _ => ?_
    rw [if_neg (by dsimp only; intro h; exact hi (Fin.ext (by dsimp only; omega))), mul_zero]
  · intro h
    exact absurd (Finset.mem_univ _) h

/-- The three mixers' products, one after another, are the product of the outputs side by side. -/
theorem products (f : Fin 1024 → EReal) :
    (∑ k : Fin 256, f ⟨k.val, by omega⟩ + ∑ k : Fin 256, f ⟨256 + k.val, by omega⟩) + ∑ k : Fin 512, f ⟨512 + k.val, by omega⟩ = ∑ k, f k := by
  rw [show ∑ k, f k = _ from Fin.sum_univ_add (a := 512) (b := 512) f, Fin.sum_univ_add (a := 256) (b := 256) fun i => f (Fin.castAdd 512 i)]
  rfl

theorem joined_first (s : Token) (w : Weights) (k : Fin 256) : joined s w ⟨k.val, by omega⟩ = first s k := by
  unfold joined
  rw [dif_pos k.isLt]

theorem joined_second (s : Token) (w : Weights) (k : Fin 256) : joined s w ⟨256 + k.val, by omega⟩ = second s w k := by
  unfold joined
  rw [dif_neg (by dsimp only; omega), dif_pos (by dsimp only; omega)]
  exact congrArg (second s w) (Fin.ext (by dsimp only; omega))

theorem joined_third (s : Token) (w : Weights) (k : Fin 512) : joined s w ⟨512 + k.val, by omega⟩ = s.yc k := by
  unfold joined
  rw [dif_neg (by dsimp only; omega), dif_neg (by dsimp only; omega)]
  exact congrArg s.yc (Fin.ext (by dsimp only; omega))

/-! ## The rows that are split -/

/-- The rows and the weights whose parts the kernel multiplies are finite. -/
structure Token.IsFinite (s : Token) : Prop where
  yf : ∀ q, Finite (s.yf q)
  yb : ∀ q, Finite (s.yb q)
  shift : ∀ n, Finite (s.shift n)
  scale : ∀ n, Finite (s.scale n)
structure Weights.IsFinite (w : Weights) : Prop where
  g2 : ∀ k q, Finite (w.g2 k q)
  g : ∀ n, Finite (w.g n)
  router : ∀ k e, Finite (w.router k e)

theorem mean_finite {y : Fin 256 → EReal} (h : ∀ q, Finite (y q)) (q : Fin 256) : Finite (mean y q) := by
  unfold mean
  rw [bits_64]
  exact (Finite.sum fun j => h _).div (by norm_num)

theorem centred_finite {y : Fin 256 → EReal} (h : ∀ q, Finite (y q)) (q : Fin 256) : Finite (centred y q) := (h q).sub (mean_finite h q)

theorem square_nonneg (x : EReal) : 0 ≤ x * x := by
  induction x with
  | bot => simp
  | top => simp
  | coe r => exact_mod_cast mul_self_nonneg r

theorem square_top {x : EReal} (h : ¬Finite x) : x * x = ⊤ := by
  induction x with
  | bot => simp
  | top => simp
  | coe r => exact absurd ⟨r, rfl⟩ h

/-- A row over its root mean square is finite, whatever the row: with an infinity in it the mean square is infinite, and the row is multiplied by zero. -/
theorem scaled_finite (l : Fin 1024 → EReal) (n : Fin 1024) :
    Finite (l n * Ideal.rsqrt (Ideal.div (∑ j, l j * l j) (Ideal.ofBits FTy.f32 0x44800000#32) + Ideal.ofBits FTy.f32 0x358637BD#32)) := by
  rw [bits_1024]
  by_cases h : ∀ j, Finite (l j)
  · exact (h n).mul (AtLeast.add_above ((AtLeast.sum fun j => AtLeast.square (h j)).div (by norm_num)) bits_eps).rsqrt
  · obtain ⟨j, hj⟩ := not_forall.1 h
    have e : ∑ j, l j * l j = ⊤ :=
      top_le_iff.1 ((square_top hj).symm.le.trans (Finset.single_le_sum (f := fun j => l j * l j) (fun i _ => square_nonneg (l i)) (Finset.mem_univ j)))
    obtain ⟨r, _, hr⟩ := bits_eps
    rw [e, Ideal.div_coe (by norm_num), EReal.top_mul_coe_of_pos (by norm_num), hr, EReal.top_add_coe]
    refine ⟨0, ?_⟩
    show l n * 0 = _
    rw [mul_zero, EReal.coe_zero]

theorem ready_finite {s : Token} {w : Weights} (hs : s.IsFinite) (hw : w.IsFinite) (n : Fin 1024) : Finite (ready s w n) :=
  (((scaled_finite (left s w) n).mul (hw.g n)).mul (Finite.one.add (hs.scale n))).add (hs.shift n)

/-! ## Over the arrays -/

/-- What the projection reads of the token at a row of a batch. -/
def tokenOf (A0 : (⟨3, ![4, 4096, 1024]⟩ : Shape).Idx → EReal) (A1 A2 A3 A4 A5 A6 A7 A8 : (⟨3, ![4, 4096, 256]⟩ : Shape).Idx → EReal)
    (A9 : (⟨3, ![4, 4096, 512]⟩ : Shape).Idx → EReal) (A14 A16 A17 : (⟨2, ![4, 1024]⟩ : Shape).Idx → EReal) (b : Fin 4) (r : Fin 4096) : Token where
  x n := A0 (ix3 b r n)
  hf q := A1 (ix3 b r q)
  hb q := A2 (ix3 b r q)
  ga q := A3 (ix3 b r q)
  yf q := A4 (ix3 b r q)
  yb q := A5 (ix3 b r q)
  bvf q := A6 (ix3 b r q)
  bvb q := A7 (ix3 b r q)
  lo q := A8 (ix3 b r q)
  yc q := A9 (ix3 b r q)
  gate n := A14 (ix2 b n)
  shift n := A16 (ix2 b n)
  scale n := A17 (ix2 b n)

def weightsOf (A10 : (⟨2, ![1024, 1024]⟩ : Shape).Idx → EReal) (A11 : (⟨2, ![64, 256]⟩ : Shape).Idx → EReal) (A12 A13 : (⟨1, ![256]⟩ : Shape).Idx → EReal)
    (A15 : (⟨1, ![1024]⟩ : Shape).Idx → EReal) (A18 : (⟨2, ![1024, 32]⟩ : Shape).Idx → EReal) (A19 : (⟨1, ![32]⟩ : Shape).Idx → EReal) : Weights where
  wo k n := A10 (ix2 k n)
  g2 k q := A11 (ix2 k q)
  lng q := A12 (ix1 q)
  lnb q := A13 (ix1 q)
  g n := A15 (ix1 n)
  router k e := A18 (ix2 k e)
  bias e := A19 (ix1 e)

/-- A column as a row of eight by 128. -/
def split (a : Fin 8) (b : Fin 128) : Fin 1024 := ⟨a.val * 128 + b.val, by omega⟩

/-! ## The three results, of the arguments -/

variable (A0 : (⟨3, ![4, 4096, 1024]⟩ : Shape).Idx → EReal) (A1 A2 A3 A4 A5 A6 A7 A8 : (⟨3, ![4, 4096, 256]⟩ : Shape).Idx → EReal)
  (A9 : (⟨3, ![4, 4096, 512]⟩ : Shape).Idx → EReal) (A10 : (⟨2, ![1024, 1024]⟩ : Shape).Idx → EReal) (A11 : (⟨2, ![64, 256]⟩ : Shape).Idx → EReal)
  (A12 A13 : (⟨1, ![256]⟩ : Shape).Idx → EReal) (A14 : (⟨2, ![4, 1024]⟩ : Shape).Idx → EReal) (A15 : (⟨1, ![1024]⟩ : Shape).Idx → EReal)
  (A16 A17 : (⟨2, ![4, 1024]⟩ : Shape).Idx → EReal) (A18 : (⟨2, ![1024, 32]⟩ : Shape).Idx → EReal) (A19 : (⟨1, ![32]⟩ : Shape).Idx → EReal)

def leaving : (⟨3, ![4, 4096, 1024]⟩ : Shape).Idx → EReal := fun y => left (tokenOf A0 A1 A2 A3 A4 A5 A6 A7 A8 A9 A14 A16 A17 (y 0) (y 1)) (weightsOf A10 A11 A12 A13 A15 A18 A19) (y 2)

def readied : (⟨4, ![4, 4096, 8, 128]⟩ : Shape).Idx → EReal := fun y => ready (tokenOf A0 A1 A2 A3 A4 A5 A6 A7 A8 A9 A14 A16 A17 (y 0) (y 1)) (weightsOf A10 A11 A12 A13 A15 A18 A19) (split (y 2) (y 3))

def scored : (⟨3, ![4, 4096, 32]⟩ : Shape).Idx → EReal := fun y => score (tokenOf A0 A1 A2 A3 A4 A5 A6 A7 A8 A9 A14 A16 A17 (y 0) (y 1)) (weightsOf A10 A11 A12 A13 A15 A18 A19) (y 2)

end Cert.TokenOutput

end
-- ==== Proof.OutprojTile.lean ====
/- What a point of the output projection's kernel computes of its blocks, over the extended reals. -/
module

public import proofs.«01_k».proof.Proof.Gen.OutprojIdeal.Value
public import proofs.«01_k».proof.Proof.OutprojSpec

@[expose] public section

set_option maxRecDepth 16384

noncomputable section

namespace Cert.OutprojIdeal.Blocks

open Cert.OutprojIdeal Cert.OutprojIdeal.Gen
open Idealize.ShloMosaic hiding ix1 ix2 ix3 ix4
open Idealize.ShloMosaic.TcCoe
open Idealize.SL.Sem
open Idealize.ShloMosaic.ValueIdx (ix1 ix2 ix3 ix4)
open Cert.TokenOutput (Finite)

/-! ## The first mixer, and the second mixer's sum -/

theorem first_at (ga hf hb : Vec Ideal S1x512x256 .f32) (p : Fin 512) (q : Fin 256) :
    (k0_pay2 ga hf hb : FVec Ideal S512x256 .f32) (ix2 p q)
      = ga (ix3 (0 : Fin 1) p q) * (Ideal.ofBits FTy.f32 0x3F000000#32 * (1 + Ideal.tanh (Ideal.ofBits FTy.f32 0x3F4C422A#32
          * (ga (ix3 (0 : Fin 1) p q) + Ideal.ofBits FTy.f32 0x3D372713#32 * (ga (ix3 (0 : Fin 1) p q) * (ga (ix3 (0 : Fin 1) p q) * ga (ix3 (0 : Fin 1) p q)))))))
        * (hf (ix3 (0 : Fin 1) p q) + hb (ix3 (0 : Fin 1) p q)) := by
  pointwise [k0_pay2]
  rfl

theorem sum_at (yf yb : Vec Ideal S1x512x256 .f32) (p : Fin 512) (q : Fin 256) :
    (k0_pay3 yf yb : FVec Ideal S512x256 .f32) (ix2 p q) = (yf (ix3 (0 : Fin 1) p q) : EReal) + yb (ix3 (0 : Fin 1) p q) := by
  pointwise [k0_pay3]
  rfl

/-! ## The table that averages over each head -/

/-- A channel's head, as the kernel computes it: the quotient by 64 rounded down. -/
def head (a : BitVec 32) : BitVec 32 :=
  Scalar.select (IntOp.andi (IntOp.cmpi .ne (IntOp.subi (Scalar.extui (IntOp.cmpi .sgt a 0#32)) (Scalar.extui (IntOp.cmpi .slt a 0#32)))
      (Scalar.subi (Scalar.extui (Scalar.cmpi .sgt 64#32 0#32)) (Scalar.extui (Scalar.cmpi .slt 64#32 0#32)) : BitVec 32))
    (IntOp.cmpi .ne (IntOp.remsi .vector a 64#32) 0#32)) (IntOp.subi (IntOp.divsi .vector a 64#32) 1#32) (IntOp.divsi .vector a 64#32)

theorem table_at (k q : Fin 256) :
    (k0_pay6 (F := Ideal) (iota .tc S256x256 32 [0] iota_S256x256_d0_w32) 64#32 k0_pay4 k0_pay5 : FVec Ideal S256x256 .bf16) (ix2 k q)
      = FloatOps.sitofp (F := Ideal) FTy.f32 ((IntOp.cmpi .eq (head (BitVec.ofNat 32 k.val)) (head (BitVec.ofNat 32 q.val))).setWidth 32 : BitVec 32)
        * Ideal.ofBits FTy.f32 0x3C800000#32 := by
  pointwise [k0_pay6, k0_pay4, k0_pay5]
  rfl

theorem head_eq : ∀ k : Fin 256, head (BitVec.ofNat 32 k.val) = BitVec.ofNat 32 (k.val / 64) := by decide +kernel

theorem table_is (k q : Fin 256) :
    (k0_pay6 (F := Ideal) (iota .tc S256x256 32 [0] iota_S256x256_d0_w32) 64#32 k0_pay4 k0_pay5 : FVec Ideal S256x256 .bf16) (ix2 k q)
      = if k.val / 64 = q.val / 64 then Ideal.ofBits FTy.f32 0x3C800000#32 else (0 : EReal) := by
  have e : ∀ a b : Fin 4, (IntOp.cmpi .eq (BitVec.ofNat 32 a.val) (BitVec.ofNat 32 b.val)).setWidth 32 = if a.val = b.val then 1#32 else 0#32 := by decide
  rw [table_at, head_eq, head_eq]
  have e := e ⟨k.val / 64, by omega⟩ ⟨q.val / 64, by omega⟩
  dsimp only at e
  rw [e]
  split
  · have one : FloatOps.sitofp (F := Ideal) FTy.f32 (1#32 : BitVec 32) = (1 : EReal) := by
      show (((1#32 : BitVec 32).toInt : ℝ) : EReal) = 1
      simp
    rw [one, one_mul]
  · have none : FloatOps.sitofp (F := Ideal) FTy.f32 (0#32 : BitVec 32) = (0 : EReal) := by
      show (((0#32 : BitVec 32).toInt : ℝ) : EReal) = 0
      simp
    rw [none, zero_mul]

/-! ## The norm over each head -/

/-- Rows times a table, the rows split into three terms and into two. -/
def threefold (v : FVec Ideal S512x256 .f32) (a : FVec Ideal S256x256 .bf16) : FVec Ideal S512x256 .f32 :=
  addf (addf (matmul (φ₁ := .bf16) dot_S512x256_S256x256_S512x256_1_0_0_1_n_n none (truncf .bf16 v bitsLt_bf16_f32) a (constant S512x256 .f32 0x00000000#32))
    (matmul (φ₁ := .bf16) dot_S512x256_S256x256_S512x256_1_0_0_1_n_n none (truncf .bf16 (subf v (extf .f32 (truncf .bf16 v bitsLt_bf16_f32) bitsLt_bf16_f32)) bitsLt_bf16_f32) a
      (constant S512x256 .f32 0x00000000#32)))
    (matmul (φ₁ := .bf16) dot_S512x256_S256x256_S512x256_1_0_0_1_n_n none (truncf .bf16 (subf (subf v (extf .f32 (truncf .bf16 v bitsLt_bf16_f32) bitsLt_bf16_f32))
      (extf .f32 (truncf .bf16 (subf v (extf .f32 (truncf .bf16 v bitsLt_bf16_f32) bitsLt_bf16_f32)) bitsLt_bf16_f32) bitsLt_bf16_f32)) bitsLt_bf16_f32) a
      (constant S512x256 .f32 0x00000000#32))
def twofold (v : FVec Ideal S512x256 .f32) (a : FVec Ideal S256x256 .bf16) : FVec Ideal S512x256 .f32 :=
  addf (matmul (φ₁ := .bf16) dot_S512x256_S256x256_S512x256_1_0_0_1_n_n none (truncf .bf16 v bitsLt_bf16_f32) a (constant S512x256 .f32 0x00000000#32))
    (matmul (φ₁ := .bf16) dot_S512x256_S256x256_S512x256_1_0_0_1_n_n none (truncf .bf16 (subf v (extf .f32 (truncf .bf16 v bitsLt_bf16_f32) bitsLt_bf16_f32)) bitsLt_bf16_f32) a
      (constant S512x256 .f32 0x00000000#32))

theorem threefold_at (v : FVec Ideal S512x256 .f32) (a : FVec Ideal S256x256 .bf16) (p : Fin 512) (q : Fin 256) (h : ∀ k : Fin 256, Finite (v (ix2 p k))) :
    threefold v a (ix2 p q) = ∑ k : Fin 256, (v (ix2 p k) : EReal) * a (ix2 k q) := by
  refine Eq.trans ?_ (TokenOutput.split_three (fun k : Fin 256 => v (ix2 p k)) (fun k => a (ix2 k q)) h)
  pointwise [threefold]
  rfl

theorem twofold_at (v : FVec Ideal S512x256 .f32) (a : FVec Ideal S256x256 .bf16) (p : Fin 512) (q : Fin 256) (h : ∀ k : Fin 256, Finite (v (ix2 p k))) :
    twofold v a (ix2 p q) = ∑ k : Fin 256, (v (ix2 p k) : EReal) * a (ix2 k q) := by
  refine Eq.trans ?_ (TokenOutput.split_two (fun k : Fin 256 => v (ix2 p k)) (fun k => a (ix2 k q)) h)
  pointwise [twofold]
  rfl

/-- The table. -/
def table : FVec Ideal S256x256 .bf16 := k0_pay6 (F := Ideal) (iota .tc S256x256 32 [0] iota_S256x256_d0_w32) 64#32 k0_pay4 k0_pay5

/-- The rows less their means, and the norm's last step over its arrays. -/
def less (v : FVec Ideal S512x256 .f32) : FVec Ideal S512x256 .f32 := subf v (threefold v table)
def scaled (d u : FVec Ideal S512x256 .f32) (lng lnb : Vec Ideal S1x256 .f32) (bvf bvb : Vec Ideal S1x512x256 .f32) : FVec Ideal S512x256 .f32 :=
  addf (addf (addf (mulf (mulf d (rsqrt (addf u (broadcast S512x256 (Scalar.ofBits (F := Ideal) .f32 0x3A27C5AC#32)))))
    (broadcastTo S512x256 (shapeCast S1x256 lng shapeCasts_S1x256_S1x256) broadcasts_S1x256_S512x256))
    (broadcastTo S512x256 (shapeCast S1x256 lnb shapeCasts_S1x256_S1x256) broadcasts_S1x256_S512x256))
    (shapeCast S512x256 bvf shapeCasts_S1x512x256_S512x256)) (shapeCast S512x256 bvb shapeCasts_S1x512x256_S512x256)

theorem norm_eq (v : FVec Ideal S512x256 .f32) (lng lnb : Vec Ideal S1x256 .f32) (bvf bvb : Vec Ideal S1x512x256 .f32) :
    (k0_pay9 v table (k0_pay7 v) (k0_pay8 v) lng lnb bvf bvb : FVec Ideal S512x256 .f32)
      = scaled (less v) (twofold (mulf (less v) (less v)) table) lng lnb bvf bvb := rfl

theorem scaled_at (d u : FVec Ideal S512x256 .f32) (lng lnb : Vec Ideal S1x256 .f32) (bvf bvb : Vec Ideal S1x512x256 .f32) (p : Fin 512) (q : Fin 256) :
    scaled d u lng lnb bvf bvb (ix2 p q)
      = (d (ix2 p q) : EReal) * Ideal.rsqrt (u (ix2 p q) + Ideal.ofBits FTy.f32 0x3A27C5AC#32) * lng (ix2 (0 : Fin 1) q) + lnb (ix2 (0 : Fin 1) q)
          + bvf (ix3 (0 : Fin 1) p q) + bvb (ix3 (0 : Fin 1) p q) := by
  pointwise [scaled]
  rfl

theorem less_at (v : FVec Ideal S512x256 .f32) (p : Fin 512) (q : Fin 256) (h : ∀ k : Fin 256, Finite (v (ix2 p k))) :
    less v (ix2 p q) = TokenOutput.centred (fun k => v (ix2 p k)) q := by
  have e : less v (ix2 p q) = (v (ix2 p q) : EReal) - threefold v table (ix2 p q) := rfl
  rw [e, threefold_at v table p q h]
  unfold TokenOutput.centred
  rw [← TokenOutput.averaged _ q h]
  exact congrArg (fun u : EReal => (v (ix2 p q) : EReal) - u) (Finset.sum_congr rfl fun k _ => congrArg (fun u : EReal => (v (ix2 p k) : EReal) * u) (table_is k q))

theorem norm_at (v : FVec Ideal S512x256 .f32) (lng lnb : Vec Ideal S1x256 .f32) (bvf bvb : Vec Ideal S1x512x256 .f32) (p : Fin 512) (q : Fin 256)
    (h : ∀ k : Fin 256, Finite (v (ix2 p k))) :
    (k0_pay9 v table (k0_pay7 v) (k0_pay8 v) lng lnb bvf bvb : FVec Ideal S512x256 .f32) (ix2 p q)
      = TokenOutput.normed (fun k => v (ix2 p k)) q * lng (ix2 (0 : Fin 1) q) + lnb (ix2 (0 : Fin 1) q) + bvf (ix3 (0 : Fin 1) p q) + bvb (ix3 (0 : Fin 1) p q) := by
  have sq : ∀ k : Fin 256, (mulf (less v) (less v) : FVec Ideal S512x256 .f32) (ix2 p k)
      = TokenOutput.centred (fun k => v (ix2 p k)) k * TokenOutput.centred (fun k => v (ix2 p k)) k := fun k =>
    congrArg₂ (fun a b : EReal => a * b) (less_at v p k h) (less_at v p k h)
  have fin : ∀ k : Fin 256, Finite ((mulf (less v) (less v) : FVec Ideal S512x256 .f32) (ix2 p k)) := fun k => by
    rw [sq]
    exact (TokenOutput.centred_finite h k).mul (TokenOutput.centred_finite h k)
  have e : twofold (mulf (less v) (less v)) table (ix2 p q)
      = TokenOutput.mean (fun k => TokenOutput.centred (fun k => v (ix2 p k)) k * TokenOutput.centred (fun k => v (ix2 p k)) k) q := by
    rw [twofold_at _ table p q fin, ← TokenOutput.averaged _ q fun k => (TokenOutput.centred_finite h k).mul (TokenOutput.centred_finite h k)]
    exact Finset.sum_congr rfl fun k _ => congrArg₂ (fun a b : EReal => a * b) (sq k) (table_is k q)
  rw [norm_eq, scaled_at, less_at v p q h, e]
  rfl

/-! ## The second mixer's gate, and the projection -/

/-- Rows times a table, both split into two terms. -/
def gates (v : FVec Ideal S512x64 .f32) (g : Vec Ideal S64x256 .f32) : FVec Ideal S512x256 .f32 :=
  addf (addf (matmul (φ₁ := .bf16) (φ₂ := .bf16) dot_S512x64_S64x256_S512x256_1_0_0_1_n_n none (truncf .bf16 v bitsLt_bf16_f32) (truncf .bf16 g bitsLt_bf16_f32) (constant S512x256 .f32 0x00000000#32))
    (matmul (φ₁ := .bf16) (φ₂ := .bf16) dot_S512x64_S64x256_S512x256_1_0_0_1_n_n none (truncf .bf16 v bitsLt_bf16_f32)
      (truncf .bf16 (subf g (extf .f32 (truncf .bf16 g bitsLt_bf16_f32) bitsLt_bf16_f32)) bitsLt_bf16_f32) (constant S512x256 .f32 0x00000000#32)))
    (matmul (φ₁ := .bf16) (φ₂ := .bf16) dot_S512x64_S64x256_S512x256_1_0_0_1_n_n none (truncf .bf16 (subf v (extf .f32 (truncf .bf16 v bitsLt_bf16_f32) bitsLt_bf16_f32)) bitsLt_bf16_f32)
      (truncf .bf16 g bitsLt_bf16_f32) (constant S512x256 .f32 0x00000000#32))

theorem gates_at (v : FVec Ideal S512x64 .f32) (g : Vec Ideal S64x256 .f32) (p : Fin 512) (q : Fin 256) (h : ∀ k : Fin 64, Finite (v (ix2 p k))) (h' : ∀ k : Fin 64, Finite (g (ix2 k q))) :
    gates v g (ix2 p q) = ∑ k : Fin 64, (v (ix2 p k) : EReal) * g (ix2 k q) := by
  refine Eq.trans ?_ (TokenOutput.split_both (fun k : Fin 64 => v (ix2 p k)) (fun k => g (ix2 k q)) h h')
  pointwise [gates]
  rfl

theorem sigmoid_at (lo : Vec Ideal S1x512x256 .f32) (p : Fin 512) (k : Fin 64) :
    (k0_pay10 lo : FVec Ideal S512x64 .f32) (ix2 p k) = Ideal.logistic (lo (ix3 (0 : Fin 1) p (⟨128 + k.val, by omega⟩ : Fin 256))) := by
  pointwise [k0_pay10]
  rfl

/-- The three products, one after another, gated. -/
def projection (a b : FVec Ideal S512x256 .f32) (w1 w2 : Vec Ideal S256x1024 .bf16) (yc : Vec Ideal S1x512x512 .f32) (w3 : Vec Ideal S512x1024 .bf16)
    (gate : Vec Ideal S1x1x1024 .f32) : FVec Ideal S512x1024 .f32 :=
  mulf (broadcastTo S512x1024 (shapeCast S1x1024 gate shapeCasts_S1x1x1024_S1x1024) broadcasts_S1x1024_S512x1024)
    (addf (addf (matmul (φ₁ := .bf16) (φ₂ := .bf16) dot_S512x256_S256x1024_S512x1024_1_0_0_1_n_n none (truncf .bf16 a bitsLt_bf16_f32)
        (shapeCast S256x1024 w1 shapeCasts_S256x1024_S256x1024) (constant S512x1024 .f32 0x00000000#32))
      (matmul (φ₁ := .bf16) (φ₂ := .bf16) dot_S512x256_S256x1024_S512x1024_1_0_0_1_n_n none (truncf .bf16 b bitsLt_bf16_f32)
        (shapeCast S256x1024 w2 shapeCasts_S256x1024_S256x1024) (constant S512x1024 .f32 0x00000000#32)))
      (matmul (φ₁ := .bf16) (φ₂ := .bf16) dot_S512x512_S512x1024_S512x1024_1_0_0_1_n_n none (truncf .bf16 (shapeCast S512x512 yc shapeCasts_S1x512x512_S512x512) bitsLt_bf16_f32)
        (shapeCast S512x1024 w3 shapeCasts_S512x1024_S512x1024) (constant S512x1024 .f32 0x00000000#32)))

theorem projection_eq (a b : FVec Ideal S512x256 .f32) (v : FVec Ideal S512x64 .f32) (g : Vec Ideal S64x256 .f32) (w1 w2 : Vec Ideal S256x1024 .bf16) (yc : Vec Ideal S1x512x512 .f32)
    (w3 : Vec Ideal S512x1024 .bf16) (gate : Vec Ideal S1x1x1024 .f32) :
    (k0_pay12 a b v g w1 w2 yc w3 gate : FVec Ideal S512x1024 .f32) = projection a (mulf b (gates v g)) w1 w2 yc w3 gate := rfl

theorem projection_at (a b : FVec Ideal S512x256 .f32) (w1 w2 : Vec Ideal S256x1024 .bf16) (yc : Vec Ideal S1x512x512 .f32) (w3 : Vec Ideal S512x1024 .bf16)
    (gate : Vec Ideal S1x1x1024 .f32) (p : Fin 512) (n : Fin 1024) :
    projection a b w1 w2 yc w3 gate (ix2 p n)
      = gate (ix3 (0 : Fin 1) (0 : Fin 1) n) * ((∑ k : Fin 256, (a (ix2 p k) : EReal) * w1 (ix2 k n) + ∑ k : Fin 256, (b (ix2 p k) : EReal) * w2 (ix2 k n))
          + ∑ k : Fin 512, (yc (ix3 (0 : Fin 1) p k) : EReal) * w3 (ix2 k n)) := by
  pointwise [projection]
  rfl

/-! ## The three outputs -/

theorem token_at (x : Vec Ideal S1x512x1024 .f32) (v : FVec Ideal S512x1024 .f32) (p : Fin 512) (n : Fin 1024) :
    (k0_pay13 (k0_pay11 x) v : FVec Ideal S512x1024 .f32) (ix2 p n) = (x (ix3 (0 : Fin 1) p n) : EReal) + v (ix2 p n) := by
  pointwise [k0_pay13, k0_pay11]
  rfl

theorem out_at (x v : FVec Ideal S512x1024 .f32) (z : Fin 1) (p : Fin 512) (n : Fin 1024) :
    (k0_pay14 x v : FVec Ideal S1x512x1024 .f32) (ix3 z p n) = (k0_pay13 x v : FVec Ideal S512x1024 .f32) (ix2 p n) := by
  unfold k0_pay14
  generalize (k0_pay13 x v : FVec Ideal S512x1024 .f32) = u
  pointwise
  rfl

theorem ready_at (x v : FVec Ideal S512x1024 .f32) (g : Vec Ideal S1x1024 .f32) (scale shift : Vec Ideal S1x1x1024 .f32) (u : FVec Ideal S512x1024 .f32)
    (hu : (k0_pay13 x v : FVec Ideal S512x1024 .f32) = u) (p : Fin 512) (n : Fin 1024) :
    (k0_pay15 x v g scale shift : FVec Ideal S512x1024 .f32) (ix2 p n)
      = (u (ix2 p n) : EReal) * Ideal.rsqrt (Ideal.div (∑ j : Fin 1024, (u (ix2 p j) : EReal) * u (ix2 p j)) (Ideal.ofBits FTy.f32 0x44800000#32) + Ideal.ofBits FTy.f32 0x358637BD#32)
          * g (ix2 (0 : Fin 1) n) * (1 + scale (ix3 (0 : Fin 1) (0 : Fin 1) n)) + shift (ix3 (0 : Fin 1) (0 : Fin 1) n) := by
  unfold k0_pay15
  rw [hu]
  pointwise
  rfl

theorem split_at (x v : FVec Ideal S512x1024 .f32) (g : Vec Ideal S1x1024 .f32) (scale shift : Vec Ideal S1x1x1024 .f32) (z : Fin 1) (p : Fin 512) (a : Fin 8) (b : Fin 128) :
    (k0_pay16 x v g scale shift : FVec Ideal S1x512x8x128 .f32) (ix4 z p a b)
      = (k0_pay15 x v g scale shift : FVec Ideal S512x1024 .f32) (ix2 p (⟨a.val * 128 + b.val, by omega⟩ : Fin 1024)) := by
  unfold k0_pay16
  generalize (k0_pay15 x v g scale shift : FVec Ideal S512x1024 .f32) = u
  pointwise
  rfl

theorem score_at (x v : FVec Ideal S512x1024 .f32) (g : Vec Ideal S1x1024 .f32) (scale shift : Vec Ideal S1x1x1024 .f32) (u : FVec Ideal S512x1024 .f32)
    (hu : (k0_pay15 x v g scale shift : FVec Ideal S512x1024 .f32) = u) (w : Vec Ideal S1024x32 .f32) (b : Vec Ideal S1x32 .f32) (z : Fin 1) (p : Fin 512) (e : Fin 32)
    (h : ∀ k : Fin 1024, Finite (u (ix2 p k))) (h' : ∀ k : Fin 1024, Finite (w (ix2 k e))) :
    (k0_pay1 w (k0_pay17 x v g scale shift) (k0_pay18 x v g scale shift) b : FVec Ideal S1x512x32 .f32) (ix3 z p e)
      = ∑ k : Fin 1024, (u (ix2 p k) : EReal) * w (ix2 k e) + b (ix2 (0 : Fin 1) e) := by
  rw [← TokenOutput.split_both (fun k : Fin 1024 => u (ix2 p k)) (fun k => w (ix2 k e)) h h']
  unfold k0_pay18 k0_pay17
  rw [hu]
  pointwise [k0_pay1]
  rfl

end Cert.OutprojIdeal.Blocks

end
-- ==== Proof.OutprojValue.lean ====
/- What a point of the output projection's kernel leaves in its three outputs' blocks, over the extended reals. -/
module

public import proofs.«01_k».proof.Proof.OutprojTile
public import Idealize.ShloMosaic.Lib.Pipeline.ValueKit.Basic
public import Idealize.ShloMosaic.Lib.Pipeline.ValueKit.Tiles
public import Idealize.ShloMosaic.Lib.Pipeline.ValueKit.Geometry

@[expose] public section

set_option maxRecDepth 16384

noncomputable section

namespace Cert.OutprojIdeal.Blocks

open Cert.OutprojIdeal Cert.OutprojIdeal.Gen
open Idealize.ShloMosaic hiding ix1 ix2 ix3 ix4
open Idealize.ShloMosaic.TcCoe
open Idealize.SL.Sem
open Idealize.ShloMosaic.ValueIdx (ix1 ix2 ix3 ix4)
open Cert.TokenOutput (Finite)

/-! ## The loads -/

theorem all_0 (x : Vec Ideal S1x512x256 .f32) : View.ld x r0_0 = x := View.ld_unit_lit _ x (by decide)
theorem all_1 (x : Vec Ideal S1x256 .f32) : View.ld x r0_1 = x := View.ld_unit_lit _ x (by decide)
theorem all_2 (x : Vec Ideal S64x256 .f32) : View.ld x r0_2 = x := View.ld_unit_lit _ x (by decide)
theorem all_5 (x : Vec Ideal S1x512x512 .f32) : View.ld x r0_5 = x := View.ld_unit_lit _ x (by decide)
theorem all_7 (x : Vec Ideal S1x512x1024 .f32) : View.ld x r0_7 = x := View.ld_unit_lit _ x (by decide)
theorem all_8 (x : Vec Ideal S1x1x1024 .f32) : View.ld x r0_8 = x := View.ld_unit_lit _ x (by decide)
theorem all_9 (x : Vec Ideal S1x1024 .f32) : View.ld x r0_9 = x := View.ld_unit_lit _ x (by decide)
theorem all_11 (x : Vec Ideal S1024x32 .f32) : View.ld x r0_11 = x := View.ld_unit_lit _ x (by decide)
theorem all_12 (x : Vec Ideal S1x32 .f32) : View.ld x r0_12 = x := View.ld_unit_lit _ x (by decide)

/-- A part of the weights' rows. -/
theorem part_3 (x : Vec Ideal S1024x1024 .bf16) (k : Fin 256) (n : Fin 1024) :
    (View.ld x r0_3 : Vec Ideal S256x1024 .bf16) (ix2 k n) = x (ix2 (⟨k.val, by omega⟩ : Fin 1024) n) :=
  congrArg x (funext fun a => Fin.ext (match a with
    | ⟨0, _⟩ => by show 0 + 1 * k.val = k.val; omega
    | ⟨1, _⟩ => by show 0 + 1 * n.val = n.val; omega))
theorem part_4 (x : Vec Ideal S1024x1024 .bf16) (k : Fin 256) (n : Fin 1024) :
    (View.ld x r0_4 : Vec Ideal S256x1024 .bf16) (ix2 k n) = x (ix2 (⟨256 + k.val, by omega⟩ : Fin 1024) n) :=
  congrArg x (funext fun a => Fin.ext (match a with
    | ⟨0, _⟩ => by show 256 + 1 * k.val = 256 + k.val; omega
    | ⟨1, _⟩ => by show 0 + 1 * n.val = n.val; omega))
theorem part_6 (x : Vec Ideal S1024x1024 .bf16) (k : Fin 512) (n : Fin 1024) :
    (View.ld x r0_6 : Vec Ideal S512x1024 .bf16) (ix2 k n) = x (ix2 (⟨512 + k.val, by omega⟩ : Fin 1024) n) :=
  congrArg x (funext fun a => Fin.ext (match a with
    | ⟨0, _⟩ => by show 512 + 1 * k.val = 512 + k.val; omega
    | ⟨1, _⟩ => by show 0 + 1 * n.val = n.val; omega))

/-! ## A point's blocks -/

variable (x0 : Vec Ideal S1x512x1024 .f32) (x1 x2 x3 x4 x5 x6 x7 x8 : Vec Ideal S1x512x256 .f32) (x9 : Vec Ideal S1x512x512 .f32)
  (x10 : Vec Ideal S1024x1024 .bf16) (x11 : Vec Ideal S64x256 .f32) (x12 x13 : Vec Ideal S1x256 .f32) (x14 : Vec Ideal S1x1x1024 .f32) (x15 : Vec Ideal S1x1024 .f32)
  (x16 x17 : Vec Ideal S1x1x1024 .f32) (x18 : Vec Ideal S1024x32 .f32) (x19 : Vec Ideal S1x32 .f32)

/-- A row of a point's blocks, and the weights it reads. -/
def token (p : Fin 512) : TokenOutput.Token where
  x n := x0 (ix3 (0 : Fin 1) p n)
  hf q := x1 (ix3 (0 : Fin 1) p q)
  hb q := x2 (ix3 (0 : Fin 1) p q)
  ga q := x3 (ix3 (0 : Fin 1) p q)
  yf q := x4 (ix3 (0 : Fin 1) p q)
  yb q := x5 (ix3 (0 : Fin 1) p q)
  bvf q := x6 (ix3 (0 : Fin 1) p q)
  bvb q := x7 (ix3 (0 : Fin 1) p q)
  lo q := x8 (ix3 (0 : Fin 1) p q)
  yc q := x9 (ix3 (0 : Fin 1) p q)
  gate n := x14 (ix3 (0 : Fin 1) (0 : Fin 1) n)
  shift n := x16 (ix3 (0 : Fin 1) (0 : Fin 1) n)
  scale n := x17 (ix3 (0 : Fin 1) (0 : Fin 1) n)

def weights : TokenOutput.Weights where
  wo k n := x10 (ix2 k n)
  g2 k q := x11 (ix2 k q)
  lng q := x12 (ix2 (0 : Fin 1) q)
  lnb q := x13 (ix2 (0 : Fin 1) q)
  g n := x15 (ix2 (0 : Fin 1) n)
  router k e := x18 (ix2 k e)
  bias e := x19 (ix2 (0 : Fin 1) e)

/-- What the three mixers' products come from, the loads read. -/
theorem mixed_eq : (k0_pay21 x0 x1 x2 x3 x4 x5 x6 x7 x8 x9 x10 x11 x12 x13 x14 x15 x16 x17 x18 x19 : FVec Ideal S512x1024 .f32)
    = projection (k0_pay2 x3 x1 x2) (mulf (k0_pay9 (k0_pay3 x4 x5) table (k0_pay7 (k0_pay3 x4 x5)) (k0_pay8 (k0_pay3 x4 x5)) x12 x13 x6 x7) (gates (k0_pay10 x8) x11))
        (View.ld x10 r0_3) (View.ld x10 r0_4) x9 (View.ld x10 r0_6) x14 := by
  unfold k0_pay21 k0_pay19
  rw [all_0 x1, all_0 x2, all_0 x3, all_0 x4, all_0 x5, all_0 x6, all_0 x7, all_0 x8, all_1 x12, all_1 x13, all_2 x11, all_5 x9, all_8 x14]
  exact projection_eq _ _ _ _ _ _ _ _ _

theorem second_at (p : Fin 512) (q : Fin 256) (hs : (token x0 x1 x2 x3 x4 x5 x6 x7 x8 x9 x14 x16 x17 p).IsFinite) (hw : (weights x10 x11 x12 x13 x15 x18 x19).IsFinite) :
    (mulf (k0_pay9 (k0_pay3 x4 x5) table (k0_pay7 (k0_pay3 x4 x5)) (k0_pay8 (k0_pay3 x4 x5)) x12 x13 x6 x7) (gates (k0_pay10 x8) x11) : FVec Ideal S512x256 .f32) (ix2 p q)
      = TokenOutput.second (token x0 x1 x2 x3 x4 x5 x6 x7 x8 x9 x14 x16 x17 p) (weights x10 x11 x12 x13 x15 x18 x19) q := by
  have hy : ∀ k : Fin 256, Finite ((k0_pay3 x4 x5 : FVec Ideal S512x256 .f32) (ix2 p k)) := fun k => by
    rw [sum_at]
    exact (hs.yf k).add (hs.yb k)
  have hl : ∀ k : Fin 64, Finite ((k0_pay10 x8 : FVec Ideal S512x64 .f32) (ix2 p k)) := fun k => by
    rw [sigmoid_at]
    exact TokenOutput.logistic_finite _
  refine congrArg₂ (fun a b : EReal => a * b) ((norm_at _ x12 x13 x6 x7 p q hy).trans ?_) ((gates_at _ x11 p q hl fun k => hw.g2 k q).trans ?_)
  · rw [show (fun k : Fin 256 => (k0_pay3 x4 x5 : FVec Ideal S512x256 .f32) (ix2 p k)) = _ from funext fun k => sum_at x4 x5 p k]
    rfl
  · exact Finset.sum_congr rfl fun k _ => congrArg (fun a : EReal => a * x11 (ix2 k q)) (sigmoid_at x8 p k)

theorem mixed_at (p : Fin 512) (n : Fin 1024) (hs : (token x0 x1 x2 x3 x4 x5 x6 x7 x8 x9 x14 x16 x17 p).IsFinite) (hw : (weights x10 x11 x12 x13 x15 x18 x19).IsFinite) :
    (k0_pay21 x0 x1 x2 x3 x4 x5 x6 x7 x8 x9 x10 x11 x12 x13 x14 x15 x16 x17 x18 x19 : FVec Ideal S512x1024 .f32) (ix2 p n)
      = x14 (ix3 (0 : Fin 1) (0 : Fin 1) n) * ∑ k, TokenOutput.joined (token x0 x1 x2 x3 x4 x5 x6 x7 x8 x9 x14 x16 x17 p) (weights x10 x11 x12 x13 x15 x18 x19) k * x10 (ix2 k n) := by
  rw [mixed_eq, projection_at, ← TokenOutput.products]
  refine congrArg (fun a : EReal => x14 (ix3 (0 : Fin 1) (0 : Fin 1) n) * a) (congrArg₂ (fun a b : EReal => a + b) (congrArg₂ (fun a b : EReal => a + b)
    (Finset.sum_congr rfl fun k _ => congrArg₂ (fun a b : EReal => a * b) ?_ (part_3 x10 k n)) (Finset.sum_congr rfl fun k _ => congrArg₂ (fun a b : EReal => a * b) ?_ (part_4 x10 k n)))
    (Finset.sum_congr rfl fun k _ => congrArg₂ (fun a b : EReal => a * b) ?_ (part_6 x10 k n)))
  · exact (first_at x3 x1 x2 p k).trans (TokenOutput.joined_first (token x0 x1 x2 x3 x4 x5 x6 x7 x8 x9 x14 x16 x17 p) (weights x10 x11 x12 x13 x15 x18 x19) k).symm
  · exact (second_at x0 x1 x2 x3 x4 x5 x6 x7 x8 x9 x10 x11 x12 x13 x14 x15 x16 x17 x18 x19 p k hs hw).trans (TokenOutput.joined_second (token x0 x1 x2 x3 x4 x5 x6 x7 x8 x9 x14 x16 x17 p) (weights x10 x11 x12 x13 x15 x18 x19) k).symm
  · exact (TokenOutput.joined_third (token x0 x1 x2 x3 x4 x5 x6 x7 x8 x9 x14 x16 x17 p) (weights x10 x11 x12 x13 x15 x18 x19) k).symm

/-- The token a row leaves, the row modulated, and its scores. -/
theorem left_at (p : Fin 512) (n : Fin 1024) (hs : (token x0 x1 x2 x3 x4 x5 x6 x7 x8 x9 x14 x16 x17 p).IsFinite) (hw : (weights x10 x11 x12 x13 x15 x18 x19).IsFinite) :
    (k0_pay13 (k0_pay20 x0 x1 x2 x3 x4 x5 x6 x7 x8 x9 x10 x11 x12 x13 x14 x15 x16 x17 x18 x19) (k0_pay21 x0 x1 x2 x3 x4 x5 x6 x7 x8 x9 x10 x11 x12 x13 x14 x15 x16 x17 x18 x19) : FVec Ideal S512x1024 .f32) (ix2 p n)
      = TokenOutput.left (token x0 x1 x2 x3 x4 x5 x6 x7 x8 x9 x14 x16 x17 p) (weights x10 x11 x12 x13 x15 x18 x19) n := by
  unfold k0_pay20
  rw [all_7 x0, token_at, mixed_at x0 x1 x2 x3 x4 x5 x6 x7 x8 x9 x10 x11 x12 x13 x14 x15 x16 x17 x18 x19 p n hs hw]
  rfl

theorem modulated_at (p : Fin 512) (n : Fin 1024) (hs : (token x0 x1 x2 x3 x4 x5 x6 x7 x8 x9 x14 x16 x17 p).IsFinite) (hw : (weights x10 x11 x12 x13 x15 x18 x19).IsFinite) :
    (k0_pay15 (k0_pay20 x0 x1 x2 x3 x4 x5 x6 x7 x8 x9 x10 x11 x12 x13 x14 x15 x16 x17 x18 x19) (k0_pay21 x0 x1 x2 x3 x4 x5 x6 x7 x8 x9 x10 x11 x12 x13 x14 x15 x16 x17 x18 x19) x15 x17 x16 : FVec Ideal S512x1024 .f32) (ix2 p n)
      = TokenOutput.ready (token x0 x1 x2 x3 x4 x5 x6 x7 x8 x9 x14 x16 x17 p) (weights x10 x11 x12 x13 x15 x18 x19) n := by
  have h := fun j => left_at x0 x1 x2 x3 x4 x5 x6 x7 x8 x9 x10 x11 x12 x13 x14 x15 x16 x17 x18 x19 p j hs hw
  refine (ready_at _ _ _ _ _ _ rfl p n).trans ?_
  unfold TokenOutput.ready
  rw [h n, Finset.sum_congr rfl fun j _ => congrArg₂ (fun a b : EReal => a * b) (h j) (h j)]
  rfl

theorem out_20 (z : Fin 1) (p : Fin 512) (n : Fin 1024) (hs : (token x0 x1 x2 x3 x4 x5 x6 x7 x8 x9 x14 x16 x17 p).IsFinite) (hw : (weights x10 x11 x12 x13 x15 x18 x19).IsFinite) :
    (out0_20 x0 x1 x2 x3 x4 x5 x6 x7 x8 x9 x10 x11 x12 x13 x14 x15 x16 x17 x18 x19 : Vec Ideal S1x512x1024 .f32) (ix3 z p n) = TokenOutput.left (token x0 x1 x2 x3 x4 x5 x6 x7 x8 x9 x14 x16 x17 p) (weights x10 x11 x12 x13 x15 x18 x19) n := by
  unfold out0_20
  rw [View.canon_cons_unit_lit _ _ _ (by decide)]
  exact (out_at _ _ z p n).trans (left_at x0 x1 x2 x3 x4 x5 x6 x7 x8 x9 x10 x11 x12 x13 x14 x15 x16 x17 x18 x19 p n hs hw)

theorem out_21 (z : Fin 1) (p : Fin 512) (a : Fin 8) (b : Fin 128) (hs : (token x0 x1 x2 x3 x4 x5 x6 x7 x8 x9 x14 x16 x17 p).IsFinite) (hw : (weights x10 x11 x12 x13 x15 x18 x19).IsFinite) :
    (out0_21 x0 x1 x2 x3 x4 x5 x6 x7 x8 x9 x10 x11 x12 x13 x14 x15 x16 x17 x18 x19 : Vec Ideal S1x512x8x128 .f32) (ix4 z p a b) = TokenOutput.ready (token x0 x1 x2 x3 x4 x5 x6 x7 x8 x9 x14 x16 x17 p) (weights x10 x11 x12 x13 x15 x18 x19) ⟨a.val * 128 + b.val, by omega⟩ := by
  unfold out0_21
  rw [View.canon_cons_unit_lit _ _ _ (by decide), all_9 x15, all_8 x17, all_8 x16]
  exact (split_at _ _ _ _ _ z p a b).trans (modulated_at x0 x1 x2 x3 x4 x5 x6 x7 x8 x9 x10 x11 x12 x13 x14 x15 x16 x17 x18 x19 p _ hs hw)

theorem out_22 (z : Fin 1) (p : Fin 512) (e : Fin 32) (hs : (token x0 x1 x2 x3 x4 x5 x6 x7 x8 x9 x14 x16 x17 p).IsFinite) (hw : (weights x10 x11 x12 x13 x15 x18 x19).IsFinite) :
    (out0_22 x0 x1 x2 x3 x4 x5 x6 x7 x8 x9 x10 x11 x12 x13 x14 x15 x16 x17 x18 x19 : Vec Ideal S1x512x32 .f32) (ix3 z p e) = TokenOutput.score (token x0 x1 x2 x3 x4 x5 x6 x7 x8 x9 x14 x16 x17 p) (weights x10 x11 x12 x13 x15 x18 x19) e := by
  have h := fun n => modulated_at x0 x1 x2 x3 x4 x5 x6 x7 x8 x9 x10 x11 x12 x13 x14 x15 x16 x17 x18 x19 p n hs hw
  unfold out0_22
  rw [View.canon_cons_unit_lit _ _ _ (by decide), all_9 x15, all_8 x17, all_8 x16, all_11 x18, all_12 x19]
  refine (score_at _ _ _ _ _ _ rfl x18 x19 z p e (fun k => by rw [h k]; exact TokenOutput.ready_finite hs hw k) fun k => hw.router k e).trans ?_
  rw [Finset.sum_congr rfl fun k _ => congrArg (fun a : EReal => a * x18 (ix2 k e)) (h k)]
  rfl

end Cert.OutprojIdeal.Blocks

end
-- ==== Proof.OutprojResult.lean ====
/- What the output projection's kernel leaves in its three results, over the extended reals. -/
module

public import proofs.«01_k».proof.Proof.OutprojValue

@[expose] public section

set_option maxRecDepth 16384

noncomputable section

namespace Cert.OutprojIdeal.Blocks

open Cert.OutprojIdeal Cert.OutprojIdeal.Gen
open Idealize.ShloMosaic hiding ix1 ix2 ix3 ix4
open Idealize.ShloMosaic.TcCoe
open Idealize.SL.Sem
open Idealize.ShloMosaic.ValueIdx (ix1 ix2 ix3 ix4)
open Cert.TokenOutput (Finite)

variable (m : (ℓ : Loc nD τ sig) → Buf (Elt Ideal) ℓ) (ρ : Dev nD → PrngReg)

/-! ## Where a point's blocks lie -/

theorem coords_at : ∀ t : Fin cfg0.N, (grid0.coords t 0).val = t.val / 8 ∧ (grid0.coords t 1).val = t.val % 8 :=
  (by decide +kernel : ∀ t : Fin grid0.N, _)

theorem bound (t : Fin cfg0.N) : t.val < 32 := Nat.lt_of_lt_of_eq t.isLt (by decide)

/-- The batch a point is in, and a row of its tile. -/
def batch (t : Fin cfg0.N) : Fin 4 := ⟨t.val / 8, by have := bound t; omega⟩
def row (t : Fin cfg0.N) (p : Fin 512) : Fin 4096 := ⟨512 * (t.val % 8) + p.val, by omega⟩

theorem batch_eq (t : Fin cfg0.N) : (BitVec.ofNat 32 (grid0.coords t 0).val).toNat = t.val / 8 := by
  have := bound t
  rw [BitVec.toNat_ofNat, (coords_at t).1]; omega
theorem tile_eq (t : Fin cfg0.N) : (BitVec.ofNat 32 (grid0.coords t 1).val).toNat = t.val % 8 := by
  rw [BitVec.toNat_ofNat, (coords_at t).2]; omega

/-- An index of a block, spelt out. -/
theorem spelt {n : ℕ} (y : (⟨3, ![1, 512, n]⟩ : Shape).Idx) : y = ix3 (y 0) (y 1) (y 2) := by
  funext a
  match a with
  | ⟨0, _⟩ => rfl
  | ⟨1, _⟩ => rfl
  | ⟨2, _⟩ => rfl
theorem spelt' (y : S1x512x8x128.Idx) : y = ix4 (y 0) (y 1) (y 2) (y 3) := by
  funext a
  match a with
  | ⟨0, _⟩ => rfl
  | ⟨1, _⟩ => rfl
  | ⟨2, _⟩ => rfl
  | ⟨3, _⟩ => rfl

/-- A block of 512 rows in an array of all of them, with three axes or four. -/
theorem placed {n : ℕ} (f : (⟨3, ![4, 4096, n]⟩ : Shape).Idx) (t : Fin cfg0.N) (z : Fin 1) (p : Fin 512) (q : Fin n)
    (h0 : (f 0).val = (BitVec.ofNat 32 (grid0.coords t 0).val).toNat * 1 + 1 * z.val) (h1 : (f 1).val = (BitVec.ofNat 32 (grid0.coords t 1).val).toNat * 512 + 1 * p.val)
    (h2 : (f 2).val = 0 * n + 1 * q.val) : f = ix3 (batch t) (row t p) q := by
  rw [batch_eq] at h0
  rw [tile_eq] at h1
  funext a
  apply Fin.ext
  match a with
  | ⟨0, _⟩ => show (f 0).val = t.val / 8; omega
  | ⟨1, _⟩ => show (f 1).val = 512 * (t.val % 8) + p.val; omega
  | ⟨2, _⟩ => show (f 2).val = q.val; omega
theorem placed' (f : S4x4096x8x128.Idx) (t : Fin cfg0.N) (z : Fin 1) (p : Fin 512) (a : Fin 8) (b : Fin 128)
    (h0 : (f 0).val = (BitVec.ofNat 32 (grid0.coords t 0).val).toNat * 1 + 1 * z.val) (h1 : (f 1).val = (BitVec.ofNat 32 (grid0.coords t 1).val).toNat * 512 + 1 * p.val)
    (h2 : (f 2).val = 0 * 8 + 1 * a.val) (h3 : (f 3).val = 0 * 128 + 1 * b.val) : f = ix4 (batch t) (row t p) a b := by
  rw [batch_eq] at h0
  rw [tile_eq] at h1
  funext d
  apply Fin.ext
  match d with
  | ⟨0, _⟩ => show (f 0).val = t.val / 8; omega
  | ⟨1, _⟩ => show (f 1).val = 512 * (t.val % 8) + p.val; omega
  | ⟨2, _⟩ => show (f 2).val = a.val; omega
  | ⟨3, _⟩ => show (f 3).val = b.val; omega

/-- A block that is the whole of its array. -/
theorem whole {n k : ℕ} (f : (⟨2, ![n, k]⟩ : Shape).Idx) (p : Fin n) (q : Fin k) (h0 : (f 0).val = 0 * n + 1 * p.val) (h1 : (f 1).val = 0 * k + 1 * q.val) : f = ix2 p q := by
  funext a
  apply Fin.ext
  match a with
  | ⟨0, _⟩ => show (f 0).val = p.val; omega
  | ⟨1, _⟩ => show (f 1).val = q.val; omega
theorem flat {n : ℕ} (f : (⟨1, ![n]⟩ : Shape).Idx) (q : Fin n) (h : (f 0).val = 0 * n + 1 * q.val) : f = ix1 q := by
  funext a
  apply Fin.ext
  match a with
  | ⟨0, _⟩ => show (f 0).val = q.val; omega

/-- A batch's row, a unit axis put in. -/
theorem batched_at (f : Vec Ideal S4x1024 .f32) (i : S4x1x1024.Idx) (t : Fin cfg0.N) (z : Fin 1) (n : Fin 1024)
    (h0 : (i 0).val = (BitVec.ofNat 32 (grid0.coords t 0).val).toNat * 1 + 1 * z.val) (h2 : (i 2).val = 0 * 1024 + 1 * n.val) :
    broadcastInDim S4x1x1024 ![0, 2] bcast_S4x1024_S4x1x1024_0_2 f i = f (ix2 (batch t) n) := by
  rw [batch_eq] at h0
  refine congrArg f (funext fun a => Fin.ext ?_)
  match a with
  | ⟨0, _⟩ => show (i 0).val = t.val / 8; omega
  | ⟨1, _⟩ => show (i 2).val = n.val; omega

/-! ## The blocks are the arguments' -/

theorem block_14 (c : Dev nD) (t : Fin cfg0.N) (n : Fin 1024) :
    (iblk m c 14 t : Vec Ideal S1x1x1024 .f32) (ix3 (0 : Fin 1) (0 : Fin 1) n) = (m ((c : Thread nD τ).loc main_arg14) : Vec Ideal S4x1024 .f32) (ix2 (batch t) n) := by
  have e : V m c main_v4 = broadcastInDim S4x1x1024 ![0, 2] bcast_S4x1024_S4x1x1024_0_2 (m ((c : Thread nD τ).loc main_arg14) : Vec Ideal S4x1024 .f32) := by rfl
  exact (congrFun e _).trans (batched_at _ _ t 0 n rfl rfl)

theorem block_16 (c : Dev nD) (t : Fin cfg0.N) (n : Fin 1024) :
    (iblk m c 16 t : Vec Ideal S1x1x1024 .f32) (ix3 (0 : Fin 1) (0 : Fin 1) n) = (m ((c : Thread nD τ).loc main_arg16) : Vec Ideal S4x1024 .f32) (ix2 (batch t) n) := by
  have e : V m c main_v6 = broadcastInDim S4x1x1024 ![0, 2] bcast_S4x1024_S4x1x1024_0_2 (m ((c : Thread nD τ).loc main_arg16) : Vec Ideal S4x1024 .f32) := by rfl
  exact (congrFun e _).trans (batched_at _ _ t 0 n rfl rfl)

theorem block_17 (c : Dev nD) (t : Fin cfg0.N) (n : Fin 1024) :
    (iblk m c 17 t : Vec Ideal S1x1x1024 .f32) (ix3 (0 : Fin 1) (0 : Fin 1) n) = (m ((c : Thread nD τ).loc main_arg17) : Vec Ideal S4x1024 .f32) (ix2 (batch t) n) := by
  have e : V m c main_v7 = broadcastInDim S4x1x1024 ![0, 2] bcast_S4x1024_S4x1x1024_0_2 (m ((c : Thread nD τ).loc main_arg17) : Vec Ideal S4x1024 .f32) := by rfl
  exact (congrFun e _).trans (batched_at _ _ t 0 n rfl rfl)

theorem block_12 (c : Dev nD) (t : Fin cfg0.N) (q : Fin 256) :
    (iblk m c 12 t : Vec Ideal S1x256 .f32) (ix2 (0 : Fin 1) q) = (m ((c : Thread nD τ).loc main_arg12) : Vec Ideal S256 .f32) (ix1 q) := by
  have e : V m c main_v1 = broadcastInDim S1x256 ![1] bcast_S256_S1x256_1 (m ((c : Thread nD τ).loc main_arg12) : Vec Ideal S256 .f32) := by rfl
  exact (congrFun e _).trans (congrArg (m ((c : Thread nD τ).loc main_arg12) : Vec Ideal S256 .f32) (flat _ q rfl))

theorem block_13 (c : Dev nD) (t : Fin cfg0.N) (q : Fin 256) :
    (iblk m c 13 t : Vec Ideal S1x256 .f32) (ix2 (0 : Fin 1) q) = (m ((c : Thread nD τ).loc main_arg13) : Vec Ideal S256 .f32) (ix1 q) := by
  have e : V m c main_v2 = broadcastInDim S1x256 ![1] bcast_S256_S1x256_1 (m ((c : Thread nD τ).loc main_arg13) : Vec Ideal S256 .f32) := by rfl
  exact (congrFun e _).trans (congrArg (m ((c : Thread nD τ).loc main_arg13) : Vec Ideal S256 .f32) (flat _ q rfl))

theorem block_15 (c : Dev nD) (t : Fin cfg0.N) (q : Fin 1024) :
    (iblk m c 15 t : Vec Ideal S1x1024 .f32) (ix2 (0 : Fin 1) q) = (m ((c : Thread nD τ).loc main_arg15) : Vec Ideal S1024 .f32) (ix1 q) := by
  have e : V m c main_v5 = broadcastInDim S1x1024 ![1] bcast_S1024_S1x1024_1 (m ((c : Thread nD τ).loc main_arg15) : Vec Ideal S1024 .f32) := by rfl
  exact (congrFun e _).trans (congrArg (m ((c : Thread nD τ).loc main_arg15) : Vec Ideal S1024 .f32) (flat _ q rfl))

theorem block_19 (c : Dev nD) (t : Fin cfg0.N) (q : Fin 32) :
    (iblk m c 19 t : Vec Ideal S1x32 .f32) (ix2 (0 : Fin 1) q) = (m ((c : Thread nD τ).loc main_arg19) : Vec Ideal S32 .f32) (ix1 q) := by
  have e : V m c main_v3 = broadcastInDim S1x32 ![1] bcast_S32_S1x32_1 (m ((c : Thread nD τ).loc main_arg19) : Vec Ideal S32 .f32) := by rfl
  exact (congrFun e _).trans (congrArg (m ((c : Thread nD τ).loc main_arg19) : Vec Ideal S32 .f32) (flat _ q rfl))

theorem block_10 (c : Dev nD) (t : Fin cfg0.N) (k n : Fin 1024) :
    (iblk m c 10 t : Vec Ideal S1024x1024 .bf16) (ix2 k n) = ((m ((c : Thread nD τ).loc main_arg10) : Vec Ideal S1024x1024 .f32) (ix2 k n) : EReal) := by
  have e : (V m c main_v0 : S1024x1024.Idx → EReal) = (m ((c : Thread nD τ).loc main_arg10) : Vec Ideal S1024x1024 .f32) := by rfl
  exact (congrFun e _).trans (congrArg ((m ((c : Thread nD τ).loc main_arg10) : Vec Ideal S1024x1024 .f32) : S1024x1024.Idx → EReal) (whole _ k n rfl rfl))

/-- A token of the arguments, and the weights among them. -/
abbrev tokens (c : Dev nD) (b : Fin 4) (r : Fin 4096) : TokenOutput.Token :=
  TokenOutput.tokenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg16)) (m ((c : Thread nD τ).loc main_arg17)) b r
abbrev held (c : Dev nD) : TokenOutput.Weights :=
  TokenOutput.weightsOf (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg18)) (m ((c : Thread nD τ).loc main_arg19))

theorem token_eq (c : Dev nD) (t : Fin cfg0.N) (p : Fin 512) :
    token (iblk m c 0 t) (iblk m c 1 t) (iblk m c 2 t) (iblk m c 3 t) (iblk m c 4 t) (iblk m c 5 t) (iblk m c 6 t) (iblk m c 7 t) (iblk m c 8 t) (iblk m c 9 t) (iblk m c 14 t) (iblk m c 16 t) (iblk m c 17 t) p = tokens m c (batch t) (row t p) := by
  unfold token tokens TokenOutput.tokenOf
  rw [TokenOutput.Token.mk.injEq]
  exact ⟨funext fun n => (congrFun (V_main_arg0 m c) _).trans (congrArg (m ((c : Thread nD τ).loc main_arg0) : Vec Ideal S4x4096x1024 .f32) (placed _ t 0 p n rfl rfl rfl)), funext fun n => (congrFun (V_main_arg1 m c) _).trans (congrArg (m ((c : Thread nD τ).loc main_arg1) : Vec Ideal S4x4096x256 .f32) (placed _ t 0 p n rfl rfl rfl)), funext fun n => (congrFun (V_main_arg2 m c) _).trans (congrArg (m ((c : Thread nD τ).loc main_arg2) : Vec Ideal S4x4096x256 .f32) (placed _ t 0 p n rfl rfl rfl)), funext fun n => (congrFun (V_main_arg3 m c) _).trans (congrArg (m ((c : Thread nD τ).loc main_arg3) : Vec Ideal S4x4096x256 .f32) (placed _ t 0 p n rfl rfl rfl)), funext fun n => (congrFun (V_main_arg4 m c) _).trans (congrArg (m ((c : Thread nD τ).loc main_arg4) : Vec Ideal S4x4096x256 .f32) (placed _ t 0 p n rfl rfl rfl)), funext fun n => (congrFun (V_main_arg5 m c) _).trans (congrArg (m ((c : Thread nD τ).loc main_arg5) : Vec Ideal S4x4096x256 .f32) (placed _ t 0 p n rfl rfl rfl)), funext fun n => (congrFun (V_main_arg6 m c) _).trans (congrArg (m ((c : Thread nD τ).loc main_arg6) : Vec Ideal S4x4096x256 .f32) (placed _ t 0 p n rfl rfl rfl)), funext fun n => (congrFun (V_main_arg7 m c) _).trans (congrArg (m ((c : Thread nD τ).loc main_arg7) : Vec Ideal S4x4096x256 .f32) (placed _ t 0 p n rfl rfl rfl)), funext fun n => (congrFun (V_main_arg8 m c) _).trans (congrArg (m ((c : Thread nD τ).loc main_arg8) : Vec Ideal S4x4096x256 .f32) (placed _ t 0 p n rfl rfl rfl)), funext fun n => (congrFun (V_main_arg9 m c) _).trans (congrArg (m ((c : Thread nD τ).loc main_arg9) : Vec Ideal S4x4096x512 .f32) (placed _ t 0 p n rfl rfl rfl)),
    funext fun n => block_14 m c t n, funext fun n => block_16 m c t n, funext fun n => block_17 m c t n⟩

theorem weights_eq (c : Dev nD) (t : Fin cfg0.N) : weights (iblk m c 10 t) (iblk m c 11 t) (iblk m c 12 t) (iblk m c 13 t) (iblk m c 15 t) (iblk m c 18 t) (iblk m c 19 t) = held m c := by
  unfold weights held TokenOutput.weightsOf
  rw [TokenOutput.Weights.mk.injEq]
  exact ⟨funext fun k => funext fun n => block_10 m c t k n, funext fun k => funext fun q => (congrFun (V_main_arg11 m c) _).trans (congrArg (m ((c : Thread nD τ).loc main_arg11) : Vec Ideal S64x256 .f32) (whole _ k q rfl rfl)),
    funext fun q => block_12 m c t q, funext fun q => block_13 m c t q, funext fun n => block_15 m c t n,
    funext fun k => funext fun e => (congrFun (V_main_arg18 m c) _).trans (congrArg (m ((c : Thread nD τ).loc main_arg18) : Vec Ideal S1024x32 .f32) (whole _ k e rfl rfl)), funext fun e => block_19 m c t e⟩

/-! ## The three results -/

abbrev leaving (c : Dev nD) : S4x4096x1024.Idx → EReal :=
  TokenOutput.leaving (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
abbrev readied (c : Dev nD) : S4x4096x8x128.Idx → EReal :=
  TokenOutput.readied (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
abbrev scored (c : Dev nD) : S4x4096x32.Idx → EReal :=
  TokenOutput.scored (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

section
variable (c : Dev nD) (hs : ∀ b r, (tokens m c b r).IsFinite) (hw : (held m c).IsFinite)
include hs hw

theorem left_20 (t : Fin cfg0.N) (z : Fin 1) (p : Fin 512) (n : Fin 1024) :
    ((dats m 0 c).after 20 t : Vec Ideal S1x512x1024 .f32) (ix3 z p n) = leaving m c (ix3 (batch t) (row t p) n) := by
  rw [after0_20]
  refine (out_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) z p n ((token_eq m c t p).symm ▸ hs _ _) ((weights_eq m c t).symm ▸ hw)).trans ?_
  rw [token_eq, weights_eq]
  rfl

theorem left_21 (t : Fin cfg0.N) (z : Fin 1) (p : Fin 512) (a : Fin 8) (b : Fin 128) :
    ((dats m 0 c).after 21 t : Vec Ideal S1x512x8x128 .f32) (ix4 z p a b) = readied m c (ix4 (batch t) (row t p) a b) := by
  rw [after0_21]
  refine (out_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) z p a b ((token_eq m c t p).symm ▸ hs _ _) ((weights_eq m c t).symm ▸ hw)).trans ?_
  rw [token_eq, weights_eq]
  rfl

theorem left_22 (t : Fin cfg0.N) (z : Fin 1) (p : Fin 512) (e : Fin 32) :
    ((dats m 0 c).after 22 t : Vec Ideal S1x512x32 .f32) (ix3 z p e) = scored m c (ix3 (batch t) (row t p) e) := by
  rw [after0_22]
  refine (out_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) z p e ((token_eq m c t p).symm ▸ hs _ _) ((weights_eq m c t).symm ▸ hw)).trans ?_
  rw [token_eq, weights_eq]
  rfl

theorem array_20 : (dats m 0 c).arrAt 20 cfg0.N = leaving m c :=
  (dats m 0 c).arrAt_eq_of_covers 20 (leaving m c) (by decide +kernel)
    (fun t _ (y : S1x512x1024.Idx) => (congrArg ((dats m 0 c).after 20 t : Vec Ideal S1x512x1024 .f32) (spelt y)).trans
      ((left_20 m c hs hw t _ _ _).trans (congrArg (leaving m c) (placed _ t (y 0) (y 1) (y 2) rfl rfl rfl)).symm))

theorem array_21 : (dats m 0 c).arrAt 21 cfg0.N = readied m c :=
  (dats m 0 c).arrAt_eq_of_covers 21 (readied m c) (by decide +kernel)
    (fun t _ (y : S1x512x8x128.Idx) => (congrArg ((dats m 0 c).after 21 t : Vec Ideal S1x512x8x128 .f32) (spelt' y)).trans
      ((left_21 m c hs hw t _ _ _ _).trans (congrArg (readied m c) (placed' _ t (y 0) (y 1) (y 2) (y 3) rfl rfl rfl rfl)).symm))

theorem array_22 : (dats m 0 c).arrAt 22 cfg0.N = scored m c :=
  (dats m 0 c).arrAt_eq_of_covers 22 (scored m c) (by decide +kernel)
    (fun t _ (y : S1x512x32.Idx) => (congrArg ((dats m 0 c).after 22 t : Vec Ideal S1x512x32 .f32) (spelt y)).trans
      ((left_22 m c hs hw t _ _ _).trans (congrArg (scored m c) (placed _ t (y 0) (y 1) (y 2) rfl rfl rfl)).symm))

end

/-- The run: the three results, and the arguments kept. -/
theorem run_result (ρ : Dev nD → PrngReg) (hs : ∀ c b r, (tokens m c b r).IsFinite) (hw : ∀ c, (held m c).IsFinite) :
    θ_run (defs (F := Ideal)) (onTc (τ := τ) (main (F := Ideal))) ⟨m, fun _ => 0, ρ⟩ fun r => ∀ c : Dev nD,
      r.2.mem ((c : Thread nD τ).loc main_v8_0) = leaving m c
      ∧ r.2.mem ((c : Thread nD τ).loc main_v8_1) = readied m c
      ∧ r.2.mem ((c : Thread nD τ).loc main_v8_2) = scored m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun _ h c => by
    obtain ⟨h0, h1, h2, hk⟩ := h c
    exact ⟨h0.trans (array_20 m c (hs c) (hw c)), h1.trans (array_21 m c (hs c) (hw c)), h2.trans (array_22 m c (hs c) (hw c)), hk⟩) (Value.run_blocks m ρ)

end Cert.OutprojIdeal.Blocks

end
-- ==== Proof.OutprojFinite.lean ====
/- What the output projection's precondition says: what the kernel splits is finite, over the extended reals. -/
module

public import proofs.«01_k».proof.Pre_split_rows_are_finite
public import proofs.«01_k».proof.Proof.OutprojSpec
public import Idealize.ShloMosaic.Lib.ReduceAll

@[expose] public section

set_option maxRecDepth 16384

noncomputable section

namespace Cert.Pre_split_rows_are_finite

open Idealize.ShloMosaic hiding ix1 ix2 ix3 ix4
open Idealize.ShloMosaic.ValueIdx (ix1 ix2 ix3 ix4)
open Cert.TokenOutput (Finite)

theorem facts : Facts where
  h_S_ := by decide
  bcast_S_S4x4096x256 := by decide
  reducesTo_S4x4096x256_S_d0_1_2 := by decide
  bcast_S_S64x256 := by decide
  reducesTo_S64x256_S_d0_1 := by decide
  bcast_S_S4x1024 := by decide
  reducesTo_S4x1024_S_d0_1 := by decide
  bcast_S_S1024 := by decide
  reducesTo_S1024_S_d0 := by decide
  bcast_S_S1024x32 := by decide
  reducesTo_S1024x32_S_d0_1 := by decide

theorem bits_top : Ideal.ofBits FTy.f32 0x7F800000#32 = ⊤ := by
  simp [Ideal.ofBits, Ideal.ieee]

theorem finite_of {x : EReal} (h : max x (-x) < ⊤) : Finite x := by
  obtain ⟨h1, h2⟩ := max_lt_iff.1 h
  refine ⟨x.toReal, (EReal.coe_toReal h1.ne fun e => ?_).symm⟩
  rw [e, EReal.neg_bot] at h2
  exact lt_irrefl _ h2

instance : Subsingleton S_.Idx := ⟨fun _ _ => funext fun a => a.elim0⟩

/-- One array's part of the predicate. -/
theorem part {S : Shape} {axes : List (Fin S.rank)} (a : FVec Ideal S .f32) (hb : S_.BroadcastsInDim S (![] : Fin 0 → Fin S.rank)) (hr : S.ReducesTo axes S_) (hu : 0 < S_.numel) (j : S_.Idx)
    (e : Host.reduce IntOp.andi (cmpf .olt (Host.absf a) (broadcastInDim S ![] hb (constant S_ .f32 0x7F800000#32))) (constantI S_ 1 1#1) hr hu j = 1#1) (i : S.Idx) : Finite (a i) := by
  have q := Host.reduce_andi_all _ _ _ _ j e i
  have q : BitVec.ofBool (decide (max (a i : EReal) (-(a i)) < Ideal.ofBits FTy.f32 0x7F800000#32)) = 1#1 := q
  rw [bits_top] at q
  have bit : ∀ b : Bool, BitVec.ofBool b = 1#1 ↔ b = true := by decide
  rw [bit, decide_eq_true_eq] at q
  exact finite_of q

variable [Facts]
open Facts

/-- The predicate says that every array it reads is finite. -/
theorem all_finite (A0 : FVec Ideal S4x4096x1024 .f32) (A1 : FVec Ideal S4x4096x256 .f32) (A2 : FVec Ideal S4x4096x256 .f32) (A3 : FVec Ideal S4x4096x256 .f32) (A4 : FVec Ideal S4x4096x256 .f32) (A5 : FVec Ideal S4x4096x256 .f32) (A6 : FVec Ideal S4x4096x256 .f32) (A7 : FVec Ideal S4x4096x256 .f32) (A8 : FVec Ideal S4x4096x256 .f32) (A9 : FVec Ideal S4x4096x512 .f32) (A10 : FVec Ideal S1024x1024 .f32) (A11 : FVec Ideal S64x256 .f32) (A12 : FVec Ideal S256 .f32) (A13 : FVec Ideal S256 .f32) (A14 : FVec Ideal S4x1024 .f32) (A15 : FVec Ideal S1024 .f32) (A16 : FVec Ideal S4x1024 .f32) (A17 : FVec Ideal S4x1024 .f32) (A18 : FVec Ideal S1024x32 .f32) (A19 : FVec Ideal S32 .f32)
    (e : fn (F := Ideal) A0 A1 A2 A3 A4 A5 A6 A7 A8 A9 A10 A11 A12 A13 A14 A15 A16 A17 A18 A19 = fun _ => 1#1) :
    (∀ i, Finite (A4 i)) ∧ (∀ i, Finite (A5 i)) ∧ (∀ i, Finite (A11 i)) ∧ (∀ i, Finite (A15 i)) ∧ (∀ i, Finite (A16 i)) ∧ (∀ i, Finite (A17 i)) ∧ (∀ i, Finite (A18 i)) := by
  have q := congrFun e (fun a => a.elim0)
  obtain ⟨q, e18⟩ := IntOp.andi_eq_one.1 q
  obtain ⟨q, e17⟩ := IntOp.andi_eq_one.1 q
  obtain ⟨q, e16⟩ := IntOp.andi_eq_one.1 q
  obtain ⟨q, e15⟩ := IntOp.andi_eq_one.1 q
  obtain ⟨q, e11⟩ := IntOp.andi_eq_one.1 q
  obtain ⟨q, e5⟩ := IntOp.andi_eq_one.1 q
  obtain ⟨_, e4⟩ := IntOp.andi_eq_one.1 q
  exact ⟨part A4 _ _ _ _ e4, part A5 _ _ _ _ e5, part A11 _ _ _ _ e11, part A15 _ _ _ _ e15, part A16 _ _ _ _ e16, part A17 _ _ _ _ e17, part A18 _ _ _ _ e18⟩

/-- So are the tokens and the weights made of them, where the kernel splits them. -/
theorem tokens_finite (A0 : FVec Ideal S4x4096x1024 .f32) (A1 : FVec Ideal S4x4096x256 .f32) (A2 : FVec Ideal S4x4096x256 .f32) (A3 : FVec Ideal S4x4096x256 .f32) (A4 : FVec Ideal S4x4096x256 .f32) (A5 : FVec Ideal S4x4096x256 .f32) (A6 : FVec Ideal S4x4096x256 .f32) (A7 : FVec Ideal S4x4096x256 .f32) (A8 : FVec Ideal S4x4096x256 .f32) (A9 : FVec Ideal S4x4096x512 .f32) (A10 : FVec Ideal S1024x1024 .f32) (A11 : FVec Ideal S64x256 .f32) (A12 : FVec Ideal S256 .f32) (A13 : FVec Ideal S256 .f32) (A14 : FVec Ideal S4x1024 .f32) (A15 : FVec Ideal S1024 .f32) (A16 : FVec Ideal S4x1024 .f32) (A17 : FVec Ideal S4x1024 .f32) (A18 : FVec Ideal S1024x32 .f32) (A19 : FVec Ideal S32 .f32)
    (e : fn (F := Ideal) A0 A1 A2 A3 A4 A5 A6 A7 A8 A9 A10 A11 A12 A13 A14 A15 A16 A17 A18 A19 = fun _ => 1#1) :
    (∀ b r, (TokenOutput.tokenOf A0 A1 A2 A3 A4 A5 A6 A7 A8 A9 A14 A16 A17 b r).IsFinite) ∧ (TokenOutput.weightsOf A10 A11 A12 A13 A15 A18 A19).IsFinite := by
  obtain ⟨h4, h5, h11, h15, h16, h17, h18⟩ := all_finite _ _ _ _ _ _ _ _ _ _ _ _ _ _ _ _ _ _ _ _ e
  exact ⟨fun b r => ⟨fun _ => h4 _, fun _ => h5 _, fun _ => h16 _, fun _ => h17 _⟩, ⟨fun _ _ => h11 _, fun _ => h15 _, fun _ _ => h18 _⟩⟩

end Cert.Pre_split_rows_are_finite

end
-- ==== Proof.OutprojReference.lean ====
/- The output projection's reference, over the extended reals: its operations in a few named pieces, each read at an element. -/
module

public import proofs.«01_k».proof.Proof.Gen.OutprojReferenceIdeal.Run
public import proofs.«01_k».proof.Proof.OutprojSpec
public import Idealize.ShloMosaic.Lib.ValueIdxCore

@[expose] public section

set_option maxRecDepth 16384

noncomputable section

namespace Cert.OutprojReferenceIdeal.Blocks

open Cert.OutprojReferenceIdeal Cert.OutprojReferenceIdeal.Gen
open Idealize.ShloMosaic hiding ix1 ix2 ix3 ix4
open Idealize.ShloMosaic.TcCoe
open Idealize.SL.Sem
open Idealize.ShloMosaic.ValueIdx (ix1 ix2 ix3 ix4)

/-! ## The pieces -/

/-- The first mixer's output, gated. -/
def first (A1 A2 A3 : FVec Ideal S4x4096x256 .f32) : FVec Ideal S4x4096x256 .f32 :=
  mulf (mulf A3 (mulf (broadcastInDim S4x4096x256 ![] bcast_S_S4x4096x256 (constant S_ .f32 0x3F000000#32)) (addf (broadcastInDim S4x4096x256 ![] bcast_S_S4x4096x256 (constant S_ .f32 0x3F800000#32)) (Host.tanh (mulf (broadcastInDim S4x4096x256 ![] bcast_S_S4x4096x256 (constant S_ .f32 0x3F4C422A#32))
    (addf A3 (mulf (broadcastInDim S4x4096x256 ![] bcast_S_S4x4096x256 (constant S_ .f32 0x3D372713#32)) (mulf (mulf A3 A3) A3)))))))) (addf A1 A2)

/-- The second mixer's output in heads of 64 channels, the heads' means, the heads less them and over their deviations. -/
def heads (A4 A5 : FVec Ideal S4x4096x256 .f32) : FVec Ideal S4x4096x4x64 .f32 := shapeCast _ (addf A4 A5) shapeCasts_S4x4096x256_S4x4096x4x64
def means (y : FVec Ideal S4x4096x4x64 .f32) : FVec Ideal S4x4096x4x1 .f32 :=
  Host.divf (broadcastInDim S4x4096x4x1 ![0, 1, 2] bcast_S4x4096x4_S4x4096x4x1_0_1_2 (Host.reduceAdd y (constant S_ .f32 0x00000000#32) reducesTo_S4x4096x4x64_S4x4096x4_d3 h_S_))
    (broadcastInDim S4x4096x4x1 ![] bcast_S_S4x4096x4x1 (constant S_ .f32 0x42800000#32))
def centred (y : FVec Ideal S4x4096x4x64 .f32) : FVec Ideal S4x4096x4x64 .f32 := subf y (broadcastInDim S4x4096x4x64 ![0, 1, 2, 3] bcast_S4x4096x4x1_S4x4096x4x64_0_1_2_3 (means y))
def normed (y : FVec Ideal S4x4096x4x64 .f32) (v : FVec Ideal S4x4096x4x1 .f32) : FVec Ideal S4x4096x256 .f32 :=
  shapeCast _ (mulf y (broadcastInDim S4x4096x4x64 ![0, 1, 2, 3] bcast_S4x4096x4x1_S4x4096x4x64_0_1_2_3
    (Host.rsqrt (addf v (broadcastInDim S4x4096x4x1 ![] bcast_S_S4x4096x4x1 (constant S_ .f32 0x3A27C5AC#32)))))) shapeCasts_S4x4096x4x64_S4x4096x256

/-- Its gate, and its output scaled and gated. -/
def gating (A8 : FVec Ideal S4x4096x256 .f32) (A11 : FVec Ideal S64x256 .f32) : FVec Ideal S4x4096x256 .f32 :=
  Host.dotGeneral dot_S4x4096x64_S64x256_S4x4096x256_2_0_01_1_n_n none (Host.divf (broadcastInDim S4x4096x64 ![] bcast_S_S4x4096x64 (constant S_ .f32 0x3F800000#32))
    (addf (broadcastInDim S4x4096x64 ![] bcast_S_S4x4096x64 (constant S_ .f32 0x3F800000#32)) (Host.exp (Host.negf (extractStridedSlice S4x4096x64 ![0, 0, 128] A8 slices_S4x4096x256_S4x4096x64_0_0_128))))) A11
def second (n : FVec Ideal S4x4096x256 .f32) (A6 A7 : FVec Ideal S4x4096x256 .f32) (A12 A13 : FVec Ideal S256 .f32) (g : FVec Ideal S4x4096x256 .f32) : FVec Ideal S4x4096x256 .f32 :=
  mulf (addf (addf (mulf n (broadcastInDim S4x4096x256 ![0, 1, 2] bcast_S1x1x256_S4x4096x256_0_1_2 (broadcastInDim S1x1x256 ![2] bcast_S256_S1x1x256_2 A12))) (broadcastInDim S4x4096x256 ![0, 1, 2] bcast_S1x1x256_S4x4096x256_0_1_2 (broadcastInDim S1x1x256 ![2] bcast_S256_S1x1x256_2 A13))) (addf A6 A7)) g

/-- The three mixers' outputs side by side, and the token with their projection added. -/
def joined (f s : FVec Ideal S4x4096x256 .f32) (A9 : FVec Ideal S4x4096x512 .f32) : FVec Ideal S4x4096x1024 .f32 :=
  concatenate S4x4096x1024 2 [⟨S4x4096x256, f⟩, ⟨S4x4096x256, s⟩, ⟨S4x4096x512, A9⟩] concatenates_S4x4096x256_S4x4096x256_S4x4096x512_S4x4096x1024_d2
def added (A0 : FVec Ideal S4x4096x1024 .f32) (A14 : FVec Ideal S4x1024 .f32) (j : FVec Ideal S4x4096x1024 .f32) (A10 : FVec Ideal S1024x1024 .f32) : FVec Ideal S4x4096x1024 .f32 :=
  addf A0 (mulf (broadcastInDim S4x4096x1024 ![0, 1, 2] bcast_S4x1x1024_S4x4096x1024_0_1_2 (broadcastInDim S4x1x1024 ![0, 2] bcast_S4x1024_S4x1x1024_0_2 A14))
    (Host.dotGeneral dot_S4x4096x1024_S1024x1024_S4x4096x1024_2_0_01_1_n_n none j A10))

/-- Every token's modulated row. -/
def modulated (X : FVec Ideal S4x4096x1024 .f32) (A1 : FVec Ideal S1024 .f32) (A2 A3 : FVec Ideal S4x1024 .f32) : FVec Ideal S4x4096x1024 .f32 :=
  addf (mulf (mulf (mulf X (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf X X) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 A1)))
      (broadcastInDim S4x4096x1024 ![0, 1, 2] bcast_S4x1x1024_S4x4096x1024_0_1_2 (addf (broadcastInDim S4x1x1024 ![] bcast_S_S4x1x1024 (constant S_ .f32 0x3F800000#32))
        (broadcastInDim S4x1x1024 ![0, 2] bcast_S4x1024_S4x1x1024_0_2 A3))))
    (broadcastInDim S4x4096x1024 ![0, 1, 2] bcast_S4x1x1024_S4x4096x1024_0_1_2 (broadcastInDim S4x1x1024 ![0, 2] bcast_S4x1024_S4x1x1024_0_2 A2))

/-- A token's row as eight of 128, and the experts' scores. -/
def rows (h : FVec Ideal S4x4096x1024 .f32) : FVec Ideal S4x4096x8x128 .f32 := shapeCast _ h shapeCasts_S4x4096x1024_S4x4096x8x128
def scores (h : FVec Ideal S4x4096x1024 .f32) (A18 : FVec Ideal S1024x32 .f32) (A19 : FVec Ideal S32 .f32) : FVec Ideal S4x4096x32 .f32 :=
  addf (Host.dotGeneral dot_S4x4096x1024_S1024x32_S4x4096x32_2_0_01_1_n_n none h A18)
    (broadcastInDim S4x4096x32 ![0, 1, 2] bcast_S1x1x32_S4x4096x32_0_1_2 (broadcastInDim S1x1x32 ![2] bcast_S32_S1x1x32_2 A19))

/-! ## Each at an element -/

theorem heads_at (A4 A5 : FVec Ideal S4x4096x256 .f32) (b : Fin 4) (r : Fin 4096) (h : Fin 4) (j : Fin 64) :
    heads A4 A5 (ix4 b r h j) = (A4 (ix3 b r (⟨h.val * 64 + j.val, by omega⟩ : Fin 256)) : EReal) + A5 (ix3 b r (⟨h.val * 64 + j.val, by omega⟩ : Fin 256)) := by
  pointwise [heads]
  rfl

theorem means_at (y : FVec Ideal S4x4096x4x64 .f32) (g : Fin 256 → EReal) (b : Fin 4) (r : Fin 4096) (hy : ∀ (h : Fin 4) (j : Fin 64), y (ix4 b r h j) = g ⟨h.val * 64 + j.val, by omega⟩)
    (h : Fin 4) (z : Fin 1) (q : Fin 256) (hq : q.val / 64 = h.val) : means y (ix4 b r h z) = TokenOutput.mean g q := by
  have e : means y (ix4 b r h z) = Ideal.div (∑ j : Fin 64, (y (ix4 b r h j) : EReal)) (Ideal.ofBits FTy.f32 0x42800000#32) := by
    pointwise [means]
    rfl
  rw [e]
  unfold TokenOutput.mean
  refine congrArg (fun v : EReal => Ideal.div v (Ideal.ofBits FTy.f32 0x42800000#32)) (Finset.sum_congr rfl fun j _ => (hy h j).trans (congrArg g (Fin.ext ?_)))
  dsimp only
  omega

theorem centred_at (y : FVec Ideal S4x4096x4x64 .f32) (g : Fin 256 → EReal) (b : Fin 4) (r : Fin 4096) (hy : ∀ (h : Fin 4) (j : Fin 64), y (ix4 b r h j) = g ⟨h.val * 64 + j.val, by omega⟩)
    (h : Fin 4) (j : Fin 64) : centred y (ix4 b r h j) = TokenOutput.centred g ⟨h.val * 64 + j.val, by omega⟩ := by
  have e : centred y (ix4 b r h j) = (y (ix4 b r h j) : EReal) - means y (ix4 b r h (0 : Fin 1)) := by
    pointwise [centred]
    rfl
  rw [e, hy, means_at y g b r hy h 0 ⟨h.val * 64 + j.val, by omega⟩ (by dsimp only; omega)]
  rfl

theorem normed_at (y : FVec Ideal S4x4096x4x64 .f32) (g : Fin 256 → EReal) (b : Fin 4) (r : Fin 4096) (hy : ∀ (h : Fin 4) (j : Fin 64), y (ix4 b r h j) = g ⟨h.val * 64 + j.val, by omega⟩)
    (q : Fin 256) : normed (centred y) (means (mulf (centred y) (centred y))) (ix3 b r q) = TokenOutput.normed g q := by
  have e : ∀ (y : FVec Ideal S4x4096x4x64 .f32) (v : FVec Ideal S4x4096x4x1 .f32), normed y v (ix3 b r q)
      = (y (ix4 b r (⟨q.val / 64, by omega⟩ : Fin 4) (⟨q.val % 64, by omega⟩ : Fin 64)) : EReal)
        * Ideal.rsqrt ((v (ix4 b r (⟨q.val / 64, by omega⟩ : Fin 4) (0 : Fin 1)) : EReal) + Ideal.ofBits FTy.f32 0x3A27C5AC#32) := fun y v => by
    pointwise [normed]
    rfl
  rw [e, centred_at y g b r hy, means_at (mulf (centred y) (centred y)) (fun k => TokenOutput.centred g k * TokenOutput.centred g k) b r
    (fun h j => congrArg₂ (fun a b : EReal => a * b) (centred_at y g b r hy h j) (centred_at y g b r hy h j)) _ 0 q rfl]
  unfold TokenOutput.normed
  refine congrArg (fun a : EReal => a * _) (congrArg (TokenOutput.centred g) (Fin.ext ?_))
  dsimp only
  omega

section
variable (A0 : FVec Ideal S4x4096x1024 .f32) (A1 A2 A3 A4 A5 A6 A7 A8 : FVec Ideal S4x4096x256 .f32) (A9 : FVec Ideal S4x4096x512 .f32) (A10 : FVec Ideal S1024x1024 .f32) (A11 : FVec Ideal S64x256 .f32)
  (A12 A13 : FVec Ideal S256 .f32) (A14 : FVec Ideal S4x1024 .f32) (A15 : FVec Ideal S1024 .f32) (A16 A17 : FVec Ideal S4x1024 .f32) (A18 : FVec Ideal S1024x32 .f32) (A19 : FVec Ideal S32 .f32) (b : Fin 4) (r : Fin 4096)

theorem first_at (q : Fin 256) : first A1 A2 A3 (ix3 b r q) = TokenOutput.first (TokenOutput.tokenOf A0 A1 A2 A3 A4 A5 A6 A7 A8 A9 A14 A16 A17 b r) q := by
  have e : first A1 A2 A3 (ix3 b r q) = (A3 (ix3 b r q) : EReal) * (Ideal.ofBits FTy.f32 0x3F000000#32 * (1 + Ideal.tanh (Ideal.ofBits FTy.f32 0x3F4C422A#32
      * ((A3 (ix3 b r q) : EReal) + Ideal.ofBits FTy.f32 0x3D372713#32 * ((A3 (ix3 b r q) : EReal) * A3 (ix3 b r q) * A3 (ix3 b r q)))))) * ((A1 (ix3 b r q) : EReal) + A2 (ix3 b r q)) := by
    pointwise [first]
  rw [e, mul_assoc (A3 (ix3 b r q) : EReal) (A3 (ix3 b r q)) (A3 (ix3 b r q))]
  rfl

theorem gating_at (q : Fin 256) : gating A8 A11 (ix3 b r q) = TokenOutput.gating (TokenOutput.tokenOf A0 A1 A2 A3 A4 A5 A6 A7 A8 A9 A14 A16 A17 b r) (TokenOutput.weightsOf A10 A11 A12 A13 A15 A18 A19) q := by
  pointwise [gating]
  rfl

theorem second_at (q : Fin 256) :
    second (normed (centred (heads A4 A5)) (means (mulf (centred (heads A4 A5)) (centred (heads A4 A5))))) A6 A7 A12 A13 (gating A8 A11) (ix3 b r q) = TokenOutput.second (TokenOutput.tokenOf A0 A1 A2 A3 A4 A5 A6 A7 A8 A9 A14 A16 A17 b r) (TokenOutput.weightsOf A10 A11 A12 A13 A15 A18 A19) q := by
  have e : ∀ n g : FVec Ideal S4x4096x256 .f32, second n A6 A7 A12 A13 g (ix3 b r q)
      = ((n (ix3 b r q) : EReal) * A12 (ix1 q) + A13 (ix1 q) + ((A6 (ix3 b r q) : EReal) + A7 (ix3 b r q))) * g (ix3 b r q) := fun n g => by
    pointwise [second]
    rfl
  rw [e, normed_at (heads A4 A5) (fun k => (A4 (ix3 b r k) : EReal) + A5 (ix3 b r k)) b r (heads_at A4 A5 b r),
    gating_at A0 A1 A2 A3 A4 A5 A6 A7 A8 A9 A10 A11 A12 A13 A14 A15 A16 A17 A18 A19 b r q, ← add_assoc]
  rfl

/-- The token with the projection added. -/
abbrev leaving : FVec Ideal S4x4096x1024 .f32 :=
  added A0 A14 (joined (first A1 A2 A3) (second (normed (centred (heads A4 A5)) (means (mulf (centred (heads A4 A5)) (centred (heads A4 A5))))) A6 A7 A12 A13 (gating A8 A11)) A9) A10

theorem joined_at (k : Fin 1024) :
    joined (first A1 A2 A3) (second (normed (centred (heads A4 A5)) (means (mulf (centred (heads A4 A5)) (centred (heads A4 A5))))) A6 A7 A12 A13 (gating A8 A11)) A9 (ix3 b r k)
      = TokenOutput.joined (TokenOutput.tokenOf A0 A1 A2 A3 A4 A5 A6 A7 A8 A9 A14 A16 A17 b r) (TokenOutput.weightsOf A10 A11 A12 A13 A15 A18 A19) k := by
  have e : ∀ f s : FVec Ideal S4x4096x256 .f32, joined f s A9 (ix3 b r k) = if h : k.val < 256 then (f (ix3 b r (⟨k.val, h⟩ : Fin 256)) : EReal)
      else if h' : k.val - 256 < 256 then (s (ix3 b r (⟨k.val - 256, h'⟩ : Fin 256)) : EReal) else A9 (ix3 b r (⟨k.val - 256 - 256, by omega⟩ : Fin 512)) := fun f s => by
    pointwise [joined]
    rfl
  rw [e]
  unfold TokenOutput.joined
  split
  · exact first_at A0 A1 A2 A3 A4 A5 A6 A7 A8 A9 A14 A16 A17 b r _
  · split
    · exact second_at A0 A1 A2 A3 A4 A5 A6 A7 A8 A9 A10 A11 A12 A13 A14 A15 A16 A17 A18 A19 b r _
    · rfl

theorem leaving_at (n : Fin 1024) : leaving A0 A1 A2 A3 A4 A5 A6 A7 A8 A9 A10 A11 A12 A13 A14 (ix3 b r n) = TokenOutput.left (TokenOutput.tokenOf A0 A1 A2 A3 A4 A5 A6 A7 A8 A9 A14 A16 A17 b r) (TokenOutput.weightsOf A10 A11 A12 A13 A15 A18 A19) n := by
  have e : ∀ j : FVec Ideal S4x4096x1024 .f32, added A0 A14 j A10 (ix3 b r n) = (A0 (ix3 b r n) : EReal) + A14 (ix2 b n) * ∑ k : Fin 1024, (j (ix3 b r k) : EReal) * A10 (ix2 k n) := fun j => by
    pointwise [added]
    rfl
  refine (e _).trans ?_
  rw [Finset.sum_congr rfl fun k _ => congrArg (fun a : EReal => a * A10 (ix2 k n)) (joined_at A0 A1 A2 A3 A4 A5 A6 A7 A8 A9 A10 A11 A12 A13 A14 A15 A16 A17 A18 A19 b r k)]
  rfl

theorem modulated_at (n : Fin 1024) :
    modulated (leaving A0 A1 A2 A3 A4 A5 A6 A7 A8 A9 A10 A11 A12 A13 A14) A15 A16 A17 (ix3 b r n) = TokenOutput.ready (TokenOutput.tokenOf A0 A1 A2 A3 A4 A5 A6 A7 A8 A9 A14 A16 A17 b r) (TokenOutput.weightsOf A10 A11 A12 A13 A15 A18 A19) n := by
  have e : ∀ X : FVec Ideal S4x4096x1024 .f32, modulated X A15 A16 A17 (ix3 b r n)
      = (X (ix3 b r n) : EReal) * Ideal.rsqrt (Ideal.div (∑ j : Fin 1024, (X (ix3 b r j) : EReal) * X (ix3 b r j)) (Ideal.ofBits FTy.f32 0x44800000#32) + Ideal.ofBits FTy.f32 0x358637BD#32)
        * A15 (ix1 n) * (1 + A17 (ix2 b n)) + A16 (ix2 b n) := fun X => by
    pointwise [modulated]
    rfl
  have h := fun j => leaving_at A0 A1 A2 A3 A4 A5 A6 A7 A8 A9 A10 A11 A12 A13 A14 A15 A16 A17 A18 A19 b r j
  refine (e _).trans ?_
  unfold TokenOutput.ready
  rw [h n, Finset.sum_congr rfl fun j _ => congrArg₂ (fun a b : EReal => a * b) (h j) (h j)]
  rfl

/-! ## The three results -/

theorem leaving_eq : leaving A0 A1 A2 A3 A4 A5 A6 A7 A8 A9 A10 A11 A12 A13 A14 = TokenOutput.leaving A0 A1 A2 A3 A4 A5 A6 A7 A8 A9 A10 A11 A12 A13 A14 A15 A16 A17 A18 A19 := by
  funext y
  rw [ValueIdx.eq_ix3 y]
  exact leaving_at A0 A1 A2 A3 A4 A5 A6 A7 A8 A9 A10 A11 A12 A13 A14 A15 A16 A17 A18 A19 (y 0) (y 1) (y 2)

theorem readied_eq : rows (modulated (leaving A0 A1 A2 A3 A4 A5 A6 A7 A8 A9 A10 A11 A12 A13 A14) A15 A16 A17) = TokenOutput.readied A0 A1 A2 A3 A4 A5 A6 A7 A8 A9 A10 A11 A12 A13 A14 A15 A16 A17 A18 A19 := by
  funext y
  have e : ∀ (h : FVec Ideal S4x4096x1024 .f32) (b : Fin 4) (r : Fin 4096) (p : Fin 8) (q : Fin 128), rows h (ix4 b r p q) = h (ix3 b r (TokenOutput.split p q)) := fun h b r p q => by
    pointwise [rows]
    rfl
  rw [ValueIdx.eq_ix4 y]
  exact (e _ (y 0) (y 1) (y 2) (y 3)).trans (modulated_at A0 A1 A2 A3 A4 A5 A6 A7 A8 A9 A10 A11 A12 A13 A14 A15 A16 A17 A18 A19 (y 0) (y 1) _)

theorem scored_eq : scores (modulated (leaving A0 A1 A2 A3 A4 A5 A6 A7 A8 A9 A10 A11 A12 A13 A14) A15 A16 A17) A18 A19 = TokenOutput.scored A0 A1 A2 A3 A4 A5 A6 A7 A8 A9 A10 A11 A12 A13 A14 A15 A16 A17 A18 A19 := by
  funext y
  have e : ∀ (h : FVec Ideal S4x4096x1024 .f32) (b : Fin 4) (r : Fin 4096) (e : Fin 32), scores h A18 A19 (ix3 b r e) = ∑ k : Fin 1024, (h (ix3 b r k) : EReal) * A18 (ix2 k e) + A19 (ix1 e) := fun h b r e => by
    pointwise [scores]
    rfl
  rw [ValueIdx.eq_ix3 y]
  refine (e _ (y 0) (y 1) (y 2)).trans ?_
  rw [Finset.sum_congr rfl fun k _ => congrArg (fun a : EReal => a * A18 (ix2 k (y 2))) (modulated_at A0 A1 A2 A3 A4 A5 A6 A7 A8 A9 A10 A11 A12 A13 A14 A15 A16 A17 A18 A19 (y 0) (y 1) k)]
  rfl

end

/-! ## The program's results -/

variable (m : (ℓ : Loc nD τ sig) → Buf (Elt Ideal) ℓ)

/-- The tokens of a run's arguments, as they leave. -/
abbrev tokens (c : Dev nD) : FVec Ideal S4x4096x1024 .f32 :=
  leaving (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

theorem result_58 (c : Dev nD) : Value.res_main_v58 m c = tokens m c := rfl

theorem result_80 (c : Dev nD) : Value.res_main_v80 m c = rows (modulated (tokens m c) (m ((c.tc : Thread nD τ).loc main_arg15)) (m ((c.tc : Thread nD τ).loc main_arg16)) (m ((c.tc : Thread nD τ).loc main_arg17))) := rfl

theorem result_84 (c : Dev nD) : Value.res_main_v84 m c = scores (modulated (tokens m c) (m ((c.tc : Thread nD τ).loc main_arg15)) (m ((c.tc : Thread nD τ).loc main_arg16)) (m ((c.tc : Thread nD τ).loc main_arg17))) (m ((c.tc : Thread nD τ).loc main_arg18)) (m ((c.tc : Thread nD τ).loc main_arg19)) := rfl

/-- The run: the three results, and the arguments kept. -/
theorem run_result (ρ : Dev nD → PrngReg) : θ_run (defs (F := Ideal)) (onTc (τ := τ) (main (F := Ideal))) ⟨m, fun _ => 0, ρ⟩ fun r => ∀ c : Dev nD,
      r.2.mem ((c.tc : Thread nD τ).loc main_v58)
        = TokenOutput.leaving (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v80)
        = TokenOutput.readied (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v84)
        = TokenOutput.scored (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => by
    obtain ⟨h0, h1, h2, hk⟩ := h c
    exact ⟨h0.trans ((result_58 m c).trans (leaving_eq _ _ _ _ _ _ _ _ _ _ _ _ _ _ _ _ _ _ _ _)), h1.trans ((result_80 m c).trans (readied_eq _ _ _ _ _ _ _ _ _ _ _ _ _ _ _ _ _ _ _ _)),
      h2.trans ((result_84 m c).trans (scored_eq _ _ _ _ _ _ _ _ _ _ _ _ _ _ _ _ _ _ _ _)), hk⟩) (Value.run m ρ)

end Cert.OutprojReferenceIdeal.Blocks

end
-- ==== Proof.lean ====
/- The claims of the four calls, put together. -/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Experts
public import proofs.«01_k».proof.Proof.Gen.ExpertsIdeal
public import proofs.«01_k».proof.Proof.Gen.ExpertsIdeal.Launch
public import proofs.«01_k».proof.Proof.ExpertsValue
public import proofs.«01_k».proof.Proof.Gen.ExpertsReferenceIdeal
public import proofs.«01_k».proof.Proof.Gen.ExpertsReferenceIdeal.Run
public import proofs.«01_k».proof.Proof.Gen.Inproj
public import proofs.«01_k».proof.Proof.Gen.InprojIdeal
public import proofs.«01_k».proof.Proof.Gen.InprojIdeal.Value
public import proofs.«01_k».proof.Proof.InprojResult
public import proofs.«01_k».proof.Proof.Gen.InprojReferenceIdeal
public import proofs.«01_k».proof.Proof.Gen.InprojReferenceIdeal.Run
public import proofs.«01_k».proof.Proof.Scatter
public import proofs.«01_k».proof.Proof.Reference
public import proofs.«01_k».proof.Proof.ExpertsReference
public import proofs.«01_k».proof.Proof.InprojReference
public import proofs.«01_k».proof.Proof.Gen.Outproj
public import proofs.«01_k».proof.Proof.Gen.OutprojIdeal
public import proofs.«01_k».proof.Proof.Gen.OutprojIdeal.Value
public import proofs.«01_k».proof.Proof.Gen.OutprojReferenceIdeal
public import proofs.«01_k».proof.Proof.Gen.OutprojReferenceIdeal.Run
public import proofs.«01_k».proof.Proof.OutprojResult
public import proofs.«01_k».proof.Proof.OutprojFinite
public import proofs.«01_k».proof.Proof.OutprojReference

@[expose] public section

noncomputable section

namespace Cert.Proof

open Idealize.ShloMosaic Idealize.SL.Sem

instance : Cert.Pre_dest_is_placement.Facts := Cert.Pre_dest_is_placement.facts

/-- The two printed programs call the same kernel function. -/
theorem bodies_eq {F : FTy → Type} [FloatOps F] : Cert.Kernel.defs₀ (F := F) = Cert.KernelIdeal.defs₀ (F := F) := by
  unfold Cert.Kernel.defs₀ Cert.KernelIdeal.defs₀
  refine congrArg (fun f => Defs.onTc f) ?_
  funext l a
  match l, a with
  | 0, (t, s) => rfl

theorem defs_eq {F : FTy → Type} [FloatOps F] : Cert.Kernel.defs (F := F) = Cert.KernelIdeal.defs (F := F) :=
  congrArg (fun d => Pipeline.defs Cert.KernelIdeal.pcfgs d) bodies_eq

/-- A run of the one program's text is a run of the other's. -/
theorem run_kernel {F : FTy → Type} [FloatOps F] (s) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun D => θ_run D (onTc (τ := Cert.KernelIdeal.τ) (Cert.KernelIdeal.main (F := F))) s Q) defs_eq).mpr h

/-- The kernel runs, keeps its arguments and leaves every counter at zero: its run, at the machine's floats. -/
theorem frame_kernel : Cert.quiescent_Kernel := fun m ρ hp =>
  run_kernel _ _ ((θ_run Cert.KernelIdeal.defs _ _).mono (fun _ h => ⟨fun c => (h.1 c).2, h.2⟩)
    (Cert.KernelIdeal.Dispatch.run_scattered (F := Bits) m ρ fun c => Cert.Pre_dest_is_placement.placement _ _ _ (hp c)))

/-- The same of the kernel over the extended reals. -/
theorem frame_kernelIdeal : Cert.quiescent_KernelIdeal := fun m ρ hp =>
  (θ_run Cert.KernelIdeal.defs _ _).mono (fun _ h => ⟨fun c => (h.1 c).2, h.2⟩)
    (Cert.KernelIdeal.Dispatch.run_scattered (F := Ideal) m ρ fun c => Cert.Pre_dest_is_placement.placement _ _ _ (hp c))

/-- The same of the reference, at the machine's floats and over the extended reals. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same array: every destination's row holds its token's row, every other row what it held. -/
theorem algebraic : Cert.algebraic_KernelIdeal_ReferenceIdeal := fun m ρ m' ρ' hp hm => by
  have hd := fun c => Cert.Pre_dest_is_placement.placement _ _ _ (hp c)
  refine ⟨_, (θ_run Cert.KernelIdeal.defs _ _).mono (fun _ h => h.1) (Cert.KernelIdeal.Dispatch.run_scattered (F := Ideal) m ρ hd),
    (θ_run Cert.ReferenceIdeal.defs _ _).mono (fun _ h c => ⟨(h c).1.trans ?_, (h c).2⟩) (Cert.ReferenceIdeal.Value.run (F := Ideal) m' ρ')⟩
  rw [Cert.ReferenceIdeal.Slots.result_eq, (hm c).1, (hm c).2.1, (hm c).2.2]
  exact Cert.ReferenceIdeal.Slots.dispatched_eq (hd c) _ _

/-- The reference's result at the machine's floats, in the same names. -/
theorem words_eq (m : (ℓ : Loc Cert.Reference.nD Cert.Reference.τ Cert.Reference.sig) → Buf (Elt Bits) ℓ) (c : Dev Cert.Reference.nD) :
    Cert.Reference.Value.res_main_v22 m c = Cert.ReferenceIdeal.Slots.dispatched (F := Bits) (m ((c.tc : Thread Cert.Reference.nD Cert.Reference.τ).loc Cert.Reference.main_arg0))
      (m ((c.tc : Thread Cert.Reference.nD Cert.Reference.τ).loc Cert.Reference.main_arg1)) (m ((c.tc : Thread Cert.Reference.nD Cert.Reference.τ).loc Cert.Reference.main_arg2)) := rfl

/-- And the same words: the kernel copies rows, and so does the reference. -/
theorem bitexact : Cert.bitexact_Kernel_Reference := fun m ρ m' ρ' hp hm => by
  have hd := fun c => Cert.Pre_dest_is_placement.placement _ _ _ (hp c)
  refine ⟨_, run_kernel _ _ ((θ_run Cert.KernelIdeal.defs _ _).mono (fun _ h => h.1) (Cert.KernelIdeal.Dispatch.run_scattered (F := Bits) m ρ hd)),
    (θ_run Cert.Reference.defs _ _).mono (fun _ h c => ⟨(h c).1.trans ?_, (h c).2⟩) (Cert.Reference.Value.run (F := Bits) m' ρ')⟩
  rw [words_eq, (hm c).1, (hm c).2.1, (hm c).2.2]
  exact Cert.ReferenceIdeal.Slots.dispatched_eq (hd c) _ _

/-! ## The experts -/

instance : Cert.Pre_blocks_have_experts.Facts := Cert.Pre_blocks_have_experts.facts

theorem experts_bodies_eq {F : FTy → Type} [FloatOps F] : Cert.Experts.defs₀ (F := F) = Cert.ExpertsIdeal.defs₀ (F := F) := by
  unfold Cert.Experts.defs₀ Cert.ExpertsIdeal.defs₀
  refine congrArg (fun f => Defs.onTc f) ?_
  funext l a
  match l, a with
  | 0, (t, s) => rfl

theorem experts_defs_eq {F : FTy → Type} [FloatOps F] : Cert.Experts.defs (F := F) = Cert.ExpertsIdeal.defs (F := F) :=
  congrArg (fun d => Pipeline.defs Cert.ExpertsIdeal.pcfgs d) experts_bodies_eq

set_option maxHeartbeats 4000000 in
theorem run_experts {F : FTy → Type} [FloatOps F] (s) (Q)
    (h : θ_run (Cert.ExpertsIdeal.defs (F := F)) (onTc (τ := Cert.ExpertsIdeal.τ) (Cert.ExpertsIdeal.main (F := F))) s Q) :
    θ_run (Cert.Experts.defs (F := F)) (onTc (τ := Cert.Experts.τ) (Cert.Experts.main (F := F))) s Q :=
  (congrArg (fun D => θ_run D (onTc (τ := Cert.ExpertsIdeal.τ) (Cert.ExpertsIdeal.main (F := F))) s Q) experts_defs_eq).mpr h

theorem frame_experts : Cert.quiescent_Experts := fun m ρ hp =>
  run_experts _ _ ((θ_run Cert.ExpertsIdeal.defs _ _).mono (fun _ h => ⟨fun c => (h.1 c).2, h.2⟩)
    (Cert.ExpertsIdeal.Blocks.run_result (F := Bits) m ρ (Cert.ExpertsIdeal.Blocks.ok_of_experts (F := Bits) m fun t =>
      (congrArg BitVec.toNat (Cert.ExpertsIdeal.Blocks.expert_launched (F := Bits) m 0 t)).trans_lt
        (Cert.Pre_blocks_have_experts.experts _ _ _ _ _ _ _ (hp 0) t))))

theorem frame_expertsIdeal : Cert.quiescent_ExpertsIdeal := fun m ρ hp =>
  (θ_run Cert.ExpertsIdeal.defs _ _).mono (fun _ h => ⟨fun c => (h.1 c).2, h.2⟩)
    (Cert.ExpertsIdeal.Blocks.run_result (F := Ideal) m ρ (Cert.ExpertsIdeal.Blocks.ok_of_experts (F := Ideal) m fun t =>
      (congrArg BitVec.toNat (Cert.ExpertsIdeal.Blocks.expert_launched (F := Ideal) m 0 t)).trans_lt
        (Cert.Pre_blocks_have_experts.experts _ _ _ _ _ _ _ (hp 0) t)))

theorem frame_expertsReferenceIdeal : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- Every row of a block in use leaves through the block's expert, and the other rows are zero: in the kernel and in the reference. -/
theorem algebraic_experts : Cert.algebraic_ExpertsIdeal_ExpertsReferenceIdeal := fun m ρ m' ρ' hp hm => by
  have he : ∀ t, (Cert.ExpertsIdeal.Blocks.expert m t).toNat < 32 := fun t =>
    (congrArg BitVec.toNat (Cert.ExpertsIdeal.Blocks.expert_launched (F := Ideal) m 0 t)).trans_lt
      (Cert.Pre_blocks_have_experts.experts _ _ _ _ _ _ _ (hp 0) t)
  have hO := Cert.ExpertsIdeal.Blocks.ok_of_experts m he
  refine ⟨_, (θ_run Cert.ExpertsIdeal.defs _ _).mono (fun _ h => h.1) (Cert.ExpertsIdeal.Blocks.run_result (F := Ideal) m ρ hO),
    (θ_run Cert.ExpertsReferenceIdeal.defs _ _).mono (fun _ h c => ⟨(h c).1.trans ?_, (h c).2⟩) (Cert.ExpertsReferenceIdeal.Value.run (F := Ideal) m' ρ')⟩
  obtain ⟨h0, h1, h2, h3, h4, h5, h6⟩ := hm c
  funext i
  have ei : i = ValueIdx.ix3 (i 0) (i 1) (i 2) := ValueIdx.eq_ix3 i
  rw [ei]
  refine (Cert.ExpertsReferenceIdeal.Blocks.result_layered m' c ?_ _ _ _).trans ?_
  · intro t
    rw [h0]
    exact Cert.Pre_blocks_have_experts.experts _ _ _ _ _ _ _ (hp c) t
  · refine Eq.trans ?_ (Cert.ExpertsIdeal.Blocks.result_layered m hO c he _ _ _).symm
    rw [h0, h1, h2, h3, h4, h5, h6]
    refine congrArg₂ (fun e n => ExpertNetwork.layered e n _ _ _ _ _ _ _ _) ?_ (Cert.ExpertsIdeal.Blocks.inUse_launched m c).symm
    funext t
    refine Eq.trans ?_ (Cert.ExpertsIdeal.Blocks.expert_launched m c (t 0)).symm
    exact congrArg (m ((c.tc : Thread Cert.ExpertsIdeal.nD Cert.ExpertsIdeal.τ).loc Cert.ExpertsIdeal.main_arg0) : Cert.ExpertsIdeal.S304.Idx → BitVec 32) (ValueIdx.eq_ix1 t)

/-! ## The tokens' projections -/

set_option maxHeartbeats 4000000 in
theorem inproj_bodies_eq {F : FTy → Type} [FloatOps F] : Cert.Inproj.defs₀ (F := F) = Cert.InprojIdeal.defs₀ (F := F) := by
  unfold Cert.Inproj.defs₀ Cert.InprojIdeal.defs₀
  refine congrArg (fun f => Defs.onTc f) ?_
  funext l a
  match l, a with
  | 0, (t, s) => rfl

theorem inproj_defs_eq {F : FTy → Type} [FloatOps F] : Cert.Inproj.defs (F := F) = Cert.InprojIdeal.defs (F := F) :=
  congrArg (fun d => Pipeline.defs Cert.InprojIdeal.pcfgs d) inproj_bodies_eq

set_option maxHeartbeats 4000000 in
theorem run_inproj {F : FTy → Type} [FloatOps F] (s) (Q)
    (h : θ_run (Cert.InprojIdeal.defs (F := F)) (onTc (τ := Cert.InprojIdeal.τ) (Cert.InprojIdeal.main (F := F))) s Q) :
    θ_run (Cert.Inproj.defs (F := F)) (onTc (τ := Cert.Inproj.τ) (Cert.Inproj.main (F := F))) s Q :=
  (congrArg (fun D => θ_run D (onTc (τ := Cert.InprojIdeal.τ) (Cert.InprojIdeal.main (F := F))) s Q) inproj_defs_eq).mpr h

theorem frame_inproj : Cert.quiescent_Inproj := fun m ρ _ => run_inproj _ _ (Cert.InprojIdeal.Gen.frame (F := Bits) m ρ)

theorem frame_inprojIdeal : Cert.quiescent_InprojIdeal := fun m ρ _ => Cert.InprojIdeal.Gen.frame (F := Ideal) m ρ

theorem frame_inprojReferenceIdeal : Cert.quiescent_InprojReferenceIdeal := fun m ρ _ =>
  (θ_run Cert.InprojReferenceIdeal.defs _ _).mono (fun r h => ⟨fun c => (h c).2.2.2.2.2.2.2.2, sem_eq_zero_of_no_sems (by decide) r.2⟩)
    (Cert.InprojReferenceIdeal.Value.run (F := Ideal) m ρ)

/-- The kernel's eight results are the reference's: the same convolutions, shifts and columns of the same product. -/
theorem algebraic_inproj : Cert.algebraic_InprojIdeal_InprojReferenceIdeal := fun m ρ m' ρ' _ hm => by
  refine ⟨_, _, _, _, _, _, _, _, Cert.InprojIdeal.Blocks.run_result m ρ,
    (θ_run Cert.InprojReferenceIdeal.defs _ _).mono (fun _ h c => ?_) (Cert.InprojReferenceIdeal.Blocks.run_result m' ρ')⟩
  obtain ⟨h0, h1, h2, h3, h4, h5, h6, h7⟩ := hm c
  obtain ⟨r0, r1, r2, r3, r4, r5, r6, r7, hk⟩ := h c
  rw [h0, h1, h2, h3, h4, h5, h6] at r0 r1
  rw [h0, h1, h2, h3, h4] at r2 r5 r6 r7
  rw [h0, h1, h2, h3, h4, h7] at r3 r4
  exact ⟨r0, r1, r2, r3, r4, r5, r6, r7, hk⟩

/-! ## The output projection -/

instance : Cert.Pre_split_rows_are_finite.Facts := Cert.Pre_split_rows_are_finite.facts

set_option maxHeartbeats 4000000 in
theorem outproj_bodies_eq {F : FTy → Type} [FloatOps F] : Cert.Outproj.defs₀ (F := F) = Cert.OutprojIdeal.defs₀ (F := F) := by
  unfold Cert.Outproj.defs₀ Cert.OutprojIdeal.defs₀
  refine congrArg (fun f => Defs.onTc f) ?_
  funext l a
  match l, a with
  | 0, (t, s) => rfl

set_option maxHeartbeats 4000000 in
theorem outproj_defs_eq {F : FTy → Type} [FloatOps F] : Cert.Outproj.defs (F := F) = Cert.OutprojIdeal.defs (F := F) :=
  congrArg (fun d => Pipeline.defs Cert.OutprojIdeal.pcfgs d) outproj_bodies_eq

set_option maxHeartbeats 4000000 in
theorem run_outproj {F : FTy → Type} [FloatOps F] (s) (Q)
    (h : θ_run (Cert.OutprojIdeal.defs (F := F)) (onTc (τ := Cert.OutprojIdeal.τ) (Cert.OutprojIdeal.main (F := F))) s Q) :
    θ_run (Cert.Outproj.defs (F := F)) (onTc (τ := Cert.Outproj.τ) (Cert.Outproj.main (F := F))) s Q :=
  (congrArg (fun D => θ_run D (onTc (τ := Cert.OutprojIdeal.τ) (Cert.OutprojIdeal.main (F := F))) s Q) outproj_defs_eq).mpr h

theorem frame_outproj : Cert.quiescent_Outproj := fun m ρ _ => run_outproj _ _ (Cert.OutprojIdeal.Gen.frame (F := Bits) m ρ)

theorem frame_outprojIdeal : Cert.quiescent_OutprojIdeal := fun m ρ _ => Cert.OutprojIdeal.Gen.frame (F := Ideal) m ρ

/-- The same said of the runs that the value claim is of. -/
theorem frame_outprojIdeal_finite : Cert.quiescent_OutprojIdeal_pre_split_rows_are_finite := fun m ρ _ => Cert.OutprojIdeal.Gen.frame (F := Ideal) m ρ

theorem frame_outprojReferenceIdeal : Cert.quiescent_OutprojReferenceIdeal := fun m ρ _ =>
  (θ_run Cert.OutprojReferenceIdeal.defs _ _).mono (fun r h => ⟨fun c => (h c).2.2.2, sem_eq_zero_of_no_sems (by decide) r.2⟩)
    (Cert.OutprojReferenceIdeal.Value.run (F := Ideal) m ρ)

theorem frame_outprojReferenceIdeal_finite : Cert.quiescent_OutprojReferenceIdeal_pre_split_rows_are_finite := fun m ρ _ =>
  frame_outprojReferenceIdeal m ρ trivial

set_option maxHeartbeats 4000000 in
/-- The kernel's three results are the reference's: with what it splits finite, the parts it splits a product's factors into add up to them. -/
theorem algebraic_outproj : Cert.algebraic_OutprojIdeal_OutprojReferenceIdeal_pre_split_rows_are_finite := fun m ρ m' ρ' hp hm => by
  have hf := fun c => Cert.Pre_split_rows_are_finite.tokens_finite _ _ _ _ _ _ _ _ _ _ _ _ _ _ _ _ _ _ _ _ (hp c)
  refine ⟨_, _, _, Cert.OutprojIdeal.Blocks.run_result m ρ (fun c => (hf c).1) (fun c => (hf c).2),
    (θ_run Cert.OutprojReferenceIdeal.defs _ _).mono (fun _ h c => ?_) (Cert.OutprojReferenceIdeal.Blocks.run_result m' ρ')⟩
  obtain ⟨h0, h1, h2, h3, h4, h5, h6, h7, h8, h9, h10, h11, h12, h13, h14, h15, h16, h17, h18, h19⟩ := hm c
  obtain ⟨r0, r1, r2, hk⟩ := h c
  rw [h0, h1, h2, h3, h4, h5, h6, h7, h8, h9, h10, h11, h12, h13, h14, h15, h16, h17, h18, h19] at r0 r1 r2
  exact ⟨r0, r1, r2, hk⟩

theorem claim : Cert.Claim :=
  ⟨Cert.Kernel.Gen.facts, Cert.KernelIdeal.Gen.facts, Cert.Reference.Gen.facts, Cert.ReferenceIdeal.Gen.facts,
    Cert.Experts.Gen.facts, Cert.ExpertsIdeal.Gen.facts, Cert.ExpertsReferenceIdeal.Gen.facts,
    Cert.Inproj.Gen.facts, Cert.InprojIdeal.Gen.facts, Cert.InprojReferenceIdeal.Gen.facts,
    Cert.Outproj.Gen.facts, Cert.OutprojIdeal.Gen.facts, Cert.OutprojReferenceIdeal.Gen.facts,
    Cert.Pre_dest_is_placement.facts, Cert.Pre_blocks_have_experts.facts, Cert.Pre_split_rows_are_finite.facts,
    frame_kernel, frame_kernelIdeal, frame_reference, frame_referenceIdeal, frame_experts, frame_expertsIdeal, frame_expertsReferenceIdeal,
    frame_inproj, frame_inprojIdeal, frame_inprojReferenceIdeal,
    frame_outproj, frame_outprojIdeal, frame_outprojIdeal_finite, frame_outprojReferenceIdeal, frame_outprojReferenceIdeal_finite,
    trivial, algebraic, bitexact, trivial, algebraic_experts, trivial, algebraic_inproj, trivial, algebraic_outproj⟩

end Cert.Proof

end
